-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x3x224x224 : Shape := ⟨4, ![128, 3, 224, 224]⟩
abbrev S96x3x11x11 : Shape := ⟨4, ![96, 3, 11, 11]⟩
abbrev S96 : Shape := ⟨1, ![96]⟩
abbrev S256x96x5x5 : Shape := ⟨4, ![256, 96, 5, 5]⟩
abbrev S256 : Shape := ⟨1, ![256]⟩
abbrev S384x256x3x3 : Shape := ⟨4, ![384, 256, 3, 3]⟩
abbrev S384 : Shape := ⟨1, ![384]⟩
abbrev S384x384x3x3 : Shape := ⟨4, ![384, 384, 3, 3]⟩
abbrev S256x384x3x3 : Shape := ⟨4, ![256, 384, 3, 3]⟩
abbrev S4096x9216 : Shape := ⟨2, ![4096, 9216]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩
abbrev S128x3x228x256 : Shape := ⟨4, ![128, 3, 228, 256]⟩
abbrev S128x3x57x4x64x4 : Shape := ⟨6, ![128, 3, 57, 4, 64, 4]⟩
abbrev S128x4x4x3x57x64 : Shape := ⟨6, ![128, 4, 4, 3, 57, 64]⟩
abbrev S128x4x12x3648 : Shape := ⟨4, ![128, 4, 12, 3648]⟩
abbrev S128x4x16x3714 : Shape := ⟨4, ![128, 4, 16, 3714]⟩
abbrev S96x3x11x12 : Shape := ⟨4, ![96, 3, 11, 12]⟩
abbrev S96x3x11x3x4 : Shape := ⟨5, ![96, 3, 11, 3, 4]⟩
abbrev S11x3x4x3x96 : Shape := ⟨5, ![11, 3, 4, 3, 96]⟩
abbrev S11x3x12x96 : Shape := ⟨4, ![11, 3, 12, 96]⟩
abbrev S11x3x16x128 : Shape := ⟨4, ![11, 3, 16, 128]⟩
abbrev S528x128 : Shape := ⟨2, ![528, 128]⟩
abbrev S128x128 : Shape := ⟨2, ![128, 128]⟩
abbrev S128 : Shape := ⟨1, ![128]⟩
abbrev S1x128 : Shape := ⟨2, ![1, 128]⟩
abbrev S128x27x27x128 : Shape := ⟨4, ![128, 27, 27, 128]⟩
abbrev S1x4x16x3714 : Shape := ⟨4, ![1, 4, 16, 3714]⟩
abbrev S1x27x27x128 : Shape := ⟨4, ![1, 27, 27, 128]⟩
abbrev S1x1x16x3584 : Shape := ⟨4, ![1, 1, 16, 3584]⟩
abbrev S16x3584 : Shape := ⟨2, ![16, 3584]⟩
abbrev S528x3584 : Shape := ⟨2, ![528, 3584]⟩
abbrev S3584x128 : Shape := ⟨2, ![3584, 128]⟩
abbrev S56x64x128 : Shape := ⟨3, ![56, 64, 128]⟩
abbrev S28x2x64x128 : Shape := ⟨4, ![28, 2, 64, 128]⟩
abbrev S27x1x64x128 : Shape := ⟨4, ![27, 1, 64, 128]⟩
abbrev S27x64x128 : Shape := ⟨3, ![27, 64, 128]⟩
abbrev S27x32x2x128 : Shape := ⟨4, ![27, 32, 2, 128]⟩
abbrev S27x27x1x128 : Shape := ⟨4, ![27, 27, 1, 128]⟩
abbrev S27x27x128 : Shape := ⟨3, ![27, 27, 128]⟩
abbrev S5x5x96x256 : Shape := ⟨4, ![5, 5, 96, 256]⟩
abbrev S5x5x128x256 : Shape := ⟨4, ![5, 5, 128, 256]⟩
abbrev S5x640x256 : Shape := ⟨3, ![5, 640, 256]⟩
abbrev S256x256 : Shape := ⟨2, ![256, 256]⟩
abbrev S1x256 : Shape := ⟨2, ![1, 256]⟩
abbrev S128x16x16x256 : Shape := ⟨4, ![128, 16, 16, 256]⟩
abbrev S1x16x16x256 : Shape := ⟨4, ![1, 16, 16, 256]⟩
abbrev S2x27x128 : Shape := ⟨3, ![2, 27, 128]⟩
abbrev S29x27x128 : Shape := ⟨3, ![29, 27, 128]⟩
abbrev S3x27x128 : Shape := ⟨3, ![3, 27, 128]⟩
abbrev S32x27x128 : Shape := ⟨3, ![32, 27, 128]⟩
abbrev S32x2x128 : Shape := ⟨3, ![32, 2, 128]⟩
abbrev S32x29x128 : Shape := ⟨3, ![32, 29, 128]⟩
abbrev S32x3x128 : Shape := ⟨3, ![32, 3, 128]⟩
abbrev S32x32x128 : Shape := ⟨3, ![32, 32, 128]⟩
abbrev S1024x128 : Shape := ⟨2, ![1024, 128]⟩
abbrev S992x128 : Shape := ⟨2, ![992, 128]⟩
abbrev S992x640 : Shape := ⟨2, ![992, 640]⟩
abbrev S864x640 : Shape := ⟨2, ![864, 640]⟩
abbrev S1x640x256 : Shape := ⟨3, ![1, 640, 256]⟩
abbrev S640x256 : Shape := ⟨2, ![640, 256]⟩
abbrev S864x256 : Shape := ⟨2, ![864, 256]⟩
abbrev S27x32x256 : Shape := ⟨3, ![27, 32, 256]⟩
abbrev S1x32x256 : Shape := ⟨3, ![1, 32, 256]⟩
abbrev S28x32x256 : Shape := ⟨3, ![28, 32, 256]⟩
abbrev S14x2x32x256 : Shape := ⟨4, ![14, 2, 32, 256]⟩
abbrev S13x1x32x256 : Shape := ⟨4, ![13, 1, 32, 256]⟩
abbrev S13x32x256 : Shape := ⟨3, ![13, 32, 256]⟩
abbrev S13x16x2x256 : Shape := ⟨4, ![13, 16, 2, 256]⟩
abbrev S13x13x1x256 : Shape := ⟨4, ![13, 13, 1, 256]⟩
abbrev S13x13x256 : Shape := ⟨3, ![13, 13, 256]⟩
abbrev S1x13x256 : Shape := ⟨3, ![1, 13, 256]⟩
abbrev S14x13x256 : Shape := ⟨3, ![14, 13, 256]⟩
abbrev S2x13x256 : Shape := ⟨3, ![2, 13, 256]⟩
abbrev S16x13x256 : Shape := ⟨3, ![16, 13, 256]⟩
abbrev S16x1x256 : Shape := ⟨3, ![16, 1, 256]⟩
abbrev S16x14x256 : Shape := ⟨3, ![16, 14, 256]⟩
abbrev S16x2x256 : Shape := ⟨3, ![16, 2, 256]⟩
abbrev S16x16x256 : Shape := ⟨3, ![16, 16, 256]⟩
abbrev S3x3x256x384 : Shape := ⟨4, ![3, 3, 256, 384]⟩
abbrev S3x768x384 : Shape := ⟨3, ![3, 768, 384]⟩
abbrev S3x3x384x384 : Shape := ⟨4, ![3, 3, 384, 384]⟩
abbrev S3x1152x384 : Shape := ⟨3, ![3, 1152, 384]⟩
abbrev S3x3x384x256 : Shape := ⟨4, ![3, 3, 384, 256]⟩
abbrev S3x1152x256 : Shape := ⟨3, ![3, 1152, 256]⟩
abbrev S1x384 : Shape := ⟨2, ![1, 384]⟩
abbrev S128x256x36 : Shape := ⟨3, ![128, 256, 36]⟩
abbrev S4x16x16x256 : Shape := ⟨4, ![4, 16, 16, 256]⟩
abbrev S4x256x36 : Shape := ⟨3, ![4, 256, 36]⟩
abbrev S240x256 : Shape := ⟨2, ![240, 256]⟩
abbrev S240x768 : Shape := ⟨2, ![240, 768]⟩
abbrev S208x768 : Shape := ⟨2, ![208, 768]⟩
abbrev S1x768x384 : Shape := ⟨3, ![1, 768, 384]⟩
abbrev S768x384 : Shape := ⟨2, ![768, 384]⟩
abbrev S208x384 : Shape := ⟨2, ![208, 384]⟩
abbrev S13x16x384 : Shape := ⟨3, ![13, 16, 384]⟩
abbrev S1x16x1 : Shape := ⟨3, ![1, 16, 1]⟩
abbrev S1x16x384 : Shape := ⟨3, ![1, 16, 384]⟩
abbrev S14x16x384 : Shape := ⟨3, ![14, 16, 384]⟩
abbrev S2x16x384 : Shape := ⟨3, ![2, 16, 384]⟩
abbrev S16x16x384 : Shape := ⟨3, ![16, 16, 384]⟩
abbrev S16x1x384 : Shape := ⟨3, ![16, 1, 384]⟩
abbrev S16x17x384 : Shape := ⟨3, ![16, 17, 384]⟩
abbrev S16x2x384 : Shape := ⟨3, ![16, 2, 384]⟩
abbrev S16x19x384 : Shape := ⟨3, ![16, 19, 384]⟩
abbrev S256x384 : Shape := ⟨2, ![256, 384]⟩
abbrev S240x384 : Shape := ⟨2, ![240, 384]⟩
abbrev S240x1152 : Shape := ⟨2, ![240, 1152]⟩
abbrev S208x1152 : Shape := ⟨2, ![208, 1152]⟩
abbrev S1x1152x384 : Shape := ⟨3, ![1, 1152, 384]⟩
abbrev S1152x384 : Shape := ⟨2, ![1152, 384]⟩
abbrev S1x1152x256 : Shape := ⟨3, ![1, 1152, 256]⟩
abbrev S1152x256 : Shape := ⟨2, ![1152, 256]⟩
abbrev S208x256 : Shape := ⟨2, ![208, 256]⟩
abbrev S13x16x256 : Shape := ⟨3, ![13, 16, 256]⟩
abbrev S1x16x256 : Shape := ⟨3, ![1, 16, 256]⟩
abbrev S14x16x256 : Shape := ⟨3, ![14, 16, 256]⟩
abbrev S7x2x16x256 : Shape := ⟨4, ![7, 2, 16, 256]⟩
abbrev S6x1x16x256 : Shape := ⟨4, ![6, 1, 16, 256]⟩
abbrev S6x16x256 : Shape := ⟨3, ![6, 16, 256]⟩
abbrev S6x8x2x256 : Shape := ⟨4, ![6, 8, 2, 256]⟩
abbrev S6x6x1x256 : Shape := ⟨4, ![6, 6, 1, 256]⟩
abbrev S6x6x256 : Shape := ⟨3, ![6, 6, 256]⟩
abbrev S36x256 : Shape := ⟨2, ![36, 256]⟩
abbrev S256x36 : Shape := ⟨2, ![256, 36]⟩
abbrev S1x256x36 : Shape := ⟨3, ![1, 256, 36]⟩
abbrev S128x9216 : Shape := ⟨2, ![128, 9216]⟩
abbrev S1x4096 : Shape := ⟨2, ![1, 4096]⟩
abbrev S128x4096 : Shape := ⟨2, ![128, 4096]⟩
abbrev S512x9216 : Shape := ⟨2, ![512, 9216]⟩
abbrev S1x512 : Shape := ⟨2, ![1, 512]⟩
abbrev S128x512 : Shape := ⟨2, ![128, 512]⟩
abbrev S512x4096 : Shape := ⟨2, ![512, 4096]⟩
abbrev S1x1000 : Shape := ⟨2, ![1, 1000]⟩
abbrev S128x1000 : Shape := ⟨2, ![128, 1000]⟩

abbrev nBuf : Space → Nat
  | .hbm => 87
  | .vmem => 42
  | .smem => 0
  | _ => 0

abbrev bufTy : (tb : Table) → Fin (tcTables nBuf tb) → BufTy
  | .hbm, ⟨0, _⟩ => ⟨S128x3x224x224, .f32⟩
  | .hbm, ⟨1, _⟩ => ⟨S96x3x11x11, .f32⟩
  | .hbm, ⟨2, _⟩ => ⟨S96, .f32⟩
  | .hbm, ⟨3, _⟩ => ⟨S256x96x5x5, .f32⟩
  | .hbm, ⟨4, _⟩ => ⟨S256, .f32⟩
  | .hbm, ⟨5, _⟩ => ⟨S384x256x3x3, .f32⟩
  | .hbm, ⟨6, _⟩ => ⟨S384, .f32⟩
  | .hbm, ⟨7, _⟩ => ⟨S384x384x3x3, .f32⟩
  | .hbm, ⟨8, _⟩ => ⟨S384, .f32⟩
  | .hbm, ⟨9, _⟩ => ⟨S256x384x3x3, .f32⟩
  | .hbm, ⟨10, _⟩ => ⟨S256, .f32⟩
  | .hbm, ⟨11, _⟩ => ⟨S4096x9216, .f32⟩
  | .hbm, ⟨12, _⟩ => ⟨S4096, .f32⟩
  | .hbm, ⟨13, _⟩ => ⟨S4096x4096, .f32⟩
  | .hbm, ⟨14, _⟩ => ⟨S4096, .f32⟩
  | .hbm, ⟨15, _⟩ => ⟨S1000x4096, .f32⟩
  | .hbm, ⟨16, _⟩ => ⟨S1000, .f32⟩
  | .hbm, ⟨17, _⟩ => ⟨S_, .i32⟩
  | .hbm, ⟨18, _⟩ => ⟨S_, .f32⟩
  | .hbm, ⟨19, _⟩ => ⟨S128x3x228x256, .f32⟩
  | .hbm, ⟨20, _⟩ => ⟨S128x3x57x4x64x4, .f32⟩
  | .hbm, ⟨21, _⟩ => ⟨S128x4x4x3x57x64, .f32⟩
  | .hbm, ⟨22, _⟩ => ⟨S128x4x12x3648, .f32⟩
  | .hbm, ⟨23, _⟩ => ⟨S_, .i32⟩
  | .hbm, ⟨24, _⟩ => ⟨S_, .f32⟩
  | .hbm, ⟨25, _⟩ => ⟨S128x4x16x3714, .f32⟩
  | .hbm, ⟨26, _⟩ => ⟨S_, .i32⟩
  | .hbm, ⟨27, _⟩ => ⟨S_, .f32⟩
  | .hbm, ⟨28, _⟩ => ⟨S96x3x11x12, .f32⟩
  | .hbm, ⟨29, _⟩ => ⟨S96x3x11x3x4, .f32⟩
  | .hbm, ⟨30, _⟩ => ⟨S11x3x4x3x96, .f32⟩
  | .hbm, ⟨31, _⟩ => ⟨S11x3x12x96, .f32⟩
  | .hbm, ⟨32, _⟩ => ⟨S_, .i32⟩
  | .hbm, ⟨33, _⟩ => ⟨S_, .f32⟩
  | .hbm, ⟨34, _⟩ => ⟨S11x3x16x128, .f32⟩
  | .hbm, ⟨35, _⟩ => ⟨S528x128, .f32⟩
  | .hbm, ⟨36, _⟩ => ⟨S528x128, .bf16⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i1⟩
  | .hbm, ⟨44, _⟩ => ⟨S128x128, .bf16⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S128x27x27x128, .bf16⟩
  | .hbm, ⟨50, _⟩ => ⟨S5x5x96x256, .f32⟩
  | .hbm, ⟨51, _⟩ => ⟨S_, .i32⟩
  | .hbm, ⟨52, _⟩ => ⟨S_, .f32⟩
  | .hbm, ⟨53, _⟩ => ⟨S5x5x128x256, .f32⟩
  | .hbm, ⟨54, _⟩ => ⟨S5x640x256, .f32⟩
  | .hbm, ⟨55, _⟩ => ⟨S5x640x256, .bf16⟩
  | .hbm, ⟨56, _⟩ => ⟨S256x256, .i32⟩
  | .hbm, ⟨57, _⟩ => ⟨S256x256, .i32⟩
  | .hbm, ⟨58, _⟩ => ⟨S256x256, .i32⟩
  | .hbm, ⟨59, _⟩ => ⟨S256x256, .i32⟩
  | .hbm, ⟨60, _⟩ => ⟨S_, .i32⟩
  | .hbm, ⟨61, _⟩ => ⟨S256x256, .i32⟩
  | .hbm, ⟨62, _⟩ => ⟨S256x256, .i1⟩
  | .hbm, ⟨63, _⟩ => ⟨S256x256, .bf16⟩
  | .hbm, ⟨64, _⟩ => ⟨S1x256, .f32⟩
  | .hbm, ⟨65, _⟩ => ⟨S128x16x16x256, .bf16⟩
  | .hbm, ⟨66, _⟩ => ⟨S3x3x256x384, .f32⟩
  | .hbm, ⟨67, _⟩ => ⟨S3x768x384, .f32⟩
  | .hbm, ⟨68, _⟩ => ⟨S3x768x384, .bf16⟩
  | .hbm, ⟨69, _⟩ => ⟨S3x3x384x384, .f32⟩
  | .hbm, ⟨70, _⟩ => ⟨S3x1152x384, .f32⟩
  | .hbm, ⟨71, _⟩ => ⟨S3x1152x384, .bf16⟩
  | .hbm, ⟨72, _⟩ => ⟨S3x3x384x256, .f32⟩
  | .hbm, ⟨73, _⟩ => ⟨S3x1152x256, .f32⟩
  | .hbm, ⟨74, _⟩ => ⟨S3x1152x256, .bf16⟩
  | .hbm, ⟨75, _⟩ => ⟨S1x384, .f32⟩
  | .hbm, ⟨76, _⟩ => ⟨S1x384, .f32⟩
  | .hbm, ⟨77, _⟩ => ⟨S1x256, .f32⟩
  | .hbm, ⟨78, _⟩ => ⟨S128x256x36, .bf16⟩
  | .hbm, ⟨79, _⟩ => ⟨S128x9216, .bf16⟩
  | .hbm, ⟨80, _⟩ => ⟨S128x9216, .f32⟩
  | .hbm, ⟨81, _⟩ => ⟨S1x4096, .f32⟩
  | .hbm, ⟨82, _⟩ => ⟨S128x4096, .f32⟩
  | .hbm, ⟨83, _⟩ => ⟨S1x4096, .f32⟩
  | .hbm, ⟨84, _⟩ => ⟨S128x4096, .f32⟩
  | .hbm, ⟨85, _⟩ => ⟨S1x1000, .f32⟩
  | .hbm, ⟨86, _⟩ => ⟨S128x1000, .f32⟩
  | .local _ .vmem, ⟨0, _⟩ => ⟨S1x4x16x3714, .f32⟩
  | .local _ .vmem, ⟨1, _⟩ => ⟨S1x4x16x3714, .f32⟩
  | .local _ .vmem, ⟨2, _⟩ => ⟨S528x128, .bf16⟩
  | .local _ .vmem, ⟨3, _⟩ => ⟨S1x128, .f32⟩
  | .local _ .vmem, ⟨4, _⟩ => ⟨S128x128, .bf16⟩
  | .local _ .vmem, ⟨5, _⟩ => ⟨S1x27x27x128, .bf16⟩
  | .local _ .vmem, ⟨6, _⟩ => ⟨S1x27x27x128, .bf16⟩
  | .local _ .vmem, ⟨7, _⟩ => ⟨S1x27x27x128, .bf16⟩
  | .local _ .vmem, ⟨8, _⟩ => ⟨S1x27x27x128, .bf16⟩
  | .local _ .vmem, ⟨9, _⟩ => ⟨S5x640x256, .bf16⟩
  | .local _ .vmem, ⟨10, _⟩ => ⟨S1x256, .f32⟩
  | .local _ .vmem, ⟨11, _⟩ => ⟨S256x256, .bf16⟩
  | .local _ .vmem, ⟨12, _⟩ => ⟨S1x16x16x256, .bf16⟩
  | .local _ .vmem, ⟨13, _⟩ => ⟨S1x16x16x256, .bf16⟩
  | .local _ .vmem, ⟨14, _⟩ => ⟨S4x16x16x256, .bf16⟩
  | .local _ .vmem, ⟨15, _⟩ => ⟨S4x16x16x256, .bf16⟩
  | .local _ .vmem, ⟨16, _⟩ => ⟨S3x768x384, .bf16⟩
  | .local _ .vmem, ⟨17, _⟩ => ⟨S1x384, .f32⟩
  | .local _ .vmem, ⟨18, _⟩ => ⟨S3x1152x384, .bf16⟩
  | .local _ .vmem, ⟨19, _⟩ => ⟨S1x384, .f32⟩
  | .local _ .vmem, ⟨20, _⟩ => ⟨S3x1152x256, .bf16⟩
  | .local _ .vmem, ⟨21, _⟩ => ⟨S1x256, .f32⟩
  | .local _ .vmem, ⟨22, _⟩ => ⟨S4x256x36, .bf16⟩
  | .local _ .vmem, ⟨23, _⟩ => ⟨S4x256x36, .bf16⟩
  | .local _ .vmem, ⟨24, _⟩ => ⟨S128x9216, .f32⟩
  | .local _ .vmem, ⟨25, _⟩ => ⟨S512x9216, .f32⟩
  | .local _ .vmem, ⟨26, _⟩ => ⟨S512x9216, .f32⟩
  | .local _ .vmem, ⟨27, _⟩ => ⟨S1x512, .f32⟩
  | .local _ .vmem, ⟨28, _⟩ => ⟨S1x512, .f32⟩
  | .local _ .vmem, ⟨29, _⟩ => ⟨S128x512, .f32⟩
  | .local _ .vmem, ⟨30, _⟩ => ⟨S128x512, .f32⟩
  | .local _ .vmem, ⟨31, _⟩ => ⟨S128x4096, .f32⟩
  | .local _ .vmem, ⟨32, _⟩ => ⟨S512x4096, .f32⟩
  | .local _ .vmem, ⟨33, _⟩ => ⟨S512x4096, .f32⟩
  | .local _ .vmem, ⟨34, _⟩ => ⟨S1x512, .f32⟩
  | .local _ .vmem, ⟨35, _⟩ => ⟨S1x512, .f32⟩
  | .local _ .vmem, ⟨36, _⟩ => ⟨S128x512, .f32⟩
  | .local _ .vmem, ⟨37, _⟩ => ⟨S128x512, .f32⟩
  | .local _ .vmem, ⟨38, _⟩ => ⟨S128x4096, .f32⟩
  | .local _ .vmem, ⟨39, _⟩ => ⟨S1000x4096, .f32⟩
  | .local _ .vmem, ⟨40, _⟩ => ⟨S1x1000, .f32⟩
  | .local _ .vmem, ⟨41, _⟩ => ⟨S128x1000, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_v4 : Ref sig .tc := ⟨.hbm, 25, rfl⟩
abbrev main_c_1 : Ref sig .tc := ⟨.hbm, 26, rfl⟩
abbrev main_call2_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_call3_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_call4_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_call5_v0 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc5_sem0_0 : DmaSem sig := 38
abbrev cc5_sem1_0 : DmaSem sig := 39
abbrev cc5_sem2_0 : DmaSem sig := 40
abbrev cc5_sem3_0 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x16x3714 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S528x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x27x27x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x27x27x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x640x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x16x16x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4x16x16x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x768x384 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x1152x384 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x1152x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4x256x36 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S128x9216 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x9216 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S128x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S512x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S128x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S128x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1000x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x1000 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S128x1000 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]
-- ==== ReferenceIdeal.lean ====
abbrev S128x3x224x224 : Shape := ⟨4, ![128, 3, 224, 224]⟩
abbrev S96x3x11x11 : Shape := ⟨4, ![96, 3, 11, 11]⟩
abbrev S96 : Shape := ⟨1, ![96]⟩
abbrev S256x96x5x5 : Shape := ⟨4, ![256, 96, 5, 5]⟩
abbrev S256 : Shape := ⟨1, ![256]⟩
abbrev S384x256x3x3 : Shape := ⟨4, ![384, 256, 3, 3]⟩
abbrev S384 : Shape := ⟨1, ![384]⟩
abbrev S384x384x3x3 : Shape := ⟨4, ![384, 384, 3, 3]⟩
abbrev S256x384x3x3 : Shape := ⟨4, ![256, 384, 3, 3]⟩
abbrev S4096x9216 : Shape := ⟨2, ![4096, 9216]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩
abbrev S128x3x228x228 : Shape := ⟨4, ![128, 3, 228, 228]⟩
abbrev S55 : Shape := ⟨1, ![55]⟩
abbrev S55x1 : Shape := ⟨2, ![55, 1]⟩
abbrev S11 : Shape := ⟨1, ![11]⟩
abbrev S1x11 : Shape := ⟨2, ![1, 11]⟩
abbrev S55x11 : Shape := ⟨2, ![55, 11]⟩
abbrev S55x11x1 : Shape := ⟨3, ![55, 11, 1]⟩
abbrev S128x3x55x11x228 : Shape := ⟨5, ![128, 3, 55, 11, 228]⟩
abbrev S128x3x55x11x55x11 : Shape := ⟨6, ![128, 3, 55, 11, 55, 11]⟩
abbrev S96x128x55x55 : Shape := ⟨4, ![96, 128, 55, 55]⟩
abbrev S128x96x55x55 : Shape := ⟨4, ![128, 96, 55, 55]⟩
abbrev S1x96x1x1 : Shape := ⟨4, ![1, 96, 1, 1]⟩
abbrev S128x100x55x55 : Shape := ⟨4, ![128, 100, 55, 55]⟩
abbrev S128x96x27x27 : Shape := ⟨4, ![128, 96, 27, 27]⟩
abbrev S128x96x31x31 : Shape := ⟨4, ![128, 96, 31, 31]⟩
abbrev S27 : Shape := ⟨1, ![27]⟩
abbrev S27x1 : Shape := ⟨2, ![27, 1]⟩
abbrev S5 : Shape := ⟨1, ![5]⟩
abbrev S1x5 : Shape := ⟨2, ![1, 5]⟩
abbrev S27x5 : Shape := ⟨2, ![27, 5]⟩
abbrev S27x5x1 : Shape := ⟨3, ![27, 5, 1]⟩
abbrev S128x96x27x5x31 : Shape := ⟨5, ![128, 96, 27, 5, 31]⟩
abbrev S128x96x27x5x27x5 : Shape := ⟨6, ![128, 96, 27, 5, 27, 5]⟩
abbrev S256x128x27x27 : Shape := ⟨4, ![256, 128, 27, 27]⟩
abbrev S128x256x27x27 : Shape := ⟨4, ![128, 256, 27, 27]⟩
abbrev S1x256x1x1 : Shape := ⟨4, ![1, 256, 1, 1]⟩
abbrev S128x260x27x27 : Shape := ⟨4, ![128, 260, 27, 27]⟩
abbrev S128x256x13x13 : Shape := ⟨4, ![128, 256, 13, 13]⟩
abbrev S128x256x15x15 : Shape := ⟨4, ![128, 256, 15, 15]⟩
abbrev S13 : Shape := ⟨1, ![13]⟩
abbrev S13x1 : Shape := ⟨2, ![13, 1]⟩
abbrev S3 : Shape := ⟨1, ![3]⟩
abbrev S1x3 : Shape := ⟨2, ![1, 3]⟩
abbrev S13x3 : Shape := ⟨2, ![13, 3]⟩
abbrev S13x3x1 : Shape := ⟨3, ![13, 3, 1]⟩
abbrev S128x256x13x3x15 : Shape := ⟨5, ![128, 256, 13, 3, 15]⟩
abbrev S128x256x13x3x13x3 : Shape := ⟨6, ![128, 256, 13, 3, 13, 3]⟩
abbrev S384x128x13x13 : Shape := ⟨4, ![384, 128, 13, 13]⟩
abbrev S128x384x13x13 : Shape := ⟨4, ![128, 384, 13, 13]⟩
abbrev S1x384x1x1 : Shape := ⟨4, ![1, 384, 1, 1]⟩
abbrev S128x384x15x15 : Shape := ⟨4, ![128, 384, 15, 15]⟩
abbrev S128x384x13x3x15 : Shape := ⟨5, ![128, 384, 13, 3, 15]⟩
abbrev S128x384x13x3x13x3 : Shape := ⟨6, ![128, 384, 13, 3, 13, 3]⟩
abbrev S256x128x13x13 : Shape := ⟨4, ![256, 128, 13, 13]⟩
abbrev S128x256x6x6 : Shape := ⟨4, ![128, 256, 6, 6]⟩
abbrev S128x9216 : Shape := ⟨2, ![128, 9216]⟩
abbrev S9216x4096 : Shape := ⟨2, ![9216, 4096]⟩
abbrev S128x4096 : Shape := ⟨2, ![128, 4096]⟩
abbrev S1x4096 : Shape := ⟨2, ![1, 4096]⟩
abbrev S4096x1000 : Shape := ⟨2, ![4096, 1000]⟩
abbrev S128x1000 : Shape := ⟨2, ![128, 1000]⟩
abbrev S1x1000 : Shape := ⟨2, ![1, 1000]⟩

abbrev nBuf : Space → Nat
  | .hbm => 342
  | .vmem => 0
  | .smem => 0
  | _ => 0

abbrev hbmTy0_0 (i : Nat) : BufTy := match i % 128 with
  | 0 => ⟨S128x3x224x224, .f32⟩
  | 1 => ⟨S96x3x11x11, .f32⟩
  | 2 => ⟨S96, .f32⟩
  | 3 => ⟨S256x96x5x5, .f32⟩
  | 4 => ⟨S256, .f32⟩
  | 5 => ⟨S384x256x3x3, .f32⟩
  | 6 => ⟨S384, .f32⟩
  | 7 => ⟨S384x384x3x3, .f32⟩
  | 8 => ⟨S384, .f32⟩
  | 9 => ⟨S256x384x3x3, .f32⟩
  | 10 => ⟨S256, .f32⟩
  | 11 => ⟨S4096x9216, .f32⟩
  | 12 => ⟨S4096, .f32⟩
  | 13 => ⟨S4096x4096, .f32⟩
  | 14 => ⟨S4096, .f32⟩
  | 15 => ⟨S1000x4096, .f32⟩
  | 16 => ⟨S1000, .f32⟩
  | 17 => ⟨S_, .i32⟩
  | 18 => ⟨S_, .f32⟩
  | 19 => ⟨S128x3x228x228, .f32⟩
  | 20 => ⟨S55, .i32⟩
  | 21 => ⟨S55x1, .i32⟩
  | 22 => ⟨S_, .i32⟩
  | 23 => ⟨S55x1, .i32⟩
  | 24 => ⟨S55x1, .i32⟩
  | 25 => ⟨S11, .i32⟩
  | 26 => ⟨S1x11, .i32⟩
  | 27 => ⟨S55x11, .i32⟩
  | 28 => ⟨S55x11, .i32⟩
  | 29 => ⟨S55x11, .i32⟩
  | 30 => ⟨S55, .i32⟩
  | 31 => ⟨S55x1, .i32⟩
  | 32 => ⟨S_, .i32⟩
  | 33 => ⟨S55x1, .i32⟩
  | 34 => ⟨S55x1, .i32⟩
  | 35 => ⟨S11, .i32⟩
  | 36 => ⟨S1x11, .i32⟩
  | 37 => ⟨S55x11, .i32⟩
  | 38 => ⟨S55x11, .i32⟩
  | 39 => ⟨S55x11, .i32⟩
  | 40 => ⟨S_, .i32⟩
  | 41 => ⟨S55x11, .i32⟩
  | 42 => ⟨S55x11, .i1⟩
  | 43 => ⟨S_, .i32⟩
  | 44 => ⟨S55x11, .i32⟩
  | 45 => ⟨S55x11, .i32⟩
  | 46 => ⟨S55x11, .i32⟩
  | 47 => ⟨S55x11x1, .i32⟩
  | 48 => ⟨S128x3x55x11x228, .f32⟩
  | 49 => ⟨S_, .i32⟩
  | 50 => ⟨S55x11, .i32⟩
  | 51 => ⟨S55x11, .i1⟩
  | 52 => ⟨S_, .i32⟩
  | 53 => ⟨S55x11, .i32⟩
  | 54 => ⟨S55x11, .i32⟩
  | 55 => ⟨S55x11, .i32⟩
  | 56 => ⟨S55x11x1, .i32⟩
  | 57 => ⟨S128x3x55x11x55x11, .f32⟩
  | 58 => ⟨S96x128x55x55, .f32⟩
  | 59 => ⟨S128x96x55x55, .f32⟩
  | 60 => ⟨S1x96x1x1, .f32⟩
  | 61 => ⟨S128x96x55x55, .f32⟩
  | 62 => ⟨S128x96x55x55, .f32⟩
  | 63 => ⟨S_, .f32⟩
  | 64 => ⟨S128x96x55x55, .f32⟩
  | 65 => ⟨S128x96x55x55, .f32⟩
  | 66 => ⟨S128x96x55x55, .f32⟩
  | 67 => ⟨S_, .i32⟩
  | 68 => ⟨S_, .f32⟩
  | 69 => ⟨S128x100x55x55, .f32⟩
  | 70 => ⟨S128x96x55x55, .f32⟩
  | 71 => ⟨S128x96x55x55, .f32⟩
  | 72 => ⟨S128x96x55x55, .f32⟩
  | 73 => ⟨S128x96x55x55, .f32⟩
  | 74 => ⟨S128x96x55x55, .f32⟩
  | 75 => ⟨S128x96x55x55, .f32⟩
  | 76 => ⟨S128x96x55x55, .f32⟩
  | 77 => ⟨S128x96x55x55, .f32⟩
  | 78 => ⟨S128x96x55x55, .f32⟩
  | 79 => ⟨S_, .f32⟩
  | 80 => ⟨S128x96x55x55, .f32⟩
  | 81 => ⟨S128x96x55x55, .f32⟩
  | 82 => ⟨S_, .f32⟩
  | 83 => ⟨S128x96x55x55, .f32⟩
  | 84 => ⟨S128x96x55x55, .f32⟩
  | 85 => ⟨S_, .f32⟩
  | 86 => ⟨S128x96x55x55, .f32⟩
  | 87 => ⟨S128x96x55x55, .f32⟩
  | 88 => ⟨S128x96x55x55, .f32⟩
  | 89 => ⟨S_, .f32⟩
  | 90 => ⟨S_, .f32⟩
  | 91 => ⟨S128x96x27x27, .f32⟩
  | 92 => ⟨S_, .i32⟩
  | 93 => ⟨S_, .f32⟩
  | 94 => ⟨S128x96x31x31, .f32⟩
  | 95 => ⟨S27, .i32⟩
  | 96 => ⟨S27x1, .i32⟩
  | 97 => ⟨S_, .i32⟩
  | 98 => ⟨S27x1, .i32⟩
  | 99 => ⟨S27x1, .i32⟩
  | 100 => ⟨S5, .i32⟩
  | 101 => ⟨S1x5, .i32⟩
  | 102 => ⟨S27x5, .i32⟩
  | 103 => ⟨S27x5, .i32⟩
  | 104 => ⟨S27x5, .i32⟩
  | 105 => ⟨S27, .i32⟩
  | 106 => ⟨S27x1, .i32⟩
  | 107 => ⟨S_, .i32⟩
  | 108 => ⟨S27x1, .i32⟩
  | 109 => ⟨S27x1, .i32⟩
  | 110 => ⟨S5, .i32⟩
  | 111 => ⟨S1x5, .i32⟩
  | 112 => ⟨S27x5, .i32⟩
  | 113 => ⟨S27x5, .i32⟩
  | 114 => ⟨S27x5, .i32⟩
  | 115 => ⟨S_, .i32⟩
  | 116 => ⟨S27x5, .i32⟩
  | 117 => ⟨S27x5, .i1⟩
  | 118 => ⟨S_, .i32⟩
  | 119 => ⟨S27x5, .i32⟩
  | 120 => ⟨S27x5, .i32⟩
  | 121 => ⟨S27x5, .i32⟩
  | 122 => ⟨S27x5x1, .i32⟩
  | 123 => ⟨S128x96x27x5x31, .f32⟩
  | 124 => ⟨S_, .i32⟩
  | 125 => ⟨S27x5, .i32⟩
  | 126 => ⟨S27x5, .i1⟩
  | 127 => ⟨S_, .i32⟩
  | _ => ⟨S128x3x224x224, .f32⟩

abbrev hbmTy0_1 (i : Nat) : BufTy := match i % 128 with
  | 0 => ⟨S27x5, .i32⟩
  | 1 => ⟨S27x5, .i32⟩
  | 2 => ⟨S27x5, .i32⟩
  | 3 => ⟨S27x5x1, .i32⟩
  | 4 => ⟨S128x96x27x5x27x5, .f32⟩
  | 5 => ⟨S256x128x27x27, .f32⟩
  | 6 => ⟨S128x256x27x27, .f32⟩
  | 7 => ⟨S1x256x1x1, .f32⟩
  | 8 => ⟨S128x256x27x27, .f32⟩
  | 9 => ⟨S128x256x27x27, .f32⟩
  | 10 => ⟨S_, .f32⟩
  | 11 => ⟨S128x256x27x27, .f32⟩
  | 12 => ⟨S128x256x27x27, .f32⟩
  | 13 => ⟨S128x256x27x27, .f32⟩
  | 14 => ⟨S_, .i32⟩
  | 15 => ⟨S_, .f32⟩
  | 16 => ⟨S128x260x27x27, .f32⟩
  | 17 => ⟨S128x256x27x27, .f32⟩
  | 18 => ⟨S128x256x27x27, .f32⟩
  | 19 => ⟨S128x256x27x27, .f32⟩
  | 20 => ⟨S128x256x27x27, .f32⟩
  | 21 => ⟨S128x256x27x27, .f32⟩
  | 22 => ⟨S128x256x27x27, .f32⟩
  | 23 => ⟨S128x256x27x27, .f32⟩
  | 24 => ⟨S128x256x27x27, .f32⟩
  | 25 => ⟨S128x256x27x27, .f32⟩
  | 26 => ⟨S_, .f32⟩
  | 27 => ⟨S128x256x27x27, .f32⟩
  | 28 => ⟨S128x256x27x27, .f32⟩
  | 29 => ⟨S_, .f32⟩
  | 30 => ⟨S128x256x27x27, .f32⟩
  | 31 => ⟨S128x256x27x27, .f32⟩
  | 32 => ⟨S_, .f32⟩
  | 33 => ⟨S128x256x27x27, .f32⟩
  | 34 => ⟨S128x256x27x27, .f32⟩
  | 35 => ⟨S128x256x27x27, .f32⟩
  | 36 => ⟨S_, .f32⟩
  | 37 => ⟨S_, .f32⟩
  | 38 => ⟨S128x256x13x13, .f32⟩
  | 39 => ⟨S_, .i32⟩
  | 40 => ⟨S_, .f32⟩
  | 41 => ⟨S128x256x15x15, .f32⟩
  | 42 => ⟨S13, .i32⟩
  | 43 => ⟨S13x1, .i32⟩
  | 44 => ⟨S_, .i32⟩
  | 45 => ⟨S13x1, .i32⟩
  | 46 => ⟨S13x1, .i32⟩
  | 47 => ⟨S3, .i32⟩
  | 48 => ⟨S1x3, .i32⟩
  | 49 => ⟨S13x3, .i32⟩
  | 50 => ⟨S13x3, .i32⟩
  | 51 => ⟨S13x3, .i32⟩
  | 52 => ⟨S13, .i32⟩
  | 53 => ⟨S13x1, .i32⟩
  | 54 => ⟨S_, .i32⟩
  | 55 => ⟨S13x1, .i32⟩
  | 56 => ⟨S13x1, .i32⟩
  | 57 => ⟨S3, .i32⟩
  | 58 => ⟨S1x3, .i32⟩
  | 59 => ⟨S13x3, .i32⟩
  | 60 => ⟨S13x3, .i32⟩
  | 61 => ⟨S13x3, .i32⟩
  | 62 => ⟨S_, .i32⟩
  | 63 => ⟨S13x3, .i32⟩
  | 64 => ⟨S13x3, .i1⟩
  | 65 => ⟨S_, .i32⟩
  | 66 => ⟨S13x3, .i32⟩
  | 67 => ⟨S13x3, .i32⟩
  | 68 => ⟨S13x3, .i32⟩
  | 69 => ⟨S13x3x1, .i32⟩
  | 70 => ⟨S128x256x13x3x15, .f32⟩
  | 71 => ⟨S_, .i32⟩
  | 72 => ⟨S13x3, .i32⟩
  | 73 => ⟨S13x3, .i1⟩
  | 74 => ⟨S_, .i32⟩
  | 75 => ⟨S13x3, .i32⟩
  | 76 => ⟨S13x3, .i32⟩
  | 77 => ⟨S13x3, .i32⟩
  | 78 => ⟨S13x3x1, .i32⟩
  | 79 => ⟨S128x256x13x3x13x3, .f32⟩
  | 80 => ⟨S384x128x13x13, .f32⟩
  | 81 => ⟨S128x384x13x13, .f32⟩
  | 82 => ⟨S1x384x1x1, .f32⟩
  | 83 => ⟨S128x384x13x13, .f32⟩
  | 84 => ⟨S128x384x13x13, .f32⟩
  | 85 => ⟨S_, .f32⟩
  | 86 => ⟨S128x384x13x13, .f32⟩
  | 87 => ⟨S128x384x13x13, .f32⟩
  | 88 => ⟨S_, .i32⟩
  | 89 => ⟨S_, .f32⟩
  | 90 => ⟨S128x384x15x15, .f32⟩
  | 91 => ⟨S13, .i32⟩
  | 92 => ⟨S13x1, .i32⟩
  | 93 => ⟨S_, .i32⟩
  | 94 => ⟨S13x1, .i32⟩
  | 95 => ⟨S13x1, .i32⟩
  | 96 => ⟨S3, .i32⟩
  | 97 => ⟨S1x3, .i32⟩
  | 98 => ⟨S13x3, .i32⟩
  | 99 => ⟨S13x3, .i32⟩
  | 100 => ⟨S13x3, .i32⟩
  | 101 => ⟨S13, .i32⟩
  | 102 => ⟨S13x1, .i32⟩
  | 103 => ⟨S_, .i32⟩
  | 104 => ⟨S13x1, .i32⟩
  | 105 => ⟨S13x1, .i32⟩
  | 106 => ⟨S3, .i32⟩
  | 107 => ⟨S1x3, .i32⟩
  | 108 => ⟨S13x3, .i32⟩
  | 109 => ⟨S13x3, .i32⟩
  | 110 => ⟨S13x3, .i32⟩
  | 111 => ⟨S_, .i32⟩
  | 112 => ⟨S13x3, .i32⟩
  | 113 => ⟨S13x3, .i1⟩
  | 114 => ⟨S_, .i32⟩
  | 115 => ⟨S13x3, .i32⟩
  | 116 => ⟨S13x3, .i32⟩
  | 117 => ⟨S13x3, .i32⟩
  | 118 => ⟨S13x3x1, .i32⟩
  | 119 => ⟨S128x384x13x3x15, .f32⟩
  | 120 => ⟨S_, .i32⟩
  | 121 => ⟨S13x3, .i32⟩
  | 122 => ⟨S13x3, .i1⟩
  | 123 => ⟨S_, .i32⟩
  | 124 => ⟨S13x3, .i32⟩
  | 125 => ⟨S13x3, .i32⟩
  | 126 => ⟨S13x3, .i32⟩
  | 127 => ⟨S13x3x1, .i32⟩
  | _ => ⟨S128x3x224x224, .f32⟩

abbrev hbmTy0_2 (i : Nat) : BufTy := match i % 128 with
  | 0 => ⟨S128x384x13x3x13x3, .f32⟩
  | 1 => ⟨S384x128x13x13, .f32⟩
  | 2 => ⟨S128x384x13x13, .f32⟩
  | 3 => ⟨S1x384x1x1, .f32⟩
  | 4 => ⟨S128x384x13x13, .f32⟩
  | 5 => ⟨S128x384x13x13, .f32⟩
  | 6 => ⟨S_, .f32⟩
  | 7 => ⟨S128x384x13x13, .f32⟩
  | 8 => ⟨S128x384x13x13, .f32⟩
  | 9 => ⟨S_, .i32⟩
  | 10 => ⟨S_, .f32⟩
  | 11 => ⟨S128x384x15x15, .f32⟩
  | 12 => ⟨S13, .i32⟩
  | 13 => ⟨S13x1, .i32⟩
  | 14 => ⟨S_, .i32⟩
  | 15 => ⟨S13x1, .i32⟩
  | 16 => ⟨S13x1, .i32⟩
  | 17 => ⟨S3, .i32⟩
  | 18 => ⟨S1x3, .i32⟩
  | 19 => ⟨S13x3, .i32⟩
  | 20 => ⟨S13x3, .i32⟩
  | 21 => ⟨S13x3, .i32⟩
  | 22 => ⟨S13, .i32⟩
  | 23 => ⟨S13x1, .i32⟩
  | 24 => ⟨S_, .i32⟩
  | 25 => ⟨S13x1, .i32⟩
  | 26 => ⟨S13x1, .i32⟩
  | 27 => ⟨S3, .i32⟩
  | 28 => ⟨S1x3, .i32⟩
  | 29 => ⟨S13x3, .i32⟩
  | 30 => ⟨S13x3, .i32⟩
  | 31 => ⟨S13x3, .i32⟩
  | 32 => ⟨S_, .i32⟩
  | 33 => ⟨S13x3, .i32⟩
  | 34 => ⟨S13x3, .i1⟩
  | 35 => ⟨S_, .i32⟩
  | 36 => ⟨S13x3, .i32⟩
  | 37 => ⟨S13x3, .i32⟩
  | 38 => ⟨S13x3, .i32⟩
  | 39 => ⟨S13x3x1, .i32⟩
  | 40 => ⟨S128x384x13x3x15, .f32⟩
  | 41 => ⟨S_, .i32⟩
  | 42 => ⟨S13x3, .i32⟩
  | 43 => ⟨S13x3, .i1⟩
  | 44 => ⟨S_, .i32⟩
  | 45 => ⟨S13x3, .i32⟩
  | 46 => ⟨S13x3, .i32⟩
  | 47 => ⟨S13x3, .i32⟩
  | 48 => ⟨S13x3x1, .i32⟩
  | 49 => ⟨S128x384x13x3x13x3, .f32⟩
  | 50 => ⟨S256x128x13x13, .f32⟩
  | 51 => ⟨S128x256x13x13, .f32⟩
  | 52 => ⟨S1x256x1x1, .f32⟩
  | 53 => ⟨S128x256x13x13, .f32⟩
  | 54 => ⟨S128x256x13x13, .f32⟩
  | 55 => ⟨S_, .f32⟩
  | 56 => ⟨S128x256x13x13, .f32⟩
  | 57 => ⟨S128x256x13x13, .f32⟩
  | 58 => ⟨S_, .f32⟩
  | 59 => ⟨S_, .f32⟩
  | 60 => ⟨S128x256x6x6, .f32⟩
  | 61 => ⟨S128x9216, .f32⟩
  | 62 => ⟨S9216x4096, .f32⟩
  | 63 => ⟨S128x4096, .f32⟩
  | 64 => ⟨S1x4096, .f32⟩
  | 65 => ⟨S128x4096, .f32⟩
  | 66 => ⟨S128x4096, .f32⟩
  | 67 => ⟨S_, .f32⟩
  | 68 => ⟨S128x4096, .f32⟩
  | 69 => ⟨S128x4096, .f32⟩
  | 70 => ⟨S4096x4096, .f32⟩
  | 71 => ⟨S128x4096, .f32⟩
  | 72 => ⟨S1x4096, .f32⟩
  | 73 => ⟨S128x4096, .f32⟩
  | 74 => ⟨S128x4096, .f32⟩
  | 75 => ⟨S_, .f32⟩
  | 76 => ⟨S128x4096, .f32⟩
  | 77 => ⟨S128x4096, .f32⟩
  | 78 => ⟨S4096x1000, .f32⟩
  | 79 => ⟨S128x1000, .f32⟩
  | 80 => ⟨S1x1000, .f32⟩
  | 81 => ⟨S128x1000, .f32⟩
  | 82 => ⟨S128x1000, .f32⟩
  | 83 => ⟨S_, .f32⟩
  | 84 => ⟨S128x1000, .f32⟩
  | 85 => ⟨S128x1000, .f32⟩
  | _ => ⟨S128x3x224x224, .f32⟩

abbrev hbmTy (i : Nat) : BufTy := match i / 128 with
  | 0 => hbmTy0_0 i
  | 1 => hbmTy0_1 i
  | 2 => hbmTy0_2 i
  | _ => ⟨S128x3x224x224, .f32⟩

abbrev bufTy : (tb : Table) → Fin (tcTables nBuf tb) → BufTy
  | .hbm, ⟨i, _⟩ => hbmTy i
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_6 : Ref sig .tc := ⟨.hbm, 67, rfl⟩
abbrev main_call1_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_c_11 : Ref sig .tc := ⟨.hbm, 92, rfl⟩
abbrev main_call2_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_c_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_c_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_18 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_19 : Ref sig .tc := ⟨.hbm, 142, rfl⟩
abbrev main_call3_v0 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_20 : Ref sig .tc := ⟨.hbm, 154, rfl⟩
abbrev main_v111 : Ref sig .tc := ⟨.hbm, 155, rfl⟩
abbrev main_v112 : Ref sig .tc := ⟨.hbm, 156, rfl⟩
abbrev main_cst_21 : Ref sig .tc := ⟨.hbm, 157, rfl⟩
abbrev main_v113 : Ref sig .tc := ⟨.hbm, 158, rfl⟩
abbrev main_v114 : Ref sig .tc := ⟨.hbm, 159, rfl⟩
abbrev main_cst_22 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_23 : Ref sig .tc := ⟨.hbm, 164, rfl⟩
abbrev main_v118 : Ref sig .tc := ⟨.hbm, 165, rfl⟩
abbrev main_v119 : Ref sig .tc := ⟨.hbm, 166, rfl⟩
abbrev main_c_24 : Ref sig .tc := ⟨.hbm, 167, rfl⟩
abbrev main_call4_v0 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_c_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_c_26 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_27 : Ref sig .tc := ⟨.hbm, 190, rfl⟩
abbrev main_v139 : Ref sig .tc := ⟨.hbm, 191, rfl⟩
abbrev main_v140 : Ref sig .tc := ⟨.hbm, 192, rfl⟩
abbrev main_c_28 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_c_29 : Ref sig .tc := ⟨.hbm, 199, rfl⟩
abbrev main_v146 : Ref sig .tc := ⟨.hbm, 200, rfl⟩
abbrev main_v147 : Ref sig .tc := ⟨.hbm, 201, rfl⟩
abbrev main_c_30 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_31 : Ref sig .tc := ⟨.hbm, 213, rfl⟩
abbrev main_v158 : Ref sig .tc := ⟨.hbm, 214, rfl⟩
abbrev main_v159 : Ref sig .tc := ⟨.hbm, 215, rfl⟩
abbrev main_c_32 : Ref sig .tc := ⟨.hbm, 216, rfl⟩
abbrev main_call5_v0 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_c_33 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_c_34 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c_35 : Ref sig .tc := ⟨.hbm, 239, rfl⟩
abbrev main_v179 : Ref sig .tc := ⟨.hbm, 240, rfl⟩
abbrev main_v180 : Ref sig .tc := ⟨.hbm, 241, rfl⟩
abbrev main_c_36 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_c_37 : Ref sig .tc := ⟨.hbm, 248, rfl⟩
abbrev main_v186 : Ref sig .tc := ⟨.hbm, 249, rfl⟩
abbrev main_v187 : Ref sig .tc := ⟨.hbm, 250, rfl⟩
abbrev main_c_38 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_cst_39 : Ref sig .tc := ⟨.hbm, 262, rfl⟩
abbrev main_v198 : Ref sig .tc := ⟨.hbm, 263, rfl⟩
abbrev main_v199 : Ref sig .tc := ⟨.hbm, 264, rfl⟩
abbrev main_c_40 : Ref sig .tc := ⟨.hbm, 265, rfl⟩
abbrev main_call6_v0 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_c_41 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_c_42 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_c_43 : Ref sig .tc := ⟨.hbm, 288, rfl⟩
abbrev main_v219 : Ref sig .tc := ⟨.hbm, 289, rfl⟩
abbrev main_v220 : Ref sig .tc := ⟨.hbm, 290, rfl⟩
abbrev main_c_44 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_c_45 : Ref sig .tc := ⟨.hbm, 297, rfl⟩
abbrev main_v226 : Ref sig .tc := ⟨.hbm, 298, rfl⟩
abbrev main_v227 : Ref sig .tc := ⟨.hbm, 299, rfl⟩
abbrev main_c_46 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_cst_47 : Ref sig .tc := ⟨.hbm, 311, rfl⟩
abbrev main_v238 : Ref sig .tc := ⟨.hbm, 312, rfl⟩
abbrev main_v239 : Ref sig .tc := ⟨.hbm, 313, rfl⟩
abbrev main_cst_48 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_cst_49 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_cst_50 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_cst_51 : Ref sig .tc := ⟨.hbm, 339, rfl⟩
abbrev main_v262 : Ref sig .tc := ⟨.hbm, 340, rfl⟩
abbrev main_v263 : Ref sig .tc := ⟨.hbm, 341, rfl⟩

abbrev nD : Nat := 1
abbrev τ : Topo := Topo.v7x

variable {F : FTy → Type} [FloatOps F]
-- ==== Proof.RefRead.lean ====
/-
  THE REFERENCE READ BY OPERATION: the value of each buffer of the reference, read at coordinates.
-/
module

public import proofs.«01_k».proof.Proof.Gen.ReferenceIdeal.Run
public import proofs.«01_k».proof.Proof.Gen.ReferenceIdeal.Read

@[expose] public section
-- ==== Proof.Acc.lean ====
/-
  ARRAYS READ AT NATURAL COORDINATES. `A1` … `A6` read an array of extended reals at coordinates that are plain natural
  numbers, `0` outside the extents; the layout operations (slices, zero padding, reshapes, transposes, concatenations,
  contractions) are restated as equations between these readings.
-/
module

public import Idealize.ShloMosaic.PureOps
public import Idealize.ShloMosaic.Lib.Pointwise

@[expose] public section

noncomputable section

open scoped BigOperators

namespace Cert.Net

open Idealize.ShloMosaic

/-- The rank-1 array `x` read at natural coordinates, `0` outside its extents. -/
def A1 {a : ℕ} (x : (⟨1, ![a]⟩ : Shape).Idx → EReal) (i : ℕ) : EReal :=
  if h : i < a then x (ix1 ⟨i, h⟩) else 0

/-- Inside the extents the reading is the entry. -/
theorem A1_pos {a : ℕ} (x : (⟨1, ![a]⟩ : Shape).Idx → EReal) {i : ℕ} (hi : i < a) :
    A1 x i = x (ix1 ⟨i, hi⟩) := dif_pos hi

/-- An entry is the reading at its coordinates. -/
theorem A1_ix {a : ℕ} (x : (⟨1, ![a]⟩ : Shape).Idx → EReal) (i : Fin a) :
    x (ix1 i) = A1 x i := (A1_pos x i.isLt).symm

/-- Outside the extents the reading is `0`. -/
theorem A1_neg {a : ℕ} (x : (⟨1, ![a]⟩ : Shape).Idx → EReal) {i : ℕ} (h : ¬ (i < a)) : A1 x i = 0 := dif_neg h

/-- Two arrays with equal readings inside the extents are equal. -/
theorem A1_ext {a : ℕ} {x y : (⟨1, ![a]⟩ : Shape).Idx → EReal}
    (h : ∀ i, i < a → A1 x i = A1 y i) : x = y := by
  funext v
  rw [eq_ix1 v]
  exact (A1_ix x (v 0)).trans ((h _ (v 0).isLt).trans
    (A1_ix y (v 0)).symm)

/-- Padding with zeros reads at the coordinates less the low padding, `0` before them. -/
theorem A1_pad {a a' p p' : ℕ} (x : (⟨1, ![a]⟩ : Shape).Idx → EReal) {u : Shape} (v : u.Idx → EReal)
    (h : (⟨1, ![a]⟩ : Shape).Pads ![p] ![p'] ![0] (⟨1, ![a']⟩ : Shape)) (hu : 0 < u.numel) (hv : v (Shape.Idx.first hu) = 0)
    {i : ℕ} (hi : i < a') :
    A1 (pad (⟨1, ![a']⟩ : Shape) ![p] ![p'] ![0] x v h hu) i
      = if p ≤ i then A1 x (i - p) else 0 := by
  rw [A1_pos _ hi]
  unfold pad
  split
  · next hin =>
    have e0 : p ≤ i ∧ (i - p) % 1 = 0 ∧ (i - p) / 1 < a := hin 0;
    rw [Nat.div_one] at e0
    rw [if_pos e0.1, A1_pos x e0.2.2]
    refine congrArg x (funext fun t => Fin.ext ?_)
    match t with | ⟨0, _⟩ => exact Nat.div_one _
  · next hin =>
    rw [hv]
    split
    · next hc =>
      refine (A1_neg x fun hb => hin fun t => ?_).symm
      match t with
        | ⟨0, _⟩ => exact ⟨hc, Nat.mod_one _, (Nat.div_one _).trans_lt hb⟩
    · rfl

/-- The rank-2 array `x` read at natural coordinates, `0` outside its extents. -/
def A2 {a b : ℕ} (x : (⟨2, ![a, b]⟩ : Shape).Idx → EReal) (i j : ℕ) : EReal :=
  if h : i < a ∧ j < b then x (ix2 ⟨i, h.1⟩ ⟨j, h.2⟩) else 0

/-- Inside the extents the reading is the entry. -/
theorem A2_pos {a b : ℕ} (x : (⟨2, ![a, b]⟩ : Shape).Idx → EReal) {i j : ℕ} (hi : i < a) (hj : j < b) :
    A2 x i j = x (ix2 ⟨i, hi⟩ ⟨j, hj⟩) := dif_pos ⟨hi, hj⟩

/-- An entry is the reading at its coordinates. -/
theorem A2_ix {a b : ℕ} (x : (⟨2, ![a, b]⟩ : Shape).Idx → EReal) (i : Fin a) (j : Fin b) :
    x (ix2 i j) = A2 x i j := (A2_pos x i.isLt j.isLt).symm

/-- Outside the extents the reading is `0`. -/
theorem A2_neg {a b : ℕ} (x : (⟨2, ![a, b]⟩ : Shape).Idx → EReal) {i j : ℕ} (h : ¬ (i < a ∧ j < b)) : A2 x i j = 0 := dif_neg h

/-- Two arrays with equal readings inside the extents are equal. -/
theorem A2_ext {a b : ℕ} {x y : (⟨2, ![a, b]⟩ : Shape).Idx → EReal}
    (h : ∀ i j, i < a → j < b → A2 x i j = A2 y i j) : x = y := by
  funext v
  rw [eq_ix2 v]
  exact (A2_ix x (v 0) (v 1)).trans ((h _ _ (v 0).isLt (v 1).isLt).trans
    (A2_ix y (v 0) (v 1)).symm)

/-- A unit-stride slice reads at the shifted coordinates. -/
theorem A2_slice {a b a' b' p q : ℕ} (x : (⟨2, ![a, b]⟩ : Shape).Idx → EReal) (h : (⟨2, ![a, b]⟩ : Shape).Slices ![p, q] (⟨2, ![a', b']⟩ : Shape))
    {i j : ℕ} (hi : i < a') (hj : j < b') :
    A2 (extractStridedSlice (⟨2, ![a', b']⟩ : Shape) ![p, q] x h) i j = A2 x (p + i) (q + j) := by
  rw [A2_pos _ hi hj]
  have b0 : p + i < a := lt_of_lt_of_le (Nat.add_lt_add_left hi p) (h.2 0)
  have b1 : q + j < b := lt_of_lt_of_le (Nat.add_lt_add_left hj q) (h.2 1)
  rw [A2_pos x b0 b1]
  refine congrArg x (funext fun t => ?_)
  match t with | ⟨0, _⟩ => rfl | ⟨1, _⟩ => rfl

/-- Padding with zeros reads at the coordinates less the low padding, `0` before them. -/
theorem A2_pad {a b a' b' p q p' q' : ℕ} (x : (⟨2, ![a, b]⟩ : Shape).Idx → EReal) {u : Shape} (v : u.Idx → EReal)
    (h : (⟨2, ![a, b]⟩ : Shape).Pads ![p, q] ![p', q'] ![0, 0] (⟨2, ![a', b']⟩ : Shape)) (hu : 0 < u.numel) (hv : v (Shape.Idx.first hu) = 0)
    {i j : ℕ} (hi : i < a') (hj : j < b') :
    A2 (pad (⟨2, ![a', b']⟩ : Shape) ![p, q] ![p', q'] ![0, 0] x v h hu) i j
      = if p ≤ i ∧ q ≤ j then A2 x (i - p) (j - q) else 0 := by
  rw [A2_pos _ hi hj]
  unfold pad
  split
  · next hin =>
    have e0 : p ≤ i ∧ (i - p) % 1 = 0 ∧ (i - p) / 1 < a := hin 0; have e1 : q ≤ j ∧ (j - q) % 1 = 0 ∧ (j - q) / 1 < b := hin 1;
    rw [Nat.div_one] at e0 e1
    rw [if_pos ⟨e0.1, e1.1⟩, A2_pos x e0.2.2 e1.2.2]
    refine congrArg x (funext fun t => Fin.ext ?_)
    match t with | ⟨0, _⟩ => exact Nat.div_one _ | ⟨1, _⟩ => exact Nat.div_one _
  · next hin =>
    rw [hv]
    split
    · next hc =>
      refine (A2_neg x fun hb => hin fun t => ?_).symm
      match t with
        | ⟨0, _⟩ => exact ⟨hc.1, Nat.mod_one _, (Nat.div_one _).trans_lt hb.1⟩
        | ⟨1, _⟩ => exact ⟨hc.2, Nat.mod_one _, (Nat.div_one _).trans_lt hb.2⟩
    · rfl

/-- The rank-3 array `x` read at natural coordinates, `0` outside its extents. -/
def A3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- Inside the extents the reading is the entry. -/
theorem A3_pos {a b c : ℕ} (x : (⟨3, ![a, b, c]⟩ : Shape).Idx → EReal) {i j k : ℕ} (hi : i < a) (hj : j < b) (hk : k < c) :
    A3 x i j k = x (ix3 ⟨i, hi⟩ ⟨j, hj⟩ ⟨k, hk⟩) := dif_pos ⟨hi, hj, hk⟩

/-- An entry is the reading at its coordinates. -/
theorem A3_ix {a b c : ℕ} (x : (⟨3, ![a, b, c]⟩ : Shape).Idx → EReal) (i : Fin a) (j : Fin b) (k : Fin c) :
    x (ix3 i j k) = A3 x i j k := (A3_pos x i.isLt j.isLt k.isLt).symm

/-- Outside the extents the reading is `0`. -/
theorem A3_neg {a b c : ℕ} (x : (⟨3, ![a, b, c]⟩ : Shape).Idx → EReal) {i j k : ℕ} (h : ¬ (i < a ∧ j < b ∧ k < c)) : A3 x i j k = 0 := dif_neg h

/-- Two arrays with equal readings inside the extents are equal. -/
theorem A3_ext {a b c : ℕ} {x y : (⟨3, ![a, b, c]⟩ : Shape).Idx → EReal}
    (h : ∀ i j k, i < a → j < b → k < c → A3 x i j k = A3 y i j k) : x = y := by
  funext v
  rw [eq_ix3 v]
  exact (A3_ix x (v 0) (v 1) (v 2)).trans ((h _ _ _ (v 0).isLt (v 1).isLt (v 2).isLt).trans
    (A3_ix y (v 0) (v 1) (v 2)).symm)

/-- A unit-stride slice reads at the shifted coordinates. -/
theorem A3_slice {a b c a' b' c' p q r : ℕ} (x : (⟨3, ![a, b, c]⟩ : Shape).Idx → EReal) (h : (⟨3, ![a, b, c]⟩ : Shape).Slices ![p, q, r] (⟨3, ![a', b', c']⟩ : Shape))
    {i j k : ℕ} (hi : i < a') (hj : j < b') (hk : k < c') :
    A3 (extractStridedSlice (⟨3, ![a', b', c']⟩ : Shape) ![p, q, r] x h) i j k = A3 x (p + i) (q + j) (r + k) := by
  rw [A3_pos _ hi hj hk]
  have b0 : p + i < a := lt_of_lt_of_le (Nat.add_lt_add_left hi p) (h.2 0)
  have b1 : q + j < b := lt_of_lt_of_le (Nat.add_lt_add_left hj q) (h.2 1)
  have b2 : r + k < c := lt_of_lt_of_le (Nat.add_lt_add_left hk r) (h.2 2)
  rw [A3_pos x b0 b1 b2]
  refine congrArg x (funext fun t => ?_)
  match t with | ⟨0, _⟩ => rfl | ⟨1, _⟩ => rfl | ⟨2, _⟩ => rfl

/-- Padding with zeros reads at the coordinates less the low padding, `0` before them. -/
theorem A3_pad {a b c a' b' c' p q r p' q' r' : ℕ} (x : (⟨3, ![a, b, c]⟩ : Shape).Idx → EReal) {u : Shape} (v : u.Idx → EReal)
    (h : (⟨3, ![a, b, c]⟩ : Shape).Pads ![p, q, r] ![p', q', r'] ![0, 0, 0] (⟨3, ![a', b', c']⟩ : Shape)) (hu : 0 < u.numel) (hv : v (Shape.Idx.first hu) = 0)
    {i j k : ℕ} (hi : i < a') (hj : j < b') (hk : k < c') :
    A3 (pad (⟨3, ![a', b', c']⟩ : Shape) ![p, q, r] ![p', q', r'] ![0, 0, 0] x v h hu) i j k
      = if p ≤ i ∧ q ≤ j ∧ r ≤ k then A3 x (i - p) (j - q) (k - r) else 0 := by
  rw [A3_pos _ hi hj hk]
  unfold pad
  split
  · next hin =>
    have e0 : p ≤ i ∧ (i - p) % 1 = 0 ∧ (i - p) / 1 < a := hin 0; have e1 : q ≤ j ∧ (j - q) % 1 = 0 ∧ (j - q) / 1 < b := hin 1; have e2 : r ≤ k ∧ (k - r) % 1 = 0 ∧ (k - r) / 1 < c := hin 2;
    rw [Nat.div_one] at e0 e1 e2
    rw [if_pos ⟨e0.1, e1.1, e2.1⟩, A3_pos x e0.2.2 e1.2.2 e2.2.2]
    refine congrArg x (funext fun t => Fin.ext ?_)
    match t with | ⟨0, _⟩ => exact Nat.div_one _ | ⟨1, _⟩ => exact Nat.div_one _ | ⟨2, _⟩ => exact Nat.div_one _
  · next hin =>
    rw [hv]
    split
    · next hc =>
      refine (A3_neg x fun hb => hin fun t => ?_).symm
      match t with
        | ⟨0, _⟩ => exact ⟨hc.1, Nat.mod_one _, (Nat.div_one _).trans_lt hb.1⟩
        | ⟨1, _⟩ => exact ⟨hc.2.1, Nat.mod_one _, (Nat.div_one _).trans_lt hb.2.1⟩
        | ⟨2, _⟩ => exact ⟨hc.2.2, Nat.mod_one _, (Nat.div_one _).trans_lt hb.2.2⟩
    · rfl

/-- The rank-4 array `x` read at natural coordinates, `0` outside its extents. -/
def A4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

/-- Inside the extents the reading is the entry. -/
theorem A4_pos {a b c d : ℕ} (x : (⟨4, ![a, b, c, d]⟩ : Shape).Idx → EReal) {i j k l : ℕ} (hi : i < a) (hj : j < b) (hk : k < c) (hl : l < d) :
    A4 x i j k l = x (ix4 ⟨i, hi⟩ ⟨j, hj⟩ ⟨k, hk⟩ ⟨l, hl⟩) := dif_pos ⟨hi, hj, hk, hl⟩

/-- An entry is the reading at its coordinates. -/
theorem A4_ix {a b c d : ℕ} (x : (⟨4, ![a, b, c, d]⟩ : Shape).Idx → EReal) (i : Fin a) (j : Fin b) (k : Fin c) (l : Fin d) :
    x (ix4 i j k l) = A4 x i j k l := (A4_pos x i.isLt j.isLt k.isLt l.isLt).symm

/-- Outside the extents the reading is `0`. -/
theorem A4_neg {a b c d : ℕ} (x : (⟨4, ![a, b, c, d]⟩ : Shape).Idx → EReal) {i j k l : ℕ} (h : ¬ (i < a ∧ j < b ∧ k < c ∧ l < d)) : A4 x i j k l = 0 := dif_neg h

/-- Two arrays with equal readings inside the extents are equal. -/
theorem A4_ext {a b c d : ℕ} {x y : (⟨4, ![a, b, c, d]⟩ : Shape).Idx → EReal}
    (h : ∀ i j k l, i < a → j < b → k < c → l < d → A4 x i j k l = A4 y i j k l) : x = y := by
  funext v
  rw [eq_ix4 v]
  exact (A4_ix x (v 0) (v 1) (v 2) (v 3)).trans ((h _ _ _ _ (v 0).isLt (v 1).isLt (v 2).isLt (v 3).isLt).trans
    (A4_ix y (v 0) (v 1) (v 2) (v 3)).symm)

/-- A unit-stride slice reads at the shifted coordinates. -/
theorem A4_slice {a b c d a' b' c' d' p q r s : ℕ} (x : (⟨4, ![a, b, c, d]⟩ : Shape).Idx → EReal) (h : (⟨4, ![a, b, c, d]⟩ : Shape).Slices ![p, q, r, s] (⟨4, ![a', b', c', d']⟩ : Shape))
    {i j k l : ℕ} (hi : i < a') (hj : j < b') (hk : k < c') (hl : l < d') :
    A4 (extractStridedSlice (⟨4, ![a', b', c', d']⟩ : Shape) ![p, q, r, s] x h) i j k l = A4 x (p + i) (q + j) (r + k) (s + l) := by
  rw [A4_pos _ hi hj hk hl]
  have b0 : p + i < a := lt_of_lt_of_le (Nat.add_lt_add_left hi p) (h.2 0)
  have b1 : q + j < b := lt_of_lt_of_le (Nat.add_lt_add_left hj q) (h.2 1)
  have b2 : r + k < c := lt_of_lt_of_le (Nat.add_lt_add_left hk r) (h.2 2)
  have b3 : s + l < d := lt_of_lt_of_le (Nat.add_lt_add_left hl s) (h.2 3)
  rw [A4_pos x b0 b1 b2 b3]
  refine congrArg x (funext fun t => ?_)
  match t with | ⟨0, _⟩ => rfl | ⟨1, _⟩ => rfl | ⟨2, _⟩ => rfl | ⟨3, _⟩ => rfl

/-- Padding with zeros reads at the coordinates less the low padding, `0` before them. -/
theorem A4_pad {a b c d a' b' c' d' p q r s p' q' r' s' : ℕ} (x : (⟨4, ![a, b, c, d]⟩ : Shape).Idx → EReal) {u : Shape} (v : u.Idx → EReal)
    (h : (⟨4, ![a, b, c, d]⟩ : Shape).Pads ![p, q, r, s] ![p', q', r', s'] ![0, 0, 0, 0] (⟨4, ![a', b', c', d']⟩ : Shape)) (hu : 0 < u.numel) (hv : v (Shape.Idx.first hu) = 0)
    {i j k l : ℕ} (hi : i < a') (hj : j < b') (hk : k < c') (hl : l < d') :
    A4 (pad (⟨4, ![a', b', c', d']⟩ : Shape) ![p, q, r, s] ![p', q', r', s'] ![0, 0, 0, 0] x v h hu) i j k l
      = if p ≤ i ∧ q ≤ j ∧ r ≤ k ∧ s ≤ l then A4 x (i - p) (j - q) (k - r) (l - s) else 0 := by
  rw [A4_pos _ hi hj hk hl]
  unfold pad
  split
  · next hin =>
    have e0 : p ≤ i ∧ (i - p) % 1 = 0 ∧ (i - p) / 1 < a := hin 0; have e1 : q ≤ j ∧ (j - q) % 1 = 0 ∧ (j - q) / 1 < b := hin 1; have e2 : r ≤ k ∧ (k - r) % 1 = 0 ∧ (k - r) / 1 < c := hin 2; have e3 : s ≤ l ∧ (l - s) % 1 = 0 ∧ (l - s) / 1 < d := hin 3;
    rw [Nat.div_one] at e0 e1 e2 e3
    rw [if_pos ⟨e0.1, e1.1, e2.1, e3.1⟩, A4_pos x e0.2.2 e1.2.2 e2.2.2 e3.2.2]
    refine congrArg x (funext fun t => Fin.ext ?_)
    match t with | ⟨0, _⟩ => exact Nat.div_one _ | ⟨1, _⟩ => exact Nat.div_one _ | ⟨2, _⟩ => exact Nat.div_one _ | ⟨3, _⟩ => exact Nat.div_one _
  · next hin =>
    rw [hv]
    split
    · next hc =>
      refine (A4_neg x fun hb => hin fun t => ?_).symm
      match t with
        | ⟨0, _⟩ => exact ⟨hc.1, Nat.mod_one _, (Nat.div_one _).trans_lt hb.1⟩
        | ⟨1, _⟩ => exact ⟨hc.2.1, Nat.mod_one _, (Nat.div_one _).trans_lt hb.2.1⟩
        | ⟨2, _⟩ => exact ⟨hc.2.2.1, Nat.mod_one _, (Nat.div_one _).trans_lt hb.2.2.1⟩
        | ⟨3, _⟩ => exact ⟨hc.2.2.2, Nat.mod_one _, (Nat.div_one _).trans_lt hb.2.2.2⟩
    · rfl

/-- The rank-5 array `x` read at natural coordinates, `0` outside its extents. -/
def A5 {a b c d e : ℕ} (x : (⟨5, ![a, b, c, d, e]⟩ : Shape).Idx → EReal) (i j k l m : ℕ) : EReal :=
  if h : i < a ∧ j < b ∧ k < c ∧ l < d ∧ m < e then x (ix5 ⟨i, h.1⟩ ⟨j, h.2.1⟩ ⟨k, h.2.2.1⟩ ⟨l, h.2.2.2.1⟩ ⟨m, h.2.2.2.2⟩) else 0

/-- Inside the extents the reading is the entry. -/
theorem A5_pos {a b c d e : ℕ} (x : (⟨5, ![a, b, c, d, e]⟩ : Shape).Idx → EReal) {i j k l m : ℕ} (hi : i < a) (hj : j < b) (hk : k < c) (hl : l < d) (hm : m < e) :
    A5 x i j k l m = x (ix5 ⟨i, hi⟩ ⟨j, hj⟩ ⟨k, hk⟩ ⟨l, hl⟩ ⟨m, hm⟩) := dif_pos ⟨hi, hj, hk, hl, hm⟩

/-- An entry is the reading at its coordinates. -/
theorem A5_ix {a b c d e : ℕ} (x : (⟨5, ![a, b, c, d, e]⟩ : Shape).Idx → EReal) (i : Fin a) (j : Fin b) (k : Fin c) (l : Fin d) (m : Fin e) :
    x (ix5 i j k l m) = A5 x i j k l m := (A5_pos x i.isLt j.isLt k.isLt l.isLt m.isLt).symm

/-- Outside the extents the reading is `0`. -/
theorem A5_neg {a b c d e : ℕ} (x : (⟨5, ![a, b, c, d, e]⟩ : Shape).Idx → EReal) {i j k l m : ℕ} (h : ¬ (i < a ∧ j < b ∧ k < c ∧ l < d ∧ m < e)) : A5 x i j k l m = 0 := dif_neg h

/-- Two arrays with equal readings inside the extents are equal. -/
theorem A5_ext {a b c d e : ℕ} {x y : (⟨5, ![a, b, c, d, e]⟩ : Shape).Idx → EReal}
    (h : ∀ i j k l m, i < a → j < b → k < c → l < d → m < e → A5 x i j k l m = A5 y i j k l m) : x = y := by
  funext v
  rw [eq_ix5 v]
  exact (A5_ix x (v 0) (v 1) (v 2) (v 3) (v 4)).trans ((h _ _ _ _ _ (v 0).isLt (v 1).isLt (v 2).isLt (v 3).isLt (v 4).isLt).trans
    (A5_ix y (v 0) (v 1) (v 2) (v 3) (v 4)).symm)

/-- The rank-6 array `x` read at natural coordinates, `0` outside its extents. -/
def A6 {a b c d e f : ℕ} (x : (⟨6, ![a, b, c, d, e, f]⟩ : Shape).Idx → EReal) (i j k l m n : ℕ) : EReal :=
  if h : i < a ∧ j < b ∧ k < c ∧ l < d ∧ m < e ∧ n < f then x (ix6 ⟨i, h.1⟩ ⟨j, h.2.1⟩ ⟨k, h.2.2.1⟩ ⟨l, h.2.2.2.1⟩ ⟨m, h.2.2.2.2.1⟩ ⟨n, h.2.2.2.2.2⟩) else 0

/-- Inside the extents the reading is the entry. -/
theorem A6_pos {a b c d e f : ℕ} (x : (⟨6, ![a, b, c, d, e, f]⟩ : Shape).Idx → EReal) {i j k l m n : ℕ} (hi : i < a) (hj : j < b) (hk : k < c) (hl : l < d) (hm : m < e) (hn : n < f) :
    A6 x i j k l m n = x (ix6 ⟨i, hi⟩ ⟨j, hj⟩ ⟨k, hk⟩ ⟨l, hl⟩ ⟨m, hm⟩ ⟨n, hn⟩) := dif_pos ⟨hi, hj, hk, hl, hm, hn⟩

/-- An entry is the reading at its coordinates. -/
theorem A6_ix {a b c d e f : ℕ} (x : (⟨6, ![a, b, c, d, e, f]⟩ : Shape).Idx → EReal) (i : Fin a) (j : Fin b) (k : Fin c) (l : Fin d) (m : Fin e) (n : Fin f) :
    x (ix6 i j k l m n) = A6 x i j k l m n := (A6_pos x i.isLt j.isLt k.isLt l.isLt m.isLt n.isLt).symm

/-- Outside the extents the reading is `0`. -/
theorem A6_neg {a b c d e f : ℕ} (x : (⟨6, ![a, b, c, d, e, f]⟩ : Shape).Idx → EReal) {i j k l m n : ℕ} (h : ¬ (i < a ∧ j < b ∧ k < c ∧ l < d ∧ m < e ∧ n < f)) : A6 x i j k l m n = 0 := dif_neg h

/-- Two arrays with equal readings inside the extents are equal. -/
theorem A6_ext {a b c d e f : ℕ} {x y : (⟨6, ![a, b, c, d, e, f]⟩ : Shape).Idx → EReal}
    (h : ∀ i j k l m n, i < a → j < b → k < c → l < d → m < e → n < f → A6 x i j k l m n = A6 y i j k l m n) : x = y := by
  funext v
  rw [eq_ix6 v]
  exact (A6_ix x (v 0) (v 1) (v 2) (v 3) (v 4) (v 5)).trans ((h _ _ _ _ _ _ (v 0).isLt (v 1).isLt (v 2).isLt (v 3).isLt (v 4).isLt (v 5).isLt).trans
    (A6_ix y (v 0) (v 1) (v 2) (v 3) (v 4) (v 5)).symm)

/-! ## Row-major positions -/

/-- The array `x` read at a row-major position, `0` past its end. -/
def fl {s : Shape} (x : s.Idx → EReal) (n : ℕ) : EReal :=
  if h : n < s.numel then x (s.rowMajor.symm ⟨n, h⟩) else 0

/-- The entry at an index is the reading at its row-major position. -/
theorem fl_rowMajor {s : Shape} (x : s.Idx → EReal) (v : s.Idx) : fl x (s.rowMajor v).val = x v := by
  unfold fl
  rw [dif_pos (s.rowMajor v).isLt]
  exact congrArg x (s.rowMajor.symm_apply_apply v)

/-- An entry read at a position known to be its row-major one. -/
theorem fl_eq {s : Shape} (x : s.Idx → EReal) (v : s.Idx) {n : ℕ} (h : (s.rowMajor v).val = n) : x v = fl x n := by
  rw [← h, fl_rowMajor]

/-- A reshape keeps every row-major position. -/
theorem fl_cast {s t : Shape} (x : s.Idx → EReal) (h : s.ShapeCasts t) (n : ℕ) : fl (shapeCast t x h) n = fl x n := by
  unfold fl
  by_cases hn : n < t.numel
  · have hn' : n < s.numel := by rw [← (show t.numel = s.numel from h)]; exact hn
    rw [dif_pos hn, dif_pos hn']
    refine congrArg x (Shape.reshapeEquiv_eq_of_rowMajor _ ?_)
    simp
  · rw [dif_neg hn, dif_neg]
    rw [← (show t.numel = s.numel from h)]; exact hn

/-- The reading at coordinates is the reading at their row-major position. -/
theorem A1_fl {a : ℕ} (x : (⟨1, ![a]⟩ : Shape).Idx → EReal) {i : ℕ} (hi : i < a) : A1 x i = fl x i := by
  rw [A1_pos x hi]; exact fl_eq x _ (Shape.rowMajor_val_one _)

/-- The reading at coordinates is the reading at their row-major position. -/
theorem A2_fl {a b : ℕ} (x : (⟨2, ![a, b]⟩ : Shape).Idx → EReal) {i j : ℕ} (hi : i < a) (hj : j < b) :
    A2 x i j = fl x (i * b + j) := by
  rw [A2_pos x hi hj]; exact fl_eq x _ (Shape.rowMajor_val_two _)

/-- The reading at coordinates is the reading at their row-major position. -/
theorem A3_fl {a b c : ℕ} (x : (⟨3, ![a, b, c]⟩ : Shape).Idx → EReal) {i j k : ℕ} (hi : i < a) (hj : j < b) (hk : k < c) :
    A3 x i j k = fl x ((i * b + j) * c + k) := by
  rw [A3_pos x hi hj hk]; exact fl_eq x _ (Shape.rowMajor_val_three _)

/-- The reading at coordinates is the reading at their row-major position. -/
theorem A4_fl {a b c d : ℕ} (x : (⟨4, ![a, b, c, d]⟩ : Shape).Idx → EReal) {i j k l : ℕ} (hi : i < a) (hj : j < b)
    (hk : k < c) (hl : l < d) : A4 x i j k l = fl x (((i * b + j) * c + k) * d + l) := by
  rw [A4_pos x hi hj hk hl]; exact fl_eq x _ (Shape.rowMajor_val_four _)

/-- The reading at coordinates is the reading at their row-major position. -/
theorem A5_fl {a b c d e : ℕ} (x : (⟨5, ![a, b, c, d, e]⟩ : Shape).Idx → EReal) {i j k l m : ℕ} (hi : i < a) (hj : j < b)
    (hk : k < c) (hl : l < d) (hm : m < e) : A5 x i j k l m = fl x ((((i * b + j) * c + k) * d + l) * e + m) := by
  rw [A5_pos x hi hj hk hl hm]; exact fl_eq x _ (Shape.rowMajor_val_five _)

/-- The reading at coordinates is the reading at their row-major position. -/
theorem A6_fl {a b c d e f : ℕ} (x : (⟨6, ![a, b, c, d, e, f]⟩ : Shape).Idx → EReal) {i j k l m n : ℕ} (hi : i < a)
    (hj : j < b) (hk : k < c) (hl : l < d) (hm : m < e) (hn : n < f) :
    A6 x i j k l m n = fl x (((((i * b + j) * c + k) * d + l) * e + m) * f + n) := by
  rw [A6_pos x hi hj hk hl hm hn]
  refine fl_eq x _ ?_
  show (Shape.rowMajorPi _ _).val = _
  rw [Shape.rowMajorPi_succ_val, Shape.rowMajorPi_succ_val, Shape.rowMajorPi_succ_val, Shape.rowMajorPi_succ_val,
    Shape.rowMajorPi_succ_val, Shape.rowMajorPi_succ_val]
  simp [Shape.rowMajorPi_zero, Fin.prod_univ_succ, Nat.add_mul, Nat.mul_assoc, Nat.add_assoc, ix6]

/-! ## Reshapes -/

section Casts
variable {a b c d e m : ℕ}

/-- A reshape to the same shape changes nothing. -/
theorem cast_self2 (x : (⟨2, ![a, b]⟩ : Shape).Idx → EReal) (h : (⟨2, ![a, b]⟩ : Shape).ShapeCasts ⟨2, ![a, b]⟩) :
    shapeCast ⟨2, ![a, b]⟩ x h = x := funext fun v => congrArg x (Shape.reshapeEquiv_self _ v)

/-- A vector reshaped to one row. -/
theorem cast1_2 (x : (⟨1, ![a]⟩ : Shape).Idx → EReal) (h : (⟨1, ![a]⟩ : Shape).ShapeCasts ⟨2, ![1, a]⟩) {i : ℕ} (hi : i < a) :
    A2 (shapeCast ⟨2, ![1, a]⟩ x h) 0 i = A1 x i := by
  rw [A2_fl _ Nat.one_pos hi, fl_cast, A1_fl x hi]; congr 1; omega

/-- The rows of a matrix split in two axes. -/
theorem cast2_3 (x : (⟨2, ![m, c]⟩ : Shape).Idx → EReal) (h : (⟨2, ![m, c]⟩ : Shape).ShapeCasts ⟨3, ![a, b, c]⟩) {i j k : ℕ}
    (hi : i < a) (hj : j < b) (hk : k < c) (hm : i * b + j < m) :
    A3 (shapeCast ⟨3, ![a, b, c]⟩ x h) i j k = A2 x (i * b + j) k := by
  rw [A3_fl _ hi hj hk, fl_cast, A2_fl x hm hk]

/-- A unit leading axis added to a matrix. -/
theorem cast2_3_unit (x : (⟨2, ![b, c]⟩ : Shape).Idx → EReal) (h : (⟨2, ![b, c]⟩ : Shape).ShapeCasts ⟨3, ![1, b, c]⟩) {j k : ℕ}
    (hj : j < b) (hk : k < c) : A3 (shapeCast ⟨3, ![1, b, c]⟩ x h) 0 j k = A2 x j k := by
  rw [cast2_3 x h Nat.one_pos hj hk (by omega)]; congr 1; omega

/-- The first two axes merged into rows. -/
theorem cast3_2 (x : (⟨3, ![a, b, c]⟩ : Shape).Idx → EReal) (h : (⟨3, ![a, b, c]⟩ : Shape).ShapeCasts ⟨2, ![m, c]⟩) {i j k : ℕ}
    (hi : i < a) (hj : j < b) (hk : k < c) (hm : i * b + j < m) :
    A2 (shapeCast ⟨2, ![m, c]⟩ x h) (i * b + j) k = A3 x i j k := by
  rw [A3_fl _ hi hj hk, A2_fl _ hm hk, fl_cast]

/-- A unit leading axis dropped from a matrix. -/
theorem cast3_2_unit (x : (⟨3, ![1, b, c]⟩ : Shape).Idx → EReal) (h : (⟨3, ![1, b, c]⟩ : Shape).ShapeCasts ⟨2, ![b, c]⟩) (j k : ℕ) :
    A2 (shapeCast ⟨2, ![b, c]⟩ x h) j k = A3 x 0 j k := by
  by_cases hb : j < b ∧ k < c
  · rw [A3_fl _ Nat.one_pos hb.1 hb.2, A2_fl _ hb.1 hb.2, fl_cast]; congr 1; simp
  · rw [A2_neg _ hb, A3_neg]; omega

/-- Two unit leading axes dropped from a matrix. -/
theorem cast4_2_unit (x : (⟨4, ![1, 1, b, c]⟩ : Shape).Idx → EReal) (h : (⟨4, ![1, 1, b, c]⟩ : Shape).ShapeCasts ⟨2, ![b, c]⟩)
    (j k : ℕ) : A2 (shapeCast ⟨2, ![b, c]⟩ x h) j k = A4 x 0 0 j k := by
  by_cases hb : j < b ∧ k < c
  · rw [A4_fl _ Nat.one_pos Nat.one_pos hb.1 hb.2, A2_fl _ hb.1 hb.2, fl_cast]; congr 1; simp
  · rw [A2_neg _ hb, A4_neg]; omega

/-- A unit leading axis dropped at rank 4. -/
theorem cast4_3_unit (x : (⟨4, ![1, a, b, c]⟩ : Shape).Idx → EReal) (h : (⟨4, ![1, a, b, c]⟩ : Shape).ShapeCasts ⟨3, ![a, b, c]⟩)
    (i j k : ℕ) : A3 (shapeCast ⟨3, ![a, b, c]⟩ x h) i j k = A4 x 0 i j k := by
  by_cases hb : i < a ∧ j < b ∧ k < c
  · rw [A4_fl _ Nat.one_pos hb.1 hb.2.1 hb.2.2, A3_fl _ hb.1 hb.2.1 hb.2.2, fl_cast]; congr 1; simp
  · rw [A3_neg _ hb, A4_neg]; omega

/-- A unit leading axis added at rank 3. -/
theorem cast3_4_unit (x : (⟨3, ![a, b, c]⟩ : Shape).Idx → EReal) (h : (⟨3, ![a, b, c]⟩ : Shape).ShapeCasts ⟨4, ![1, a, b, c]⟩)
    (i j k : ℕ) : A4 (shapeCast ⟨4, ![1, a, b, c]⟩ x h) 0 i j k = A3 x i j k := by
  by_cases hb : i < a ∧ j < b ∧ k < c
  · rw [A4_fl _ Nat.one_pos hb.1 hb.2.1 hb.2.2, A3_fl _ hb.1 hb.2.1 hb.2.2, fl_cast]; congr 1; simp
  · rw [A3_neg _ hb, A4_neg]; omega

/-- The leading axis split in two. -/
theorem cast3_4_lead (x : (⟨3, ![m, c, d]⟩ : Shape).Idx → EReal) (h : (⟨3, ![m, c, d]⟩ : Shape).ShapeCasts ⟨4, ![a, b, c, d]⟩)
    {i j k l : ℕ} (hi : i < a) (hj : j < b) (hk : k < c) (hl : l < d) (hm : i * b + j < m) :
    A4 (shapeCast ⟨4, ![a, b, c, d]⟩ x h) i j k l = A3 x (i * b + j) k l := by
  rw [A4_fl _ hi hj hk hl, fl_cast, A3_fl _ hm hk hl]

/-- The middle axis split in two. -/
theorem cast3_4_mid (x : (⟨3, ![a, m, d]⟩ : Shape).Idx → EReal) (h : (⟨3, ![a, m, d]⟩ : Shape).ShapeCasts ⟨4, ![a, b, c, d]⟩)
    {i j k l : ℕ} (hi : i < a) (hj : j < b) (hk : k < c) (hl : l < d) (hm : j * c + k < m) (he : m = b * c) :
    A4 (shapeCast ⟨4, ![a, b, c, d]⟩ x h) i j k l = A3 x i (j * c + k) l := by
  subst he
  rw [A4_fl _ hi hj hk hl, fl_cast, A3_fl _ hi hm hl]; congr 1; ring

/-- A unit second axis dropped. -/
theorem cast4_3_ax1 (x : (⟨4, ![a, 1, b, c]⟩ : Shape).Idx → EReal) (h : (⟨4, ![a, 1, b, c]⟩ : Shape).ShapeCasts ⟨3, ![a, b, c]⟩)
    (i j k : ℕ) : A3 (shapeCast ⟨3, ![a, b, c]⟩ x h) i j k = A4 x i 0 j k := by
  by_cases hb : i < a ∧ j < b ∧ k < c
  · rw [A4_fl _ hb.1 Nat.one_pos hb.2.1 hb.2.2, A3_fl _ hb.1 hb.2.1 hb.2.2, fl_cast]; congr 1; simp
  · rw [A3_neg _ hb, A4_neg]; omega

/-- A unit third axis dropped. -/
theorem cast4_3_ax2 (x : (⟨4, ![a, b, 1, c]⟩ : Shape).Idx → EReal) (h : (⟨4, ![a, b, 1, c]⟩ : Shape).ShapeCasts ⟨3, ![a, b, c]⟩)
    (i j k : ℕ) : A3 (shapeCast ⟨3, ![a, b, c]⟩ x h) i j k = A4 x i j 0 k := by
  by_cases hb : i < a ∧ j < b ∧ k < c
  · rw [A4_fl _ hb.1 hb.2.1 Nat.one_pos hb.2.2, A3_fl _ hb.1 hb.2.1 hb.2.2, fl_cast]; congr 1; simp
  · rw [A3_neg _ hb, A4_neg]; omega

end Casts

/-! ## Concatenations of two arrays of rank 3 -/

section Concat
variable {a b c m n : ℕ}

/-- Two arrays laid one after the other along the first axis. -/
theorem cat3_0 (x : (⟨3, ![a, b, c]⟩ : Shape).Idx → EReal) (y : (⟨3, ![n, b, c]⟩ : Shape).Idx → EReal)
    (h : Shape.Concatenates (([⟨⟨3, ![a, b, c]⟩, x⟩, ⟨⟨3, ![n, b, c]⟩, y⟩] : List ((s : Shape) × (s.Idx → EReal))).map (·.1)) ⟨3, ![m, b, c]⟩ 0)
    {i j k : ℕ} (hi : i < m) (hj : j < b) (hk : k < c) :
    A3 (concatenate ⟨3, ![m, b, c]⟩ 0 [⟨⟨3, ![a, b, c]⟩, x⟩, ⟨⟨3, ![n, b, c]⟩, y⟩] h) i j k
      = if i < a then A3 x i j k else A3 y (i - a) j k := by
  have hm : m = a + n := by have := h.2.2; simpa using this.symm
  rw [A3_pos _ hi hj hk, concatenate_cons_apply, concatenateAt_cons]
  by_cases hc : i < a
  · rw [if_pos hc, A3_pos x hc hj hk]
    refine (dif_pos hc).trans ?_
    rw [Shape.Idx.norm_def]
    refine congrArg x (funext fun t => ?_)
    match t with | ⟨0, _⟩ => rfl | ⟨1, _⟩ => rfl | ⟨2, _⟩ => rfl
  · rw [if_neg hc, A3_pos y (show i - a < n by omega) hj hk]
    refine (dif_neg hc).trans ?_
    rw [concatenateAt_singleton, Shape.Idx.norm_def]
    refine congrArg y (funext fun t => ?_)
    match t with | ⟨0, _⟩ => rfl | ⟨1, _⟩ => rfl | ⟨2, _⟩ => rfl

/-- Two arrays laid one after the other along the second axis. -/
theorem cat3_1 (x : (⟨3, ![b, a, c]⟩ : Shape).Idx → EReal) (y : (⟨3, ![b, n, c]⟩ : Shape).Idx → EReal)
    (h : Shape.Concatenates (([⟨⟨3, ![b, a, c]⟩, x⟩, ⟨⟨3, ![b, n, c]⟩, y⟩] : List ((s : Shape) × (s.Idx → EReal))).map (·.1)) ⟨3, ![b, m, c]⟩ 1)
    {i j k : ℕ} (hi : i < b) (hj : j < m) (hk : k < c) :
    A3 (concatenate ⟨3, ![b, m, c]⟩ 1 [⟨⟨3, ![b, a, c]⟩, x⟩, ⟨⟨3, ![b, n, c]⟩, y⟩] h) i j k
      = if j < a then A3 x i j k else A3 y i (j - a) k := by
  have hm : m = a + n := by have := h.2.2; simpa using this.symm
  rw [A3_pos _ hi hj hk, concatenate_cons_apply, concatenateAt_cons]
  by_cases hc : j < a
  · rw [if_pos hc, A3_pos x hi hc hk]
    refine (dif_pos hc).trans ?_
    rw [Shape.Idx.norm_def]
    refine congrArg x (funext fun t => ?_)
    match t with | ⟨0, _⟩ => rfl | ⟨1, _⟩ => rfl | ⟨2, _⟩ => rfl
  · rw [if_neg hc, A3_pos y hi (show j - a < n by omega) hk]
    refine (dif_neg hc).trans ?_
    rw [concatenateAt_singleton, Shape.Idx.norm_def]
    refine congrArg y (funext fun t => ?_)
    match t with | ⟨0, _⟩ => rfl | ⟨1, _⟩ => rfl | ⟨2, _⟩ => rfl

/-- Arrays of one shape laid side by side along the columns: column `q * c + k` is column `k` of array `q`. -/
theorem cat2_1 (xs : List ((⟨2, ![a, c]⟩ : Shape).Idx → EReal))
    (h : Shape.Concatenates ((xs.map fun x => (⟨⟨2, ![a, c]⟩, x⟩ : (s : Shape) × (s.Idx → EReal))).map (·.1)) ⟨2, ![a, m]⟩ 1)
    {i k q : ℕ} (hi : i < a) (hk : k < c) (hq : q < xs.length) (hm : q * c + k < m) :
    A2 (concatenate ⟨2, ![a, m]⟩ 1 (xs.map fun x => (⟨⟨2, ![a, c]⟩, x⟩ : (s : Shape) × (s.Idx → EReal))) h) i (q * c + k)
      = A2 xs[q] i k := by
  rw [A2_pos _ hi hm, concatenate_apply]
  have key : ∀ (xs : List ((⟨2, ![a, c]⟩ : Shape).Idx → EReal)) (q : ℕ) (hq : q < xs.length)
      (hs : ∀ s ∈ (xs.map fun x => (⟨⟨2, ![a, c]⟩, x⟩ : (s : Shape) × (s.Idx → EReal))).map (·.1), s.FitsOff ⟨2, ![a, m]⟩ 1) (u : ℕ)
      (hu : u = q * c + k) (hc : u < (axisSizes ⟨2, ![a, m]⟩ 1 (xs.map fun x => (⟨⟨2, ![a, c]⟩, x⟩ : (s : Shape) × (s.Idx → EReal)))).sum)
      (v : (⟨2, ![a, m]⟩ : Shape).Idx) (hv : (v 0).val = i),
      concatenateAt ⟨2, ![a, m]⟩ 1 v (xs.map fun x => (⟨⟨2, ![a, c]⟩, x⟩ : (s : Shape) × (s.Idx → EReal))) hs u hc = A2 xs[q] i k := by
    intro xs
    induction xs with
    | nil => intro q hq; exact absurd hq (Nat.not_lt_zero _)
    | cons x xs ih =>
      intro q hq hs u hu hc v hv
      have here : ∀ (hk' : u < c), q = 0 → x (Shape.Idx.norm fun t : Fin 2 => ⟨if t.val = 1 then u else (v t).val, by
            match t with
            | ⟨0, _⟩ => exact (v 0).isLt
            | ⟨1, _⟩ => exact hk'⟩) = A2 (x :: xs)[q] i k := by
        intro hk' h0
        subst h0
        have hu' : u = k := by omega
        subst hu'
        rw [List.getElem_cons_zero, A2_pos x hi hk', Shape.Idx.norm_def]
        refine congrArg x (funext fun t => Fin.ext ?_)
        match t with | ⟨0, _⟩ => exact hv | ⟨1, _⟩ => rfl
      cases xs with
      | nil =>
        have h0 : q = 0 := by simpa using hq
        have hk' : u < c := by rw [hu, h0]; omega
        simp only [List.map_cons, List.map_nil, concatenateAt_singleton]
        exact here hk' h0
      | cons y ys =>
        simp only [List.map_cons, concatenateAt_cons]
        by_cases hk' : u < c
        · have h0 : q = 0 := by
            rcases Nat.eq_zero_or_pos q with h | h
            · exact h
            · have := Nat.le_mul_of_pos_left c h; omega
          exact (dif_pos hk').trans (here hk' h0)
        · have h0 : q ≠ 0 := by rintro rfl; omega
          obtain ⟨p, rfl⟩ : ∃ p, q = p + 1 := ⟨q - 1, by omega⟩
          refine (dif_neg hk').trans ?_
          exact ih p (by simpa using hq) _ _ (by show u - c = _; rw [hu, Nat.succ_mul]; omega) _ v hv
  exact key xs q hq _ _ rfl _ _ rfl

/-- Arrays of one shape stacked along the rows: row `q * c + k` is row `k` of array `q`. -/
theorem cat2_0 (xs : List ((⟨2, ![c, a]⟩ : Shape).Idx → EReal))
    (h : Shape.Concatenates ((xs.map fun x => (⟨⟨2, ![c, a]⟩, x⟩ : (s : Shape) × (s.Idx → EReal))).map (·.1)) ⟨2, ![m, a]⟩ 0)
    {i k q : ℕ} (hi : i < a) (hk : k < c) (hq : q < xs.length) (hm : q * c + k < m) :
    A2 (concatenate ⟨2, ![m, a]⟩ 0 (xs.map fun x => (⟨⟨2, ![c, a]⟩, x⟩ : (s : Shape) × (s.Idx → EReal))) h) (q * c + k) i
      = A2 xs[q] k i := by
  rw [A2_pos _ hm hi, concatenate_apply]
  have key : ∀ (xs : List ((⟨2, ![c, a]⟩ : Shape).Idx → EReal)) (q : ℕ) (hq : q < xs.length)
      (hs : ∀ s ∈ (xs.map fun x => (⟨⟨2, ![c, a]⟩, x⟩ : (s : Shape) × (s.Idx → EReal))).map (·.1), s.FitsOff ⟨2, ![m, a]⟩ 0) (u : ℕ)
      (hu : u = q * c + k) (hc : u < (axisSizes ⟨2, ![m, a]⟩ 0 (xs.map fun x => (⟨⟨2, ![c, a]⟩, x⟩ : (s : Shape) × (s.Idx → EReal)))).sum)
      (v : (⟨2, ![m, a]⟩ : Shape).Idx) (hv : (v 1).val = i),
      concatenateAt ⟨2, ![m, a]⟩ 0 v (xs.map fun x => (⟨⟨2, ![c, a]⟩, x⟩ : (s : Shape) × (s.Idx → EReal))) hs u hc = A2 xs[q] k i := by
    intro xs
    induction xs with
    | nil => intro q hq; exact absurd hq (Nat.not_lt_zero _)
    | cons x xs ih =>
      intro q hq hs u hu hc v hv
      have here : ∀ (hk' : u < c), q = 0 → x (Shape.Idx.norm fun t : Fin 2 => ⟨if t.val = 0 then u else (v t).val, by
            match t with
            | ⟨0, _⟩ => exact hk'
            | ⟨1, _⟩ => exact (v 1).isLt⟩) = A2 (x :: xs)[q] k i := by
        intro hk' h0
        subst h0
        have hu' : u = k := by omega
        subst hu'
        rw [List.getElem_cons_zero, A2_pos x hk' hi, Shape.Idx.norm_def]
        refine congrArg x (funext fun t => Fin.ext ?_)
        match t with | ⟨0, _⟩ => rfl | ⟨1, _⟩ => exact hv
      cases xs with
      | nil =>
        have h0 : q = 0 := by simpa using hq
        have hk' : u < c := by rw [hu, h0]; omega
        simp only [List.map_cons, List.map_nil, concatenateAt_singleton]
        exact here hk' h0
      | cons y ys =>
        simp only [List.map_cons, concatenateAt_cons]
        by_cases hk' : u < c
        · have h0 : q = 0 := by
            rcases Nat.eq_zero_or_pos q with h | h
            · exact h
            · have := Nat.le_mul_of_pos_left c h; omega
          exact (dif_pos hk').trans (here hk' h0)
        · have h0 : q ≠ 0 := by rintro rfl; omega
          obtain ⟨p, rfl⟩ : ∃ p, q = p + 1 := ⟨q - 1, by omega⟩
          refine (dif_neg hk').trans ?_
          exact ih p (by simpa using hq) _ _ (by show u - c = _; rw [hu, Nat.succ_mul]; omega) _ v hv
  exact key xs q hq _ _ rfl _ _ rfl

end Concat

/-! ## Elementwise operations, broadcasts, contractions -/

section Elementwise
variable {a b c d : ℕ} {φ : FTy}

/-- An entrywise sum, read at coordinates. -/
theorem A2_addf (x y : FVec Ideal ⟨2, ![a, b]⟩ φ) (i j : ℕ) : A2 (addf x y) i j = A2 x i j + A2 y i j := by
  unfold A2; split
  · rfl
  · exact (add_zero 0).symm

/-- An entrywise product, read at coordinates. -/
theorem A2_mulf (x y : FVec Ideal ⟨2, ![a, b]⟩ φ) (i j : ℕ) : A2 (mulf x y) i j = A2 x i j * A2 y i j := by
  unfold A2; split
  · rfl
  · exact (mul_zero 0).symm

/-- An entrywise maximum, read at coordinates. -/
theorem A2_maximumf (x y : FVec Ideal ⟨2, ![a, b]⟩ φ) (i j : ℕ) : A2 (maximumf x y) i j = max (A2 x i j) (A2 y i j) := by
  unfold A2; split
  · rfl
  · exact (max_self 0).symm

/-- An entrywise maximum at rank 3, read at coordinates. -/
theorem A3_maximumf (x y : FVec Ideal ⟨3, ![a, b, c]⟩ φ) (i j k : ℕ) :
    A3 (maximumf x y) i j k = max (A3 x i j k) (A3 y i j k) := by
  unfold A3; split
  · rfl
  · exact (max_self 0).symm

/-- A scalar spread over a matrix reads as the scalar. -/
theorem A2_splat (v : EReal) {i j : ℕ} (hi : i < a) (hj : j < b) : A2 (broadcast (⟨2, ![a, b]⟩ : Shape) v) i j = v :=
  A2_pos _ hi hj

/-- A zero spread over an array reads as zero everywhere. -/
theorem A3_splat_zero (v : EReal) (hv : v = 0) (i j k : ℕ) : A3 (broadcast (⟨3, ![a, b, c]⟩ : Shape) v) i j k = 0 := by
  subst hv; unfold A3; split <;> rfl

/-- A row repeated down a matrix reads as the row. -/
theorem A2_row (x : (⟨2, ![1, b]⟩ : Shape).Idx → EReal) (h : (⟨2, ![1, b]⟩ : Shape).Broadcasts ⟨2, ![a, b]⟩) {i j : ℕ}
    (hi : i < a) (hj : j < b) : A2 (broadcastTo ⟨2, ![a, b]⟩ x h) i j = A2 x 0 j := by
  rw [A2_pos _ hi hj, A2_pos x Nat.one_pos hj]
  simp only [pointwise]
  refine congrArg x ?_
  refine funext fun t => Fin.ext ?_
  match t with
  | ⟨0, _⟩ => rfl
  | ⟨1, _⟩ =>
    show (if h : b = 1 then (⟨0, _⟩ : Fin _) else ⟨j, _⟩).val = j
    split
    · show 0 = j; omega
    · rfl

/-- The zero word of the wide float is zero. -/
theorem ofBits_zero_f32 : (Scalar.ofBits (F := Ideal) .f32 0x00000000#32) = (0 : EReal) := by
  simp [Scalar.ofBits]

end Elementwise

/-- The dimension numbers of a plain matrix product: columns of the first operand against rows of the second. -/
def IsMM {M K N : ℕ} (d : DotDims ⟨2, ![M, K]⟩ ⟨2, ![K, N]⟩ ⟨2, ![M, N]⟩) : Prop :=
  ∀ (l : (⟨2, ![M, K]⟩ : Shape).Idx → EReal) (r : (⟨2, ![K, N]⟩ : Shape).Idx → EReal) (z : (⟨2, ![M, N]⟩ : Shape).Idx → EReal)
    (i : Fin M) (j : Fin N), Ideal.matmul d l r z (ix2 i j) = z (ix2 i j) + ∑ k : Fin K, l (ix2 i k) * r (ix2 k j)

/-- A matrix product onto a zero accumulator, at coordinates. -/
theorem A2_mm {M K N : ℕ} {d : DotDims ⟨2, ![M, K]⟩ ⟨2, ![K, N]⟩ ⟨2, ![M, N]⟩} (hd : IsMM d) {φ₁ φ₂ : FTy}
    (l : FVec Ideal ⟨2, ![M, K]⟩ φ₁) (r : FVec Ideal ⟨2, ![K, N]⟩ φ₂) {i j : ℕ} (hi : i < M) (hj : j < N) :
    A2 (matmul d none l r (constant ⟨2, ![M, N]⟩ .f32 0x00000000#32)) i j = ∑ k ∈ Finset.range K, A2 l i k * A2 r k j := by
  rw [A2_pos _ hi hj]
  refine (hd l r _ ⟨i, hi⟩ ⟨j, hj⟩).trans ?_
  rw [Finset.sum_range, show (constant (F := Ideal) ⟨2, ![M, N]⟩ .f32 0x00000000#32) (ix2 ⟨i, hi⟩ ⟨j, hj⟩) = (0 : EReal) from ofBits_zero_f32,
    zero_add]
  exact Finset.sum_congr rfl fun k _ => by rw [A2_pos l hi k.isLt, A2_pos r k.isLt hj]

/-- A sum over `a * b` positions, as `a` sums of `b`. -/
theorem sum_mul_range (a b : ℕ) (f : ℕ → EReal) :
    ∑ k ∈ Finset.range (a * b), f k = ∑ i ∈ Finset.range a, ∑ j ∈ Finset.range b, f (i * b + j) := by
  induction a with
  | zero => simp
  | succ a ih => rw [Nat.succ_mul, Finset.sum_range_add, ih, Finset.sum_range_succ]

end Cert.Net
-- ==== Proof.Spec.lean ====
/-
  THE NETWORK'S LAYERS, as functions of natural coordinates: an image is `X c h w` (channel, row, column), `0` outside its
  extents.
-/
module

public import Idealize.ShloMosaic.PureOps
public import Idealize.ShloMosaic.PureOps.Ideal
public import Mathlib.Analysis.SpecialFunctions.Pow.Real

@[expose] public section

noncomputable section

open scoped BigOperators

namespace Cert.Net

open Idealize.ShloMosaic

/-- An image padded by `p` zero rows above and `p` zero columns on the left. -/
def padS (p : ℕ) (X : ℕ → ℕ → ℕ → EReal) (c h w : ℕ) : EReal := if p ≤ h ∧ p ≤ w then X c (h - p) (w - p) else 0

/-- An image cut to `C` channels of `H` rows and `W` columns, `0` outside. -/
def clip (C H W : ℕ) (X : ℕ → ℕ → ℕ → EReal) (c h w : ℕ) : EReal := if c < C ∧ h < H ∧ w < W then X c h w else 0

/-- A convolution by `K × K` windows at stride `s`, its bias added, its negative values cut to `0`. -/
def convS (C K s : ℕ) (X : ℕ → ℕ → ℕ → EReal) (W : ℕ → ℕ → ℕ → ℕ → EReal) (b : ℕ → EReal) (o h w : ℕ) : EReal :=
  max ((∑ c ∈ Finset.range C, ∑ i ∈ Finset.range K, ∑ j ∈ Finset.range K, X c (s * h + i) (s * w + j) * W o c i j) + b o) 0

/-- The sum of the squares over the five channels about `c`, of `C` channels. -/
def sqS (C : ℕ) (y : ℕ → EReal) (c : ℕ) : EReal :=
  ∑ k ∈ Finset.range C, if k ≤ c + 2 ∧ c ≤ k + 2 then y k * y k else 0

/-- The constants of the normalisation, as the programs write them. -/
def kα : EReal := Scalar.ofBits (F := Ideal) .f32 0x38D1B717#32
/-- The constant added before the power. -/
def κ2 : EReal := Scalar.ofBits (F := Ideal) .f32 0x40000000#32
/-- The power. -/
def kβ : EReal := Scalar.ofBits (F := Ideal) .f32 0x3F400000#32

/-- One value normalised by the sum of squares `d`. -/
def normV (y d : EReal) : EReal := Ideal.div y (Ideal.pow (κ2 + kα * d) kβ)

/-- The local response normalisation over channels. -/
def lrnS (C : ℕ) (Y : ℕ → ℕ → ℕ → EReal) (c h w : ℕ) : EReal := normV (Y c h w) (sqS C (fun k => Y k h w) c)

/-- The greatest of three. -/
def max3 (f : ℕ → EReal) (i : ℕ) : EReal := max (max (f (2 * i)) (f (2 * i + 1))) (f (2 * i + 2))

/-- The greatest value over `3 × 3` windows at stride 2. -/
def poolS (Y : ℕ → ℕ → ℕ → EReal) (c h w : ℕ) : EReal := max3 (fun q => max3 (fun p => Y c p q) h) w

/-- A dense layer: products summed, bias added, negative values cut to `0`. -/
def fcS (K : ℕ) (x : ℕ → EReal) (W : ℕ → ℕ → EReal) (b : ℕ → EReal) (m : ℕ) : EReal :=
  max ((∑ k ∈ Finset.range K, x k * W m k) + b m) 0

/-- The first stage of one image: convolution, normalisation, pooling to 96 channels of 27 × 27. -/
def L1 (X : ℕ → ℕ → ℕ → EReal) (W : ℕ → ℕ → ℕ → ℕ → EReal) (b : ℕ → EReal) : ℕ → ℕ → ℕ → EReal :=
  clip 96 27 27 (poolS (lrnS 96 (convS 3 11 4 (padS 2 X) W b)))

/-- The second stage: convolution, normalisation, pooling to 256 channels of 13 × 13. -/
def L2 (X : ℕ → ℕ → ℕ → EReal) (W : ℕ → ℕ → ℕ → ℕ → EReal) (b : ℕ → EReal) : ℕ → ℕ → ℕ → EReal :=
  clip 256 13 13 (poolS (lrnS 256 (convS 96 5 1 (padS 2 X) W b)))

/-- A `3 × 3` convolution of `C` channels to `O` channels of 13 × 13. -/
def L3 (C O : ℕ) (X : ℕ → ℕ → ℕ → EReal) (W : ℕ → ℕ → ℕ → ℕ → EReal) (b : ℕ → EReal) : ℕ → ℕ → ℕ → EReal :=
  clip O 13 13 (convS C 3 1 (padS 1 X) W b)

end Cert.Net
-- ==== Proof.Norm.lean ====
/-
  THE NORMALISATION'S ARITHMETIC: `y · (r · √r)` with `r` the inverse square root of `2 + α·d` is `y` divided by the `3/4`
  power of `2 + α·d`, for every `y, d ≥ 0`, the infinities included.
-/
module

public import proofs.«01_k».proof.Proof.Spec
import Mathlib.Analysis.SpecialFunctions.Pow.NNReal

@[expose] public section

noncomputable section

open scoped BigOperators

namespace Cert.Net

open Idealize.ShloMosaic

/-- The added constant is two. -/
theorem κ2_eq : κ2 = ((2 : ℝ) : EReal) := by
  simp [κ2, Scalar.ofBits, Ideal.ofBits, Ideal.ieee, -EReal.coe_mul]; norm_num

/-- The power is three quarters. -/
theorem kβ_eq : kβ = ((3 / 4 : ℝ) : EReal) := by
  simp [kβ, Scalar.ofBits, Ideal.ofBits, Ideal.ieee, -EReal.coe_mul]; norm_num

/-- The factor of the sum of squares is a positive real. -/
theorem kα_eq : ∃ α : ℝ, 0 < α ∧ kα = (α : EReal) := by
  refine ⟨_, ?_, by simp [kα, Scalar.ofBits, Ideal.ofBits, Ideal.ieee, -EReal.coe_mul]; rfl⟩
  norm_num

/-- For a positive real, the inverse root times its own root is the inverse of the `3/4` power. -/
theorem norm_real (u : ℝ) (hu : 0 < u) :
    Ideal.rsqrt (u : EReal) * Ideal.sqrt (Ideal.rsqrt (u : EReal)) = (((Real.rpow u (3 / 4))⁻¹ : ℝ) : EReal) := by
  have hs : 0 < Real.sqrt u := Real.sqrt_pos.mpr hu
  rw [Ideal.rsqrt_coe, if_neg (not_lt.mpr hu.le), if_neg hu.ne', Ideal.sqrt_coe, if_neg (not_lt.mpr (inv_nonneg.mpr hs.le)),
    ← EReal.coe_mul]
  refine congrArg _ ?_
  have e1 : (Real.sqrt u)⁻¹ = u ^ (-(1 / 2) : ℝ) := by rw [Real.sqrt_eq_rpow, Real.rpow_neg hu.le]
  rw [e1, Real.sqrt_eq_rpow, ← Real.rpow_mul hu.le, ← Real.rpow_add hu]
  show _ = (u ^ (3 / 4 : ℝ))⁻¹
  rw [← Real.rpow_neg hu.le]
  norm_num

/-- The kernel's normalisation of one value is the specification's, for every sum of squares `d ≥ 0`. -/
theorem norm_eq (y d : EReal) (hd : 0 ≤ d) :
    y * (Ideal.rsqrt (κ2 + kα * d) * Ideal.sqrt (Ideal.rsqrt (κ2 + kα * d))) = normV y d := by
  obtain ⟨α, hα, eα⟩ := kα_eq
  unfold normV
  rw [κ2_eq, kβ_eq, eα]
  induction d with
  | bot => exact absurd hd (by simp)
  | top =>
    rw [EReal.coe_mul_top_of_pos hα, EReal.coe_add_top, Ideal.rsqrt_top, zero_mul, mul_zero, Ideal.pow_top,
      if_pos (by exact_mod_cast (by norm_num : (0 : ℝ) < 3 / 4))]
    unfold Ideal.div
    rw [if_neg (by simp), EReal.inv_top, mul_zero]
  | coe d =>
    have hd' : 0 ≤ d := by exact_mod_cast hd
    have hu : 0 < 2 + α * d := by positivity
    rw [← EReal.coe_mul, ← EReal.coe_add, norm_real _ hu, Ideal.pow_coe_coe]
    have hp : 0 < Real.rpow (2 + α * d) (3 / 4) := Real.rpow_pos_of_pos hu _
    unfold Ideal.div
    rw [if_neg (by exact_mod_cast hp.ne'), EReal.coe_inv]

end Cert.Net
-- ==== Proof.Ops.lean ====
/-
  WHAT ONE BLOCK COMPUTES, PIECE BY PIECE: the kernels' vector operations as functions of arrays, each read at natural
  coordinates as one of the layers of `Spec`.
-/
module

public import proofs.«01_k».proof.Proof.Acc
public import proofs.«01_k».proof.Proof.Norm

@[expose] public section

noncomputable section

open scoped BigOperators

namespace Cert.Net

open Idealize.ShloMosaic

/-- A concatenation of equal pieces along the columns, the list of pieces given as one of arrays. -/
theorem cat2_1_of {a c m : ℕ} (L : List ((s : Shape) × (s.Idx → EReal))) (xs : List ((⟨2, ![a, c]⟩ : Shape).Idx → EReal))
    (hL : L = xs.map fun x => (⟨⟨2, ![a, c]⟩, x⟩ : (s : Shape) × (s.Idx → EReal)))
    (h : Shape.Concatenates (L.map (·.1)) ⟨2, ![a, m]⟩ 1)
    {i k q : ℕ} (hi : i < a) (hk : k < c) (hq : q < xs.length) (hm : q * c + k < m) :
    A2 (concatenate ⟨2, ![a, m]⟩ 1 L h) i (q * c + k) = A2 xs[q] i k := by
  subst hL; exact cat2_1 xs h hi hk hq hm

/-- A concatenation of equal pieces along the rows, the list of pieces given as one of arrays. -/
theorem cat2_0_of {a c m : ℕ} (L : List ((s : Shape) × (s.Idx → EReal))) (xs : List ((⟨2, ![c, a]⟩ : Shape).Idx → EReal))
    (hL : L = xs.map fun x => (⟨⟨2, ![c, a]⟩, x⟩ : (s : Shape) × (s.Idx → EReal)))
    (h : Shape.Concatenates (L.map (·.1)) ⟨2, ![m, a]⟩ 0)
    {i k q : ℕ} (hi : i < a) (hk : k < c) (hq : q < xs.length) (hm : q * c + k < m) :
    A2 (concatenate ⟨2, ![m, a]⟩ 0 L h) (q * c + k) i = A2 xs[q] k i := by
  subst hL; exact cat2_0 xs h hi hk hq hm

/-- A matrix transposed. -/
theorem A2_transpose {a b : ℕ} (x : (⟨2, ![a, b]⟩ : Shape).Idx → EReal) (h : (⟨2, ![a, b]⟩ : Shape).Transposes [1, 0] ⟨2, ![b, a]⟩)
    {i j : ℕ} (hi : i < b) (hj : j < a) : A2 (transpose ⟨2, ![b, a]⟩ [1, 0] x h) i j = A2 x j i := by
  rw [A2_pos _ hi hj, A2_pos x hj hi]
  refine congrArg x (funext fun a => Fin.ext ?_)
  match a with
  | ⟨0, _⟩ => rfl
  | ⟨1, _⟩ => rfl

/-! ## A 3 × 3 convolution over a 16 × 16 image held as 256 rows -/

/-- The side conditions of the operations of one `3 × 3` convolution of `C` channels to `O`. -/
structure ConvOk (C K O : ℕ) where
  hK : K = 3 * C
  flat : (⟨3, ![16, 16, C]⟩ : Shape).ShapeCasts ⟨2, ![256, C]⟩
  s0 : (⟨2, ![256, C]⟩ : Shape).Slices ![0, 0] ⟨2, ![240, C]⟩
  s1 : (⟨2, ![256, C]⟩ : Shape).Slices ![1, 0] ⟨2, ![240, C]⟩
  s2 : (⟨2, ![256, C]⟩ : Shape).Slices ![2, 0] ⟨2, ![240, C]⟩
  cat : Shape.Concatenates [(⟨2, ![240, C]⟩ : Shape), ⟨2, ![240, C]⟩, ⟨2, ![240, C]⟩] ⟨2, ![240, K]⟩ 1
  t0 : (⟨2, ![240, K]⟩ : Shape).Slices ![0, 0] ⟨2, ![208, K]⟩
  t1 : (⟨2, ![240, K]⟩ : Shape).Slices ![16, 0] ⟨2, ![208, K]⟩
  t2 : (⟨2, ![240, K]⟩ : Shape).Slices ![32, 0] ⟨2, ![208, K]⟩
  wgt : (⟨3, ![1, K, O]⟩ : Shape).ShapeCasts ⟨2, ![K, O]⟩
  d : DotDims ⟨2, ![208, K]⟩ ⟨2, ![K, O]⟩ ⟨2, ![208, O]⟩
  hd : IsMM d
  bs : (⟨2, ![1, O]⟩ : Shape).ShapeCasts ⟨2, ![1, O]⟩
  bb : (⟨2, ![1, O]⟩ : Shape).Broadcasts ⟨2, ![208, O]⟩
  img : (⟨2, ![208, O]⟩ : Shape).ShapeCasts ⟨3, ![13, 16, O]⟩

variable {C K O : ℕ}

/-- The three shifted copies of the image side by side. -/
def convCols (k : ConvOk C K O) (x : FVec Ideal ⟨3, ![16, 16, C]⟩ .bf16) : FVec Ideal ⟨2, ![240, K]⟩ .bf16 :=
  concatenate ⟨2, ![240, K]⟩ 1
    [⟨⟨2, ![240, C]⟩, extractStridedSlice ⟨2, ![240, C]⟩ ![0, 0] (shapeCast ⟨2, ![256, C]⟩ x k.flat) k.s0⟩,
     ⟨⟨2, ![240, C]⟩, extractStridedSlice ⟨2, ![240, C]⟩ ![1, 0] (shapeCast ⟨2, ![256, C]⟩ x k.flat) k.s1⟩,
     ⟨⟨2, ![240, C]⟩, extractStridedSlice ⟨2, ![240, C]⟩ ![2, 0] (shapeCast ⟨2, ![256, C]⟩ x k.flat) k.s2⟩] k.cat

/-- The convolution's rows before the bias: the sum of three matrix products. -/
def convSum (k : ConvOk C K O) (x : FVec Ideal ⟨3, ![16, 16, C]⟩ .bf16) (w0 w1 w2 : FVec Ideal ⟨3, ![1, K, O]⟩ .bf16) :
    FVec Ideal ⟨2, ![208, O]⟩ .f32 :=
  addf (addf
    (matmul k.d none (extractStridedSlice ⟨2, ![208, K]⟩ ![0, 0] (convCols k x) k.t0) (shapeCast ⟨2, ![K, O]⟩ w0 k.wgt)
      (constant ⟨2, ![208, O]⟩ .f32 0x00000000#32))
    (matmul k.d none (extractStridedSlice ⟨2, ![208, K]⟩ ![16, 0] (convCols k x) k.t1) (shapeCast ⟨2, ![K, O]⟩ w1 k.wgt)
      (constant ⟨2, ![208, O]⟩ .f32 0x00000000#32)))
    (matmul k.d none (extractStridedSlice ⟨2, ![208, K]⟩ ![32, 0] (convCols k x) k.t2) (shapeCast ⟨2, ![K, O]⟩ w2 k.wgt)
      (constant ⟨2, ![208, O]⟩ .f32 0x00000000#32))

/-- The convolution of one image, 13 rows of 16 columns (the last three columns without meaning). -/
def conv3 (k : ConvOk C K O) (x : FVec Ideal ⟨3, ![16, 16, C]⟩ .bf16) (w0 w1 w2 : FVec Ideal ⟨3, ![1, K, O]⟩ .bf16)
    (b : FVec Ideal ⟨2, ![1, O]⟩ .f32) : FVec Ideal ⟨3, ![13, 16, O]⟩ .bf16 :=
  shapeCast ⟨3, ![13, 16, O]⟩
    (truncf .bf16 (maximumf
      (addf (convSum k x w0 w1 w2) (broadcastTo ⟨2, ![208, O]⟩ (shapeCast ⟨2, ![1, O]⟩ b k.bs) k.bb))
      (broadcast ⟨2, ![208, O]⟩ (Scalar.ofBits .f32 0x00000000#32))) (by decide)) k.img

/-- Three shifts of the lines laid side by side: column `q * C + c` of line `r` is column `c` of line `r + q`. -/
theorem convCols_at (k : ConvOk C K O) (x : FVec Ideal ⟨3, ![16, 16, C]⟩ .bf16) {r q c : ℕ} (hr : r < 240) (hq : q < 3)
    (hc : c < C) : A2 (convCols k x) r (q * C + c) = A2 (shapeCast ⟨2, ![256, C]⟩ x k.flat) (r + q) c := by
  have hm : q * C + c < K := by
    have h := Nat.mul_le_mul_right C (show q + 1 ≤ 3 from hq)
    rw [Nat.succ_mul, ← k.hK] at h; omega
  unfold convCols
  generalize shapeCast ⟨2, ![256, C]⟩ x k.flat = y
  have e := cat2_1_of [⟨⟨2, ![240, C]⟩, extractStridedSlice ⟨2, ![240, C]⟩ ![0, 0] y k.s0⟩,
     ⟨⟨2, ![240, C]⟩, extractStridedSlice ⟨2, ![240, C]⟩ ![1, 0] y k.s1⟩,
     ⟨⟨2, ![240, C]⟩, extractStridedSlice ⟨2, ![240, C]⟩ ![2, 0] y k.s2⟩] [extractStridedSlice ⟨2, ![240, C]⟩ ![0, 0] y k.s0,
    extractStridedSlice ⟨2, ![240, C]⟩ ![1, 0] y k.s1, extractStridedSlice ⟨2, ![240, C]⟩ ![2, 0] y k.s2] rfl k.cat hr hc hq hm
  refine e.trans ?_
  have s0 := A2_slice y k.s0 hr hc
  have s1 := A2_slice y k.s1 hr hc
  have s2 := A2_slice y k.s2 hr hc
  rw [Nat.zero_add] at s0 s1 s2
  match q, hq with
  | 0, _ => exact s0.trans (by rw [Nat.zero_add, Nat.add_zero])
  | 1, _ => exact s1.trans (by rw [Nat.add_comm])
  | 2, _ => exact s2.trans (by rw [Nat.add_comm])

/-- The columns of a `3 × 3` convolution are the image at the window's positions. -/
theorem convCols_img (k : ConvOk C K O) (x : FVec Ideal ⟨3, ![16, 16, C]⟩ .bf16) {h w i q c : ℕ} (hh : h + i < 15) (hw : w < 13)
    (hq : q < 3) (hc : c < C) : A2 (convCols k x) (i * 16 + (h * 16 + w)) (q * C + c) = A3 x (h + i) (w + q) c := by
  rw [convCols_at k x (by omega) hq hc, ← cast3_2 x k.flat (i := h + i) (j := w + q) (by omega) (by omega) hc (by omega)]
  congr 1; ring

/-- One of the three products: the sum over the columns of the window and the channels. -/
theorem convTerm (k : ConvOk C K O) (x : FVec Ideal ⟨3, ![16, 16, C]⟩ .bf16) (w0 : FVec Ideal ⟨3, ![1, K, O]⟩ .bf16)
    {h w o off : ℕ} (i : ℕ) (ho : off = i * 16) (t : (⟨2, ![240, K]⟩ : Shape).Slices ![off, 0] ⟨2, ![208, K]⟩)
    (hh : h + i < 15) (hh' : h < 13) (hw : w < 13) (hO : o < O) :
    A2 (matmul k.d none (extractStridedSlice ⟨2, ![208, K]⟩ ![off, 0] (convCols k x) t) (shapeCast ⟨2, ![K, O]⟩ w0 k.wgt)
      (constant ⟨2, ![208, O]⟩ .f32 0x00000000#32)) (h * 16 + w) o
      = ∑ q ∈ Finset.range 3, ∑ c ∈ Finset.range C, A3 x (h + i) (w + q) c * A3 w0 0 (q * C + c) o := by
  have hK := k.hK
  rw [A2_mm k.hd _ _ (by omega) hO]
  conv_lhs => rw [show Finset.range K = Finset.range (3 * C) by rw [hK]]
  rw [sum_mul_range]
  refine Finset.sum_congr rfl fun q hq => Finset.sum_congr rfl fun c hc => ?_
  rw [Finset.mem_range] at hq hc
  have hm : q * C + c < K := by rw [hK]; nlinarith
  rw [A2_slice _ t (by omega) hm, cast3_2_unit, ho, Nat.zero_add, convCols_img k x hh hw hq hc]

/-- The convolution's meaning: at every point of the 13 × 13 image it is the specified one of what the arrays hold. -/
theorem conv3_eq (k : ConvOk C K O) (x : FVec Ideal ⟨3, ![16, 16, C]⟩ .bf16) (w0 w1 w2 : FVec Ideal ⟨3, ![1, K, O]⟩ .bf16)
    (b : FVec Ideal ⟨2, ![1, O]⟩ .f32) (X : ℕ → ℕ → ℕ → EReal) (W : ℕ → ℕ → ℕ → ℕ → EReal) (B : ℕ → EReal)
    (hX : ∀ i j c, i < 15 → j < 15 → c < C → A3 x i j c = X c i j)
    (h0 : ∀ q c o, q < 3 → c < C → o < O → A3 w0 0 (q * C + c) o = W o c 0 q)
    (h1 : ∀ q c o, q < 3 → c < C → o < O → A3 w1 0 (q * C + c) o = W o c 1 q)
    (h2 : ∀ q c o, q < 3 → c < C → o < O → A3 w2 0 (q * C + c) o = W o c 2 q)
    (hB : ∀ o, o < O → A2 b 0 o = B o) {h w o : ℕ} (hh : h < 13) (hw : w < 13) (hO : o < O) :
    A3 (conv3 k x w0 w1 w2 b) h w o = convS C 3 1 X W B o h w := by
  unfold conv3
  rw [cast2_3 _ _ hh (show w < 16 by omega) hO (by omega)]
  refine (A2_maximumf (φ := .f32) _ _ _ _).trans ?_
  rw [A2_addf, A2_row _ _ (by omega) hO, cast_self2, hB o hO, A2_splat _ (by omega) hO, ofBits_zero_f32]
  unfold convS
  refine congrArg₂ max (congrArg₂ (· + ·) ?_ rfl) rfl
  unfold convSum
  rw [A2_addf, A2_addf, convTerm k x w0 0 rfl k.t0 (by omega) hh hw hO, convTerm k x w1 1 rfl k.t1 (by omega) hh hw hO,
    convTerm k x w2 2 rfl k.t2 (by omega) hh hw hO]
  have key : ∀ (i : ℕ) (wi : FVec Ideal ⟨3, ![1, K, O]⟩ .bf16), i < 3 →
      (∀ q c o, q < 3 → c < C → o < O → A3 wi 0 (q * C + c) o = W o c i q) →
      ∑ q ∈ Finset.range 3, ∑ c ∈ Finset.range C, A3 x (h + i) (w + q) c * A3 wi 0 (q * C + c) o
        = ∑ c ∈ Finset.range C, ∑ q ∈ Finset.range 3, X c (1 * h + i) (1 * w + q) * W o c i q := by
    intro i wi hi hwi
    rw [Finset.sum_comm]
    refine Finset.sum_congr rfl fun c hc => Finset.sum_congr rfl fun q hq => ?_
    rw [Finset.mem_range] at hq hc
    rw [hX _ _ _ (by omega) (by omega) hc, hwi q c o hq hc hO, one_mul, one_mul]
  rw [key 0 w0 (by omega) h0, key 1 w1 (by omega) h1, key 2 w2 (by omega) h2, ← Finset.sum_add_distrib, ← Finset.sum_add_distrib]
  refine Finset.sum_congr rfl fun c _ => ?_
  simp only [Finset.sum_range_succ, Finset.sum_range_zero, zero_add]

/-! ## The mask of the columns without meaning -/

/-- The side conditions of the mask's operations. -/
structure MaskOk (O : ℕ) where
  io : (⟨3, ![1, 16, 1]⟩ : Shape).Iotas .tc 32 [1]
  cs : (⟨3, ![1, 16, 1]⟩ : Shape).ShapeCasts ⟨3, ![1, 16, 1]⟩
  bb : (⟨3, ![1, 16, 1]⟩ : Shape).Broadcasts ⟨3, ![13, 16, O]⟩

/-- The image with its columns from the fourteenth on cut to `0`. -/
def mask13 (k : MaskOk O) (v : FVec Ideal ⟨3, ![13, 16, O]⟩ .bf16) : FVec Ideal ⟨3, ![13, 16, O]⟩ .bf16 :=
  select (broadcastTo ⟨3, ![13, 16, O]⟩ (shapeCast ⟨3, ![1, 16, 1]⟩
    (cmpi .slt (iota .tc ⟨3, ![1, 16, 1]⟩ 32 [1] k.io) (broadcast ⟨3, ![1, 16, 1]⟩ 13#32)) k.cs) k.bb) v
    (broadcast ⟨3, ![13, 16, O]⟩ (Scalar.ofBits .bf16 0x0000#16))

/-- The zero word of the narrow float is zero. -/
theorem ofBits_zero_bf16 : (Scalar.ofBits (F := Ideal) .bf16 0x0000#16) = (0 : EReal) := by
  simp [Scalar.ofBits]

/-- The integer zero converts to zero. -/
theorem sitofp_zero : (Scalar.sitofp (F := Ideal) .bf16 0#32) = (0 : EReal) := by
  rw [Ideal.scalar_sitofp_def]; norm_num

/-- The mask keeps the columns of the image and zeroes those past it. -/
theorem mask13_eq (k : MaskOk O) (v : FVec Ideal ⟨3, ![13, 16, O]⟩ .bf16) {h w o : ℕ} (hh : h < 13) (hw : w < 16) (hO : o < O) :
    A3 (mask13 k v) h w o = if w < 13 then A3 v h w o else 0 := by
  rw [A3_pos _ hh hw hO, A3_pos v hh hw hO]
  unfold mask13
  simp only [pointwise]
  have key : ∀ (n : ℕ) (a : EReal), n = w →
      Scalar.select (IntOp.cmpi .slt (BitVec.ofNat 32 n) 13#32) a 0 = if w < 13 then a else 0 := by
    rintro n a rfl
    have hb : IntOp.cmpi .slt (BitVec.ofNat 32 n) 13#32 = if n < 13 then 1#1 else 0#1 := by
      interval_cases n <;> decide
    rw [hb]
    split <;> rfl
  refine key _ _ ?_
  simp

/-! ## Zero borders -/

section Pad
variable {h h1 h2 w w1 w2 pt pb pl pr c : ℕ}

/-- The side conditions of a border of `pt` rows above, `pb` below, `pl` columns left, `pr` right. -/
structure PadOk (h h1 h2 w w1 w2 pt pb pl pr c : ℕ) where
  a : Shape.Concatenates [(⟨3, ![pt, w, c]⟩ : Shape), ⟨3, ![h, w, c]⟩] ⟨3, ![h1, w, c]⟩ 0
  b : Shape.Concatenates [(⟨3, ![h1, w, c]⟩ : Shape), ⟨3, ![pb, w, c]⟩] ⟨3, ![h2, w, c]⟩ 0
  d : Shape.Concatenates [(⟨3, ![h2, pl, c]⟩ : Shape), ⟨3, ![h2, w, c]⟩] ⟨3, ![h2, w1, c]⟩ 1
  e : Shape.Concatenates [(⟨3, ![h2, w1, c]⟩ : Shape), ⟨3, ![h2, pr, c]⟩] ⟨3, ![h2, w2, c]⟩ 1

/-- An image with a border of the value `z` on all four sides. -/
def padV (k : PadOk h h1 h2 w w1 w2 pt pb pl pr c) (z : Ideal .bf16) (v : FVec Ideal ⟨3, ![h, w, c]⟩ .bf16) :
    FVec Ideal ⟨3, ![h2, w2, c]⟩ .bf16 :=
  concatenate ⟨3, ![h2, w2, c]⟩ 1
    [⟨⟨3, ![h2, w1, c]⟩, concatenate ⟨3, ![h2, w1, c]⟩ 1
      [⟨⟨3, ![h2, pl, c]⟩, broadcast ⟨3, ![h2, pl, c]⟩ z⟩,
       ⟨⟨3, ![h2, w, c]⟩, concatenate ⟨3, ![h2, w, c]⟩ 0
        [⟨⟨3, ![h1, w, c]⟩, concatenate ⟨3, ![h1, w, c]⟩ 0
          [⟨⟨3, ![pt, w, c]⟩, broadcast ⟨3, ![pt, w, c]⟩ z⟩, ⟨⟨3, ![h, w, c]⟩, v⟩] k.a⟩,
         ⟨⟨3, ![pb, w, c]⟩, broadcast ⟨3, ![pb, w, c]⟩ z⟩] k.b⟩] k.d⟩,
     ⟨⟨3, ![h2, pr, c]⟩, broadcast ⟨3, ![h2, pr, c]⟩ z⟩] k.e

/-- The border of zeros, at coordinates. -/
theorem padV_eq (k : PadOk h h1 h2 w w1 w2 pt pb pl pr c) (z : Ideal .bf16) (hz : z = (0 : EReal))
    (v : FVec Ideal ⟨3, ![h, w, c]⟩ .bf16) {i j l : ℕ} (hi : i < h2) (hj : j < w2) (hl : l < c) :
    A3 (padV k z v) i j l = if pt ≤ i ∧ pl ≤ j then A3 v (i - pt) (j - pl) l else 0 := by
  have e1 : h1 = pt + h := by have := k.a.2.2; simpa using this.symm
  have e2 : h2 = h1 + pb := by have := k.b.2.2; simpa using this.symm
  have e3 : w1 = pl + w := by have := k.d.2.2; simpa using this.symm
  have e4 : w2 = w1 + pr := by have := k.e.2.2; simpa using this.symm
  unfold padV
  refine (cat3_1 _ _ k.e hi hj hl).trans ?_
  rw [A3_splat_zero z hz]
  by_cases hj1 : j < w1
  · rw [if_pos hj1]
    refine (cat3_1 _ _ k.d hi hj1 hl).trans ?_
    rw [A3_splat_zero z hz]
    by_cases hj2 : j < pl
    · rw [if_pos hj2, if_neg (by omega)]
    · rw [if_neg hj2]
      have hj3 : j - pl < w := by omega
      refine (cat3_0 _ _ k.b hi hj3 hl).trans ?_
      rw [A3_splat_zero z hz]
      by_cases hi1 : i < h1
      · rw [if_pos hi1]
        refine (cat3_0 _ _ k.a hi1 hj3 hl).trans ?_
        rw [A3_splat_zero z hz]
        by_cases hi2 : i < pt
        · rw [if_pos hi2, if_neg (by omega)]
        · rw [if_neg hi2, if_pos (by omega)]
      · rw [if_neg hi1, A3_neg v (by omega)]
        split <;> rfl
  · rw [if_neg hj1, A3_neg v (by omega)]
    split <;> rfl

end Pad

/-! ## The greatest of 3 × 3 windows at stride 2 -/

section Pool
variable {H2 W W2 OH OW c : ℕ}

/-- The side conditions of pooling `H2` pairs of rows of `W = 2 · W2` columns to `OH × OW`. -/
structure PoolOk (H2 W W2 OH OW c : ℕ) where
  hW : W = W2 * 2
  s0 : (⟨4, ![H2, 2, W, c]⟩ : Shape).Slices ![0, 0, 0, 0] ⟨4, ![OH, 1, W, c]⟩
  s1 : (⟨4, ![H2, 2, W, c]⟩ : Shape).Slices ![0, 1, 0, 0] ⟨4, ![OH, 1, W, c]⟩
  s2 : (⟨4, ![H2, 2, W, c]⟩ : Shape).Slices ![1, 0, 0, 0] ⟨4, ![OH, 1, W, c]⟩
  d : (⟨4, ![OH, 1, W, c]⟩ : Shape).ShapeCasts ⟨3, ![OH, W, c]⟩
  sp : (⟨3, ![OH, W, c]⟩ : Shape).ShapeCasts ⟨4, ![OH, W2, 2, c]⟩
  t0 : (⟨4, ![OH, W2, 2, c]⟩ : Shape).Slices ![0, 0, 0, 0] ⟨4, ![OH, OW, 1, c]⟩
  t1 : (⟨4, ![OH, W2, 2, c]⟩ : Shape).Slices ![0, 0, 1, 0] ⟨4, ![OH, OW, 1, c]⟩
  t2 : (⟨4, ![OH, W2, 2, c]⟩ : Shape).Slices ![0, 1, 0, 0] ⟨4, ![OH, OW, 1, c]⟩
  u : (⟨4, ![OH, OW, 1, c]⟩ : Shape).ShapeCasts ⟨3, ![OH, OW, c]⟩

/-- The rows pooled. -/
def poolRows (k : PoolOk H2 W W2 OH OW c) (v : FVec Ideal ⟨4, ![H2, 2, W, c]⟩ .bf16) : FVec Ideal ⟨3, ![OH, W, c]⟩ .bf16 :=
  maximumf (maximumf
    (shapeCast ⟨3, ![OH, W, c]⟩ (extractStridedSlice ⟨4, ![OH, 1, W, c]⟩ ![0, 0, 0, 0] v k.s0) k.d)
    (shapeCast ⟨3, ![OH, W, c]⟩ (extractStridedSlice ⟨4, ![OH, 1, W, c]⟩ ![0, 1, 0, 0] v k.s1) k.d))
    (shapeCast ⟨3, ![OH, W, c]⟩ (extractStridedSlice ⟨4, ![OH, 1, W, c]⟩ ![1, 0, 0, 0] v k.s2) k.d)

/-- The columns pooled. -/
def poolCols (k : PoolOk H2 W W2 OH OW c) (v : FVec Ideal ⟨3, ![OH, W, c]⟩ .bf16) : FVec Ideal ⟨3, ![OH, OW, c]⟩ .bf16 :=
  maximumf (maximumf
    (shapeCast ⟨3, ![OH, OW, c]⟩ (extractStridedSlice ⟨4, ![OH, OW, 1, c]⟩ ![0, 0, 0, 0] (shapeCast ⟨4, ![OH, W2, 2, c]⟩ v k.sp) k.t0) k.u)
    (shapeCast ⟨3, ![OH, OW, c]⟩ (extractStridedSlice ⟨4, ![OH, OW, 1, c]⟩ ![0, 0, 1, 0] (shapeCast ⟨4, ![OH, W2, 2, c]⟩ v k.sp) k.t1) k.u))
    (shapeCast ⟨3, ![OH, OW, c]⟩ (extractStridedSlice ⟨4, ![OH, OW, 1, c]⟩ ![0, 1, 0, 0] (shapeCast ⟨4, ![OH, W2, 2, c]⟩ v k.sp) k.t2) k.u)

/-- The maximum over three rows, at coordinates. -/
theorem poolRows_eq (k : PoolOk H2 W W2 OH OW c) (v : FVec Ideal ⟨4, ![H2, 2, W, c]⟩ .bf16) {i w l : ℕ} (hi : i < OH) (hw : w < W)
    (hl : l < c) : A3 (poolRows k v) i w l = max (max (A4 v i 0 w l) (A4 v i 1 w l)) (A4 v (i + 1) 0 w l) := by
  unfold poolRows
  rw [A3_maximumf, A3_maximumf, cast4_3_ax1, cast4_3_ax1, cast4_3_ax1, A4_slice v k.s0 hi Nat.one_pos hw hl,
    A4_slice v k.s1 hi Nat.one_pos hw hl, A4_slice v k.s2 hi Nat.one_pos hw hl]
  simp only [Nat.zero_add, Nat.add_zero, Nat.add_comm 1]

/-- The maximum over three columns, at coordinates. -/
theorem poolCols_eq (k : PoolOk H2 W W2 OH OW c) (v : FVec Ideal ⟨3, ![OH, W, c]⟩ .bf16) {i j l : ℕ} (hi : i < OH) (hj : j < OW)
    (hl : l < c) : A3 (poolCols k v) i j l = max3 (fun w => A3 v i w l) j := by
  have hW := k.hW
  have hb : 1 + OW ≤ W2 := k.t2.2 1
  unfold poolCols
  rw [A3_maximumf, A3_maximumf, cast4_3_ax2, cast4_3_ax2, cast4_3_ax2, A4_slice _ k.t0 hi hj Nat.one_pos hl,
    A4_slice _ k.t1 hi hj Nat.one_pos hl, A4_slice _ k.t2 hi hj Nat.one_pos hl]
  simp only [Nat.zero_add, Nat.add_zero]
  rw [cast3_4_mid v k.sp hi (show j < W2 by omega) (show 0 < 2 by omega) hl (by omega) hW,
    cast3_4_mid v k.sp hi (show j < W2 by omega) (show 1 < 2 by omega) hl (by omega) hW,
    cast3_4_mid v k.sp hi (show 1 + j < W2 by omega) (show 0 < 2 by omega) hl (by omega) hW]
  unfold max3
  rw [show j * 2 + 0 = 2 * j by ring, show j * 2 + 1 = 2 * j + 1 by ring, show (1 + j) * 2 + 0 = 2 * j + 2 by ring]

/-- Both: the specified pooling of what the pairs of rows hold. -/
theorem pool_eq (k : PoolOk H2 W W2 OH OW c) (v : FVec Ideal ⟨4, ![H2, 2, W, c]⟩ .bf16) (Y : ℕ → ℕ → ℕ → EReal)
    (hY : ∀ i e w l, 2 * i + e < 2 * OH + 1 → e < 2 → w < 2 * OW + 1 → l < c → A4 v i e w l = Y l (2 * i + e) w)
    {i j l : ℕ} (hi : i < OH) (hj : j < OW) (hl : l < c) : A3 (poolCols k (poolRows k v)) i j l = poolS Y l i j := by
  have hW := k.hW
  have hb : 1 + OW ≤ W2 := k.t2.2 1
  have key : ∀ w, w < 2 * OW + 1 → A3 (poolRows k v) i w l = max3 (fun p => Y l p w) i := by
    intro w hw
    rw [poolRows_eq k v hi (by omega) hl, hY i 0 w l (by omega) (by omega) hw hl, hY i 1 w l (by omega) (by omega) hw hl,
      hY (i + 1) 0 w l (by omega) (by omega) hw hl]
    rfl
  rw [poolCols_eq k _ hi hj hl]
  unfold poolS
  show max (max (A3 _ _ _ _) (A3 _ _ _ _)) (A3 _ _ _ _) = max (max _ _) _
  rw [key _ (by omega), key _ (by omega), key _ (by omega)]

end Pool

/-! ## The normalisation over channels -/

section Lrn
variable {M : ℕ}

/-- The side conditions of the normalisation of `M` rows of `C` channels. -/
structure LrnOk (M C : ℕ) where
  bs : (⟨2, ![C, C]⟩ : Shape).ShapeCasts ⟨2, ![C, C]⟩
  d : DotDims ⟨2, ![M, C]⟩ ⟨2, ![C, C]⟩ ⟨2, ![M, C]⟩
  hd : IsMM d

/-- `2 + α · (the band's sums of squares)`. -/
def lrnD (k : LrnOk M C) (y : FVec Ideal ⟨2, ![M, C]⟩ .f32) (g : FVec Ideal ⟨2, ![C, C]⟩ .bf16) : FVec Ideal ⟨2, ![M, C]⟩ .f32 :=
  addf (broadcast ⟨2, ![M, C]⟩ (Scalar.ofBits .f32 0x40000000#32)) (mulf (broadcast ⟨2, ![M, C]⟩ (Scalar.ofBits .f32 0x38D1B717#32))
    (matmul k.d none (truncf .bf16 (mulf y y) (by decide)) (shapeCast ⟨2, ![C, C]⟩ g k.bs) (constant ⟨2, ![M, C]⟩ .f32 0x00000000#32)))

/-- The rows normalised: each value by the inverse square root of `lrnD` times its square root. -/
def lrnV (k : LrnOk M C) (y : FVec Ideal ⟨2, ![M, C]⟩ .f32) (g : FVec Ideal ⟨2, ![C, C]⟩ .bf16) : FVec Ideal ⟨2, ![M, C]⟩ .bf16 :=
  truncf .bf16 (mulf y (mulf (rsqrt (lrnD k y g)) (sqrt (rsqrt (lrnD k y g))))) (by decide)

/-- The normalisation by a banded product is the normalisation over channels. -/
theorem lrnV_eq (k : LrnOk M C) (y : FVec Ideal ⟨2, ![M, C]⟩ .f32) (g : FVec Ideal ⟨2, ![C, C]⟩ .bf16) (Y : ℕ → EReal)
    (hg : ∀ i j, i < C → j < C → A2 g i j = if i ≤ j + 2 ∧ j ≤ i + 2 then 1 else 0) {r c : ℕ}
    (hY : ∀ c, c < C → A2 y r c = Y c) (hr : r < M) (hc : c < C) :
    A2 (lrnV k y g) r c = normV (Y c) (sqS C Y c) := by
  have hd : A2 (lrnD k y g) r c = κ2 + kα * sqS C Y c := by
    unfold lrnD
    rw [A2_addf, A2_mulf, A2_splat _ hr hc, A2_splat _ hr hc, A2_mm k.hd _ _ hr hc, cast_self2]
    refine congrArg (κ2 + kα * ·) (Finset.sum_congr rfl fun i hi => ?_)
    rw [Finset.mem_range] at hi
    rw [hg i c hi hc]
    refine (congrArg (· * _) ((A2_mulf (φ := .f32) y y r i).trans (by rw [hY i hi]))).trans ?_
    split <;> simp
  have hs : 0 ≤ sqS C Y c := Finset.sum_nonneg fun i _ => by
    split
    · rcases le_total 0 (Y i) with h | h
      · exact mul_nonneg h h
      · rw [← neg_mul_neg]; exact mul_nonneg (EReal.neg_nonneg.mpr h) (EReal.neg_nonneg.mpr h)
    · exact le_rfl
  rw [← norm_eq _ _ hs, ← hd, ← hY c hc, A2_pos _ hr hc, A2_pos _ hr hc, A2_pos _ hr hc]
  rfl

end Lrn

/-! ## A dense layer -/

section Fc
variable {M K N : ℕ}

/-- The dimension numbers of a product of the rows of both operands. -/
def IsMMt (d : DotDims ⟨2, ![M, K]⟩ ⟨2, ![N, K]⟩ ⟨2, ![M, N]⟩) : Prop :=
  ∀ (l : (⟨2, ![M, K]⟩ : Shape).Idx → EReal) (r : (⟨2, ![N, K]⟩ : Shape).Idx → EReal) (z : (⟨2, ![M, N]⟩ : Shape).Idx → EReal)
    (i : Fin M) (j : Fin N), Ideal.matmul d l r z (ix2 i j) = z (ix2 i j) + ∑ k : Fin K, l (ix2 i k) * r (ix2 j k)

/-- The side conditions of a dense layer's operations. -/
structure FcOk (M K N : ℕ) where
  xs : (⟨2, ![M, K]⟩ : Shape).ShapeCasts ⟨2, ![M, K]⟩
  d : DotDims ⟨2, ![M, K]⟩ ⟨2, ![N, K]⟩ ⟨2, ![M, N]⟩
  hd : IsMMt d
  bs : (⟨2, ![1, N]⟩ : Shape).ShapeCasts ⟨2, ![1, N]⟩
  bb : (⟨2, ![1, N]⟩ : Shape).Broadcasts ⟨2, ![M, N]⟩

/-- `M` rows through a dense layer of `N` outputs. -/
def fcV (k : FcOk M K N) (x : FVec Ideal ⟨2, ![M, K]⟩ .f32) (w : FVec Ideal ⟨2, ![N, K]⟩ .f32) (b : FVec Ideal ⟨2, ![1, N]⟩ .f32) :
    FVec Ideal ⟨2, ![M, N]⟩ .f32 :=
  maximumf (addf (matmul k.d none (shapeCast ⟨2, ![M, K]⟩ x k.xs) w (constant ⟨2, ![M, N]⟩ .f32 0x00000000#32))
    (broadcastTo ⟨2, ![M, N]⟩ (shapeCast ⟨2, ![1, N]⟩ b k.bs) k.bb)) (broadcast ⟨2, ![M, N]⟩ (Scalar.ofBits .f32 0x00000000#32))

/-- A dense block is a dense layer of its operands. -/
theorem fcV_eq (k : FcOk M K N) (x : FVec Ideal ⟨2, ![M, K]⟩ .f32) (w : FVec Ideal ⟨2, ![N, K]⟩ .f32) (b : FVec Ideal ⟨2, ![1, N]⟩ .f32)
    {i j : ℕ} (hi : i < M) (hj : j < N) : A2 (fcV k x w b) i j = fcS K (A2 x i) (A2 w) (A2 b 0) j := by
  unfold fcV
  rw [A2_maximumf, A2_addf, A2_row _ _ hi hj, cast_self2, cast_self2, A2_splat _ hi hj, ofBits_zero_f32]
  unfold fcS
  refine congrArg₂ max (congrArg₂ (· + ·) ?_ rfl) rfl
  rw [A2_pos _ hi hj]
  refine (k.hd x w _ ⟨i, hi⟩ ⟨j, hj⟩).trans ?_
  rw [Finset.sum_range, show (constant (F := Ideal) ⟨2, ![M, N]⟩ .f32 0x00000000#32) (ix2 ⟨i, hi⟩ ⟨j, hj⟩) = (0 : EReal) from ofBits_zero_f32,
    zero_add]
  refine Finset.sum_congr rfl fun q _ => ?_
  rw [A2_pos x hi q.isLt, A2_pos w hj q.isLt]

end Fc

end Cert.Net
-- ==== Proof.HostOps.lean ====
/-
  READING WHAT RUNS BETWEEN THE CALLS: transposes of higher rank, the banded matrix, and the padding value, at coordinates.
-/
module

public import proofs.«01_k».proof.Proof.Ops

@[expose] public section

noncomputable section

namespace Cert.Net

open Idealize.ShloMosaic

/-- The padding value, an integer zero converted, is zero. -/
theorem zero_of_int {s : Shape} (i : s.Idx) : (sitofp .f32 (constantI s 32 0#32) : FVec Ideal s .f32) i = 0 := by
  show ((((0#32 : BitVec 32).toInt : ℤ) : ℝ) : EReal) = 0
  rw [show (0#32 : BitVec 32).toInt = 0 from rfl]
  simp

/-- The axes of a rank-4 array taken in the order 2, 3, 1, 0. -/
theorem A4_transpose_2310 {a b c d : ℕ} (x : (⟨4, ![a, b, c, d]⟩ : Shape).Idx → EReal)
    (h : (⟨4, ![a, b, c, d]⟩ : Shape).Transposes [2, 3, 1, 0] ⟨4, ![c, d, b, a]⟩)
    {i j k l : ℕ} (hi : i < c) (hj : j < d) (hk : k < b) (hl : l < a) :
    A4 (transpose ⟨4, ![c, d, b, a]⟩ [2, 3, 1, 0] x h) i j k l = A4 x l k i j := by
  rw [A4_pos _ hi hj hk hl, A4_pos x hl hk hi hj]
  refine congrArg x (funext fun a => Fin.ext ?_)
  match a with
  | ⟨0, _⟩ => rfl
  | ⟨1, _⟩ => rfl
  | ⟨2, _⟩ => rfl
  | ⟨3, _⟩ => rfl

/-- The axes of a rank-5 array taken in the order 2, 3, 4, 1, 0. -/
theorem A5_transpose_23410 {a b c d e : ℕ} (x : (⟨5, ![a, b, c, d, e]⟩ : Shape).Idx → EReal)
    (h : (⟨5, ![a, b, c, d, e]⟩ : Shape).Transposes [2, 3, 4, 1, 0] ⟨5, ![c, d, e, b, a]⟩)
    {i j k l m : ℕ} (hi : i < c) (hj : j < d) (hk : k < e) (hl : l < b) (hm : m < a) :
    A5 (transpose ⟨5, ![c, d, e, b, a]⟩ [2, 3, 4, 1, 0] x h) i j k l m = A5 x m l i j k := by
  rw [A5_pos _ hi hj hk hl hm, A5_pos x hm hl hi hj hk]
  refine congrArg x (funext fun a => Fin.ext ?_)
  match a with
  | ⟨0, _⟩ => rfl
  | ⟨1, _⟩ => rfl
  | ⟨2, _⟩ => rfl
  | ⟨3, _⟩ => rfl
  | ⟨4, _⟩ => rfl

/-- The axes of a rank-6 array taken in the order 0, 3, 5, 1, 2, 4. -/
theorem A6_transpose_035124 {a b c d e f : ℕ} (x : (⟨6, ![a, b, c, d, e, f]⟩ : Shape).Idx → EReal)
    (h : (⟨6, ![a, b, c, d, e, f]⟩ : Shape).Transposes [0, 3, 5, 1, 2, 4] ⟨6, ![a, d, f, b, c, e]⟩)
    {i j k l m n : ℕ} (hi : i < a) (hj : j < d) (hk : k < f) (hl : l < b) (hm : m < c) (hn : n < e) :
    A6 (transpose ⟨6, ![a, d, f, b, c, e]⟩ [0, 3, 5, 1, 2, 4] x h) i j k l m n = A6 x i l m j n k := by
  rw [A6_pos _ hi hj hk hl hm hn, A6_pos x hi hl hm hj hn hk]
  refine congrArg x (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The comparison of the distance of two small numbers with two, read as a number. -/
theorem band_word (i j : ℕ) (hi : i < 256) (hj : j < 256) :
    IntOp.cmpi .sle (IntOp.absi (IntOp.subi (BitVec.ofNat 32 i) (BitVec.ofNat 32 j))) 2#32
      = if i ≤ j + 2 ∧ j ≤ i + 2 then 1#1 else 0#1 := by
  have small : ∀ d : ℕ, d < 256 → ((BitVec.ofNat 32 d).sle 2#32) = decide (d ≤ 2) := by decide +kernel
  have key : IntOp.absi (IntOp.subi (BitVec.ofNat 32 i) (BitVec.ofNat 32 j)) = BitVec.ofNat 32 ((i - j) + (j - i)) := by
    have ei : (BitVec.ofNat 32 i).toNat = i := by rw [BitVec.toNat_ofNat]; omega
    have ej : (BitVec.ofNat 32 j).toNat = j := by rw [BitVec.toNat_ofNat]; omega
    have ed : (BitVec.ofNat 32 i - BitVec.ofNat 32 j).toNat = (2 ^ 32 - j + i) % 2 ^ 32 := by
      rw [BitVec.toNat_sub, ei, ej]
    unfold IntOp.absi IntOp.subi
    apply BitVec.eq_of_toNat_eq
    rw [BitVec.toNat_ofNat, BitVec.msb_eq_decide, ed]
    by_cases h : j ≤ i
    · rw [if_neg (by simp only [decide_eq_true_eq]; omega), ed]; omega
    · rw [if_pos (by simp only [decide_eq_true_eq]; omega), BitVec.toNat_neg, ed]; omega
  rw [key]
  show BitVec.ofBool ((BitVec.ofNat 32 ((i - j) + (j - i))).sle 2#32) = _
  rw [small _ (by omega)]
  by_cases h : i ≤ j + 2 ∧ j ≤ i + 2
  · rw [if_pos h, decide_eq_true (by omega)]; rfl
  · rw [if_neg h, decide_eq_false (by omega)]; rfl

/-- The banded matrix: one where the two coordinates are within two of each other. -/
theorem A2_band {n : ℕ} (hn : n ≤ 256) (hb : (⟨0, ![]⟩ : Shape).BroadcastsInDim ⟨2, ![n, n]⟩ ![])
    {i j : ℕ} (hi : i < n) (hj : j < n) :
    A2 (uitofp .bf16 (cmpi .sle (absi (subi (iotaInDim ⟨2, ![n, n]⟩ 32 0) (iotaInDim ⟨2, ![n, n]⟩ 32 1)))
        (broadcastInDim ⟨2, ![n, n]⟩ ![] hb (constantI ⟨0, ![]⟩ 32 2#32))) : FVec Ideal ⟨2, ![n, n]⟩ .bf16) i j
      = if i ≤ j + 2 ∧ j ≤ i + 2 then 1 else 0 := by
  rw [A2_pos _ hi hj]
  show ((((IntOp.cmpi .sle (IntOp.absi (IntOp.subi (BitVec.ofNat 32 i) (BitVec.ofNat 32 j))) 2#32).toNat : ℕ) : ℝ) : EReal) = _
  rw [band_word i j (by omega) (by omega)]
  split <;> simp

end Cert.Net
-- ==== Proof.RefConv.lean ====
/-
  HOW THE REFERENCE CONVOLVES: rows then columns gathered by index words into windows, one product over channels and window
  positions, a bias and a cut at zero: at coordinates, the specification's convolution.
-/
module

public import proofs.«01_k».proof.Proof.HostOps

@[expose] public section

noncomputable section

open scoped BigOperators

namespace Cert.Net

open Idealize.ShloMosaic

/-- The index word of window position `k` of window `p` at stride `s`: the negative case never holds. -/
theorem index_word (s p k : ℕ) (L : BitVec 32) (h : s * p + k < 2 ^ 31) :
    Scalar.select (IntOp.cmpi .slt (IntOp.addi (IntOp.muli (BitVec.ofNat 32 s) (BitVec.ofNat 32 p)) (BitVec.ofNat 32 k)) 0#32)
      (IntOp.addi (IntOp.addi (IntOp.muli (BitVec.ofNat 32 s) (BitVec.ofNat 32 p)) (BitVec.ofNat 32 k)) L)
      (IntOp.addi (IntOp.muli (BitVec.ofNat 32 s) (BitVec.ofNat 32 p)) (BitVec.ofNat 32 k)) = BitVec.ofNat 32 (s * p + k) := by
  have e : IntOp.addi (IntOp.muli (BitVec.ofNat 32 s) (BitVec.ofNat 32 p)) (BitVec.ofNat 32 k) = BitVec.ofNat 32 (s * p + k) := by
    unfold IntOp.addi IntOp.muli
    rw [BitVec.ofNat_add, BitVec.ofNat_mul]
  rw [e]
  have hn : IntOp.cmpi .slt (BitVec.ofNat 32 (s * p + k)) 0#32 = 0#1 := by
    show BitVec.ofBool ((BitVec.ofNat 32 (s * p + k)).slt 0#32) = 0#1
    have : (BitVec.ofNat 32 (s * p + k)).slt 0#32 = false := by
      rw [BitVec.slt_eq_decide, decide_eq_false_iff_not, BitVec.toInt_ofNat']
      simp only [BitVec.toInt_zero, not_lt]
      rw [Int.bmod_eq_of_le] <;> omega
    rw [this]; rfl
  rw [hn]
  exact if_neg (by decide)

/-- A small number's word read signed. -/
theorem word_toNat (v : ℕ) (h : v < 2 ^ 31) : (BitVec.ofNat 32 v).toInt.toNat = v := by
  rw [BitVec.toInt_ofNat', Int.bmod_eq_of_le] <;> omega

section Gather
variable (N C H W P K Q J : ℕ)

/-- Gathering rows: axis 2 is read where the index words say, into an axis of windows and one of positions. -/
def rowG (wf : GatherDims.WF ⟨4, ![N, C, H, W]⟩ ⟨3, ![P, K, 1]⟩ ⟨5, ![N, C, P, K, W]⟩ [0, 1, 4] [2] [] [2] [] 2 ![N, C, 1, W]) :
    GatherDims ⟨4, ![N, C, H, W]⟩ ⟨3, ![P, K, 1]⟩ ⟨5, ![N, C, P, K, W]⟩ where
  offsetDims := [0, 1, 4]
  collapsedSliceDims := [2]
  operandBatchingDims := []
  startIndicesBatchingDims := []
  startIndexMap := [2]
  indexVectorDim := 2
  sliceSizes := ![N, C, 1, W]
  wf := wf

/-- Gathering columns: axis 4 is read where the index words say, into an axis of windows and one of positions. -/
def colG (wf : GatherDims.WF ⟨5, ![N, C, P, K, W]⟩ ⟨3, ![Q, J, 1]⟩ ⟨6, ![N, C, P, K, Q, J]⟩ [0, 1, 2, 3] [4] [] [4] [] 2 ![N, C, P, K, 1]) :
    GatherDims ⟨5, ![N, C, P, K, W]⟩ ⟨3, ![Q, J, 1]⟩ ⟨6, ![N, C, P, K, Q, J]⟩ where
  offsetDims := [0, 1, 2, 3]
  collapsedSliceDims := [4]
  operandBatchingDims := []
  startIndicesBatchingDims := []
  startIndexMap := [4]
  indexVectorDim := 2
  sliceSizes := ![N, C, P, K, 1]
  wf := wf

end Gather

/-- Gathered rows at coordinates. -/
theorem gather_rows {N C H W P K : ℕ} (wf) (x : (⟨4, ![N, C, H, W]⟩ : Shape).Idx → EReal) (idx : IVec ⟨3, ![P, K, 1]⟩ 32)
    {n c p k w v : ℕ} (hn : n < N) (hc : c < C) (hp : p < P) (hk : k < K) (hw : w < W) (hv : v < H) (hb : v < 2 ^ 31)
    (hi : idx (ix3 ⟨p, hp⟩ ⟨k, hk⟩ ⟨0, Nat.one_pos⟩) = BitVec.ofNat 32 v) :
    A5 (Host.gather (rowG N C H W P K wf) x idx) n c p k w = A4 x n c v w := by
  rw [A5_pos _ hn hc hp hk hw, A4_pos x hn hc hv hw]
  refine congrArg x (funext fun t => Fin.ext ?_)
  match t with
  | ⟨0, _⟩ => show 0 + 0 + n = n; omega
  | ⟨1, _⟩ => show 0 + 0 + c = c; omega
  | ⟨2, _⟩ =>
    have e : (rowG N C H W P K wf).siIdx (ix5 ⟨n, hn⟩ ⟨c, hc⟩ ⟨p, hp⟩ ⟨k, hk⟩ ⟨w, hw⟩) ⟨0, Nat.one_pos⟩
        = ix3 ⟨p, hp⟩ ⟨k, hk⟩ ⟨0, Nat.one_pos⟩ := by
      funext b
      match b with
      | ⟨0, _⟩ => rfl
      | ⟨1, _⟩ => rfl
      | ⟨2, _⟩ => rfl
    show min (idx ((rowG N C H W P K wf).siIdx (ix5 ⟨n, hn⟩ ⟨c, hc⟩ ⟨p, hp⟩ ⟨k, hk⟩ ⟨w, hw⟩) ⟨0, Nat.one_pos⟩)).toInt.toNat (H - 1) + 0 + 0 = v
    rw [e, hi, word_toNat v hb]
    omega
  | ⟨3, _⟩ => show 0 + 0 + w = w; omega

/-- Gathered columns at coordinates. -/
theorem gather_cols {N C W P K Q J : ℕ} (wf) (x : (⟨5, ![N, C, P, K, W]⟩ : Shape).Idx → EReal) (idx : IVec ⟨3, ![Q, J, 1]⟩ 32)
    {n c p k q j v : ℕ} (hn : n < N) (hc : c < C) (hp : p < P) (hk : k < K) (hq : q < Q) (hj : j < J) (hv : v < W) (hb : v < 2 ^ 31)
    (hi : idx (ix3 ⟨q, hq⟩ ⟨j, hj⟩ ⟨0, Nat.one_pos⟩) = BitVec.ofNat 32 v) :
    A6 (Host.gather (colG N C W P K Q J wf) x idx) n c p k q j = A5 x n c p k v := by
  rw [A6_pos _ hn hc hp hk hq hj, A5_pos x hn hc hp hk hv]
  refine congrArg x (funext fun t => Fin.ext ?_)
  match t with
  | ⟨0, _⟩ => show 0 + 0 + n = n; omega
  | ⟨1, _⟩ => show 0 + 0 + c = c; omega
  | ⟨2, _⟩ => show 0 + 0 + p = p; omega
  | ⟨3, _⟩ => show 0 + 0 + k = k; omega
  | ⟨4, _⟩ =>
    have e : (colG N C W P K Q J wf).siIdx (ix6 ⟨n, hn⟩ ⟨c, hc⟩ ⟨p, hp⟩ ⟨k, hk⟩ ⟨q, hq⟩ ⟨j, hj⟩) ⟨0, Nat.one_pos⟩
        = ix3 ⟨q, hq⟩ ⟨j, hj⟩ ⟨0, Nat.one_pos⟩ := by
      funext b
      match b with
      | ⟨0, _⟩ => rfl
      | ⟨1, _⟩ => rfl
      | ⟨2, _⟩ => rfl
    show min (idx ((colG N C W P K Q J wf).siIdx (ix6 ⟨n, hn⟩ ⟨c, hc⟩ ⟨p, hp⟩ ⟨k, hk⟩ ⟨q, hq⟩ ⟨j, hj⟩) ⟨0, Nat.one_pos⟩)).toInt.toNat (W - 1) + 0 + 0 = v
    rw [e, hi, word_toNat v hb]
    omega

/-- A product contracting channels and both window positions. -/
def winD (O C K N P : ℕ) (wf : DotDims.WF ⟨4, ![O, C, K, K]⟩ ⟨6, ![N, C, P, K, P, K]⟩ ⟨4, ![O, N, P, P]⟩ [1, 2, 3] [1, 3, 5] [0] [0, 2, 4] [] []) :
    DotDims ⟨4, ![O, C, K, K]⟩ ⟨6, ![N, C, P, K, P, K]⟩ ⟨4, ![O, N, P, P]⟩ where
  lhsContracting := [1, 2, 3]
  rhsContracting := [1, 3, 5]
  lhsNonContracting := [0]
  rhsNonContracting := [0, 2, 4]
  lhsBatch := []
  rhsBatch := []
  wf := wf

/-- A contraction index of three axes is the triple of its coordinates. -/
def idxEquiv3 (a b c : ℕ) : (Shape.ofList [a, b, c]).Idx ≃ Fin a × Fin b × Fin c where
  toFun v := (v (0 : Fin 3), v (1 : Fin 3), v (2 : Fin 3))
  invFun q := fun (t : Fin 3) => match t with
    | ⟨0, _⟩ => q.1
    | ⟨1, _⟩ => q.2.1
    | ⟨2, _⟩ => q.2.2
  left_inv v := funext fun (t : Fin 3) => match t with
    | ⟨0, _⟩ => rfl
    | ⟨1, _⟩ => rfl
    | ⟨2, _⟩ => rfl
  right_inv _ := rfl

/-- The windowed product at coordinates. -/
theorem win_dot {O C K N P : ℕ} (wf) (w : FVec Ideal ⟨4, ![O, C, K, K]⟩ .f32) (x : FVec Ideal ⟨6, ![N, C, P, K, P, K]⟩ .f32)
    {o n h q : ℕ} (ho : o < O) (hn : n < N) (hh : h < P) (hq : q < P) :
    A4 (Host.dotGeneral (winD O C K N P wf) none w x : FVec Ideal ⟨4, ![O, N, P, P]⟩ .f32) o n h q
      = ∑ c ∈ Finset.range C, ∑ i ∈ Finset.range K, ∑ j ∈ Finset.range K, A4 w o c i j * A6 x n c h i q j := by
  rw [A4_pos _ ho hn hh hq]
  refine (Ideal.dotGeneral_apply (winD O C K N P wf) none _ w x _).trans ?_
  refine (Equiv.sum_comp (idxEquiv3 C K K).symm (fun k : (winD O C K N P wf).contr.Idx =>
    w ((winD O C K N P wf).lhsIdx (ix4 ⟨o, ho⟩ ⟨n, hn⟩ ⟨h, hh⟩ ⟨q, hq⟩) k)
      * x ((winD O C K N P wf).rhsIdx (ix4 ⟨o, ho⟩ ⟨n, hn⟩ ⟨h, hh⟩ ⟨q, hq⟩) k))).symm.trans ?_
  rw [Fintype.sum_prod_type, Finset.sum_range]
  refine Finset.sum_congr rfl fun c _ => ?_
  rw [Fintype.sum_prod_type, Finset.sum_range]
  refine Finset.sum_congr rfl fun i _ => ?_
  rw [Finset.sum_range]
  refine Finset.sum_congr rfl fun j _ => ?_
  rw [A4_pos w ho c.isLt i.isLt j.isLt, A6_pos x hn c.isLt hh i.isLt hq j.isLt]
  refine congrArg₂ (· * ·) (congrArg w (funext fun t => Fin.ext ?_)) (congrArg x (funext fun t => Fin.ext ?_))
  · match t with
    | ⟨0, _⟩ => rfl
    | ⟨1, _⟩ => rfl
    | ⟨2, _⟩ => rfl
    | ⟨3, _⟩ => rfl
  · match t with
    | ⟨0, _⟩ => rfl
    | ⟨1, _⟩ => rfl
    | ⟨2, _⟩ => rfl
    | ⟨3, _⟩ => rfl
    | ⟨4, _⟩ => rfl
    | ⟨5, _⟩ => rfl

/-- The first two axes of a rank-4 array exchanged. -/
theorem A4_transpose_1023 {a b c d : ℕ} (x : (⟨4, ![a, b, c, d]⟩ : Shape).Idx → EReal)
    (h : (⟨4, ![a, b, c, d]⟩ : Shape).Transposes [1, 0, 2, 3] ⟨4, ![b, a, c, d]⟩)
    {i j k l : ℕ} (hi : i < b) (hj : j < a) (hk : k < c) (hl : l < d) :
    A4 (transpose ⟨4, ![b, a, c, d]⟩ [1, 0, 2, 3] x h) i j k l = A4 x j i k l := by
  rw [A4_pos _ hi hj hk hl, A4_pos x hj hi hk hl]
  refine congrArg x (funext fun a => Fin.ext ?_)
  match a with
  | ⟨0, _⟩ => rfl
  | ⟨1, _⟩ => rfl
  | ⟨2, _⟩ => rfl
  | ⟨3, _⟩ => rfl

/-- The index words of windows of `K` positions at stride `s`. -/
def IsWords (s P K : ℕ) (idx : IVec ⟨3, ![P, K, 1]⟩ 32) : Prop :=
  ∀ (p : Fin P) (k : Fin K), idx (ix3 p k ⟨0, Nat.one_pos⟩) = BitVec.ofNat 32 (s * p + k)

/-- The reference's convolution layer at coordinates, of an image `Y` that the padded array holds. -/
theorem ref_conv {N C H O P K s : ℕ} (wf1) (wf2) (wf3) (ht)
    (xp : FVec Ideal ⟨4, ![N, C, H, H]⟩ .f32) (i1 i2 : IVec ⟨3, ![P, K, 1]⟩ 32) (w : FVec Ideal ⟨4, ![O, C, K, K]⟩ .f32)
    (bb z : FVec Ideal ⟨4, ![N, O, P, P]⟩ .f32) (Y : ℕ → ℕ → ℕ → EReal) (b : ℕ → EReal)
    (h1 : IsWords s P K i1) (h2 : IsWords s P K i2) (hs : ∀ p k, p < P → k < K → s * p + k < H) (hH : H < 2 ^ 31)
    {n : ℕ} (hn : n < N) (hx : ∀ c i j, c < C → i < H → j < H → A4 xp n c i j = Y c i j)
    (hb : ∀ o h q, o < O → h < P → q < P → A4 bb n o h q = b o) (hz : ∀ i, z i = (0 : EReal))
    {o h q : ℕ} (ho : o < O) (hh : h < P) (hq : q < P) :
    A4 (maximumf (addf (transpose ⟨4, ![N, O, P, P]⟩ [1, 0, 2, 3]
        (Host.dotGeneral (winD O C K N P wf3) none w
          (Host.gather (colG N C H P K P K wf2) (Host.gather (rowG N C H H P K wf1) xp i1) i2 : FVec Ideal ⟨6, ![N, C, P, K, P, K]⟩ .f32)
          : FVec Ideal ⟨4, ![O, N, P, P]⟩ .f32) ht : FVec Ideal ⟨4, ![N, O, P, P]⟩ .f32) bb) z) n o h q
      = convS C K s Y (A4 w) b o h q := by
  rw [A4_pos _ hn ho hh hq]
  refine congrArg₂ max (congrArg₂ (· + ·) ?_ ?_) (hz _)
  · refine (A4_ix _ ⟨n, hn⟩ ⟨o, ho⟩ ⟨h, hh⟩ ⟨q, hq⟩).trans ?_
    refine (A4_transpose_1023 _ ht hn ho hh hq).trans ?_
    refine (win_dot wf3 w _ ho hn hh hq).trans ?_
    refine Finset.sum_congr rfl fun c hc => Finset.sum_congr rfl fun i hi => Finset.sum_congr rfl fun j hj => ?_
    rw [Finset.mem_range] at hc hi hj
    have a1 := hs h i hh hi
    have a2 := hs q j hq hj
    rw [gather_cols wf2 _ i2 hn hc hh hi hq hj a2 (a2.trans hH) (h2 ⟨q, hq⟩ ⟨j, hj⟩),
      gather_rows wf1 xp i1 hn hc hh hi a2 a1 (a1.trans hH) (h1 ⟨h, hh⟩ ⟨i, hi⟩), hx _ _ _ hc a1 a2]
    exact mul_comm _ _
  · exact (A4_ix bb ⟨n, hn⟩ ⟨o, ho⟩ ⟨h, hh⟩ ⟨q, hq⟩).trans (hb _ _ _ ho hh hq)

end Cert.Net
-- ==== Proof.RefPool.lean ====
/-
  HOW THE REFERENCE NORMALISES AND POOLS: five shifted slices of the padded squares summed, a power and a division; and the
  greatest value over a window, folded from minus infinity.
-/
module

public import proofs.«01_k».proof.Proof.HostOps

@[expose] public section

noncomputable section

open scoped BigOperators

namespace Cert.Net

open Idealize.ShloMosaic

/-- One shifted square as a sum over channels. -/
theorem sq_shift (C : ℕ) (y : ℕ → EReal) (c q : ℕ) :
    (if 2 ≤ q + c ∧ q + c - 2 < C then y (q + c - 2) * y (q + c - 2) else 0)
      = ∑ k ∈ Finset.range C, if k + 2 = q + c then y k * y k else 0 := by
  by_cases h : 2 ≤ q + c ∧ q + c - 2 < C
  · rw [if_pos h, Finset.sum_eq_single (q + c - 2), if_pos (by omega)]
    · intro k _ hk
      exact if_neg (by omega)
    · intro hk
      exact absurd (Finset.mem_range.mpr h.2) hk
  · rw [if_neg h]
    refine (Finset.sum_eq_zero fun k hk => if_neg ?_).symm
    rw [Finset.mem_range] at hk
    omega

/-- Five shifted squares sum to the squares within two channels. -/
theorem sq_five (C : ℕ) (y : ℕ → EReal) (c : ℕ) (z : ℕ → EReal)
    (hz : ∀ q, q < 5 → z q = if 2 ≤ q + c ∧ q + c - 2 < C then y (q + c - 2) * y (q + c - 2) else 0) :
    z 0 + z 1 + z 2 + z 3 + z 4 = sqS C y c := by
  rw [hz 0 (by omega), hz 1 (by omega), hz 2 (by omega), hz 3 (by omega), hz 4 (by omega),
    sq_shift, sq_shift, sq_shift, sq_shift, sq_shift, ← Finset.sum_add_distrib, ← Finset.sum_add_distrib,
    ← Finset.sum_add_distrib, ← Finset.sum_add_distrib]
  refine Finset.sum_congr rfl fun k _ => ?_
  by_cases h : k ≤ c + 2 ∧ c ≤ k + 2
  · rw [if_pos h]
    have hq : k + 2 = 0 + c ∨ k + 2 = 1 + c ∨ k + 2 = 2 + c ∨ k + 2 = 3 + c ∨ k + 2 = 4 + c := by omega
    rcases hq with e | e | e | e | e <;> simp [e]
  · rw [if_neg h, if_neg (by omega), if_neg (by omega), if_neg (by omega), if_neg (by omega), if_neg (by omega)]
    simp

section Lrn
variable {N C D P : ℕ}

/-- The reference's normalisation at coordinates. -/
theorem ref_lrn (y : FVec Ideal ⟨4, ![N, C, P, P]⟩ .f32) {u : Shape} (v : FVec Ideal u .f32)
    (hp : (⟨4, ![N, C, P, P]⟩ : Shape).Pads ![0, 2, 0, 0] ![0, 2, 0, 0] ![0, 0, 0, 0] ⟨4, ![N, D, P, P]⟩) (hu : 0 < u.numel)
    (hv : v (Shape.Idx.first hu) = (0 : EReal)) (hD : D = C + 4)
    (s0 : (⟨4, ![N, D, P, P]⟩ : Shape).Slices ![0, 0, 0, 0] ⟨4, ![N, C, P, P]⟩)
    (s1 : (⟨4, ![N, D, P, P]⟩ : Shape).Slices ![0, 1, 0, 0] ⟨4, ![N, C, P, P]⟩)
    (s2 : (⟨4, ![N, D, P, P]⟩ : Shape).Slices ![0, 2, 0, 0] ⟨4, ![N, C, P, P]⟩)
    (s3 : (⟨4, ![N, D, P, P]⟩ : Shape).Slices ![0, 3, 0, 0] ⟨4, ![N, C, P, P]⟩)
    (s4 : (⟨4, ![N, D, P, P]⟩ : Shape).Slices ![0, 4, 0, 0] ⟨4, ![N, C, P, P]⟩)
    (cα c2 cβ : FVec Ideal ⟨4, ![N, C, P, P]⟩ .f32) (hα : ∀ i, cα i = kα) (h2 : ∀ i, c2 i = κ2) (hβ : ∀ i, cβ i = kβ)
    (pd : FVec Ideal ⟨4, ![N, D, P, P]⟩ .f32) (hpd : pd = pad ⟨4, ![N, D, P, P]⟩ ![0, 2, 0, 0] ![0, 2, 0, 0] ![0, 0, 0, 0] (mulf y y) v hp hu)
    {n c h w : ℕ} (hn : n < N) (hc : c < C) (hh : h < P) (hw : w < P) :
    A4 (Host.divf y (Host.powf (addf c2 (mulf cα (addf (addf (addf (addf
        (extractStridedSlice ⟨4, ![N, C, P, P]⟩ ![0, 0, 0, 0] pd s0)
        (extractStridedSlice ⟨4, ![N, C, P, P]⟩ ![0, 1, 0, 0] pd s1))
        (extractStridedSlice ⟨4, ![N, C, P, P]⟩ ![0, 2, 0, 0] pd s2))
        (extractStridedSlice ⟨4, ![N, C, P, P]⟩ ![0, 3, 0, 0] pd s3))
        (extractStridedSlice ⟨4, ![N, C, P, P]⟩ ![0, 4, 0, 0] pd s4)))) cβ)) n c h w
      = lrnS C (A4 y n) c h w := by
  have rd : ∀ q (sl : (⟨4, ![N, D, P, P]⟩ : Shape).Slices ![0, q, 0, 0] ⟨4, ![N, C, P, P]⟩), q < 5 →
      A4 (extractStridedSlice ⟨4, ![N, C, P, P]⟩ ![0, q, 0, 0] pd sl) n c h w
        = if 2 ≤ q + c ∧ q + c - 2 < C then A4 y n (q + c - 2) h w * A4 y n (q + c - 2) h w else 0 := by
    intro q sl hq
    refine (A4_slice pd sl hn hc hh hw).trans ?_
    rw [hpd]
    refine (A4_pad _ v hp hu hv (by omega) (by omega) (by omega) (by omega)).trans ?_
    by_cases hin : 2 ≤ q + c ∧ q + c - 2 < C
    · rw [if_pos ⟨Nat.zero_le _, hin.1, Nat.zero_le _, Nat.zero_le _⟩, if_pos hin]
      simp only [Nat.zero_add, Nat.sub_zero]
      rw [A4_pos _ hn hin.2 hh hw, A4_pos y hn hin.2 hh hw]
      rfl
    · rw [if_neg hin]
      split
      · exact A4_neg _ (by omega)
      · rfl
  rw [A4_pos _ hn hc hh hw]
  show Ideal.div (y _) (Ideal.pow (c2 _ + cα _ * (extractStridedSlice _ _ pd s0 _ + extractStridedSlice _ _ pd s1 _
    + extractStridedSlice _ _ pd s2 _ + extractStridedSlice _ _ pd s3 _ + extractStridedSlice _ _ pd s4 _)) (cβ _)) = _
  rw [hα, h2, hβ]
  unfold lrnS normV
  have e := sq_five C (fun k => A4 y n k h w) c (fun q => if 2 ≤ q + c ∧ q + c - 2 < C then A4 y n (q + c - 2) h w * A4 y n (q + c - 2) h w else 0)
    (fun q _ => rfl)
  rw [← e, A4_pos y hn hc hh hw]
  refine congrArg (fun d => Ideal.div _ (Ideal.pow (κ2 + kα * d) kβ)) ?_
  refine congrArg₂ (· + ·) (congrArg₂ (· + ·) (congrArg₂ (· + ·) (congrArg₂ (· + ·) ?_ ?_) ?_) ?_) ?_
  · exact (A4_ix _ ⟨n, hn⟩ ⟨c, hc⟩ ⟨h, hh⟩ ⟨w, hw⟩).trans (rd 0 s0 (by omega))
  · exact (A4_ix _ ⟨n, hn⟩ ⟨c, hc⟩ ⟨h, hh⟩ ⟨w, hw⟩).trans (rd 1 s1 (by omega))
  · exact (A4_ix _ ⟨n, hn⟩ ⟨c, hc⟩ ⟨h, hh⟩ ⟨w, hw⟩).trans (rd 2 s2 (by omega))
  · exact (A4_ix _ ⟨n, hn⟩ ⟨c, hc⟩ ⟨h, hh⟩ ⟨w, hw⟩).trans (rd 3 s3 (by omega))
  · exact (A4_ix _ ⟨n, hn⟩ ⟨c, hc⟩ ⟨h, hh⟩ ⟨w, hw⟩).trans (rd 4 s4 (by omega))

end Lrn

/-- Minus infinity's pattern is the least value. -/
theorem ofBits_neg_inf : (Scalar.ofBits (F := Ideal) .f32 0xFF800000#32) = (⊥ : EReal) := by
  simp [Scalar.ofBits, Ideal.ofBits, Ideal.ieee]

/-- A pooling window. -/
abbrev W33 : Shape := ⟨4, ![1, 1, 3, 3]⟩

/-- The nine positions of a window, in row-major order. -/
theorem win_pos : ∀ k : Fin W33.numel, (W33.rowMajor.symm k 0).val = 0
    ∧ (W33.rowMajor.symm k 1).val = 0
    ∧ (W33.rowMajor.symm k 2).val = k.val / 3
    ∧ (W33.rowMajor.symm k 3).val = k.val % 3 := by
  decide +kernel

/-- The reference's pooling at coordinates. -/
theorem ref_pool {N C P Q : ℕ} (y : FVec Ideal ⟨4, ![N, C, P, P]⟩ .f32) {u : Shape} (v : FVec Ideal u .f32) (hw) (hu : 0 < u.numel)
    (hv : v (Shape.Idx.first hu) = (⊥ : EReal)) (hQ : ∀ h, h < Q → 2 * h + 2 < P)
    {n c h w : ℕ} (hn : n < N) (hc : c < C) (hh : h < Q) (hq : w < Q) :
    A4 (Host.reduceWindow (t := ⟨4, ![N, C, Q, Q]⟩) FloatOps.maximumf ![1, 1, 3, 3] ![1, 1, 2, 2] ![0, 0, 0, 0] ![0, 0, 0, 0] y v hw hu
        : FVec Ideal ⟨4, ![N, C, Q, Q]⟩ .f32) n c h w = poolS (A4 y n) c h w := by
  rw [A4_pos _ hn hc hh hq]
  have bh := hQ h hh
  have bw := hQ w hq
  have fold : ∀ (f : EReal → Fin W33.numel → EReal) (_ : ∀ r k, f r k = max r (A4 y n c (2 * h + k.val / 3) (2 * w + k.val % 3)))
      (L : List (Fin W33.numel)) (r : EReal), L.foldl f r = L.foldl (fun r k => max r (A4 y n c (2 * h + k.val / 3) (2 * w + k.val % 3))) r := by
    intro f hf L
    induction L with
    | nil => intro r; rfl
    | cons k L ih => intro r; rw [List.foldl_cons, List.foldl_cons, hf r k]; exact ih _
  unfold Host.reduceWindow
  refine (fold _ ?_ (List.finRange W33.numel) (v (Shape.Idx.first hu))).trans ?_
  · intro r k
    have k9 : k.val < 9 := k.isLt
    obtain ⟨p0, p1, p2, p3⟩ := win_pos k
    have k1 : k.val / 3 ≤ 2 := by omega
    have k2 : k.val % 3 ≤ 2 := by omega
    refine congrArg (max r) ?_
    rw [dif_pos (fun a => ⟨by match a with | ⟨0, _⟩ => exact Nat.zero_le _ | ⟨1, _⟩ => exact Nat.zero_le _ | ⟨2, _⟩ => exact Nat.zero_le _ | ⟨3, _⟩ => exact Nat.zero_le _, by
      match a with
      | ⟨0, _⟩ => show n * 1 + (W33.rowMajor.symm k 0).val - 0 < N; rw [p0]; omega
      | ⟨1, _⟩ => show c * 1 + (W33.rowMajor.symm k 1).val - 0 < C; rw [p1]; omega
      | ⟨2, _⟩ => show h * 2 + (W33.rowMajor.symm k 2).val - 0 < P; rw [p2]; omega
      | ⟨3, _⟩ => show w * 2 + (W33.rowMajor.symm k 3).val - 0 < P; rw [p3]; omega⟩)]
    rw [A4_pos y hn hc (show 2 * h + k.val / 3 < P by omega) (show 2 * w + k.val % 3 < P by omega)]
    refine congrArg y (funext fun a => Fin.ext ?_)
    match a with
    | ⟨0, _⟩ => show n * 1 + (W33.rowMajor.symm k 0).val - 0 = n; rw [p0]; omega
    | ⟨1, _⟩ => show c * 1 + (W33.rowMajor.symm k 1).val - 0 = c; rw [p1]; omega
    | ⟨2, _⟩ => show h * 2 + (W33.rowMajor.symm k 2).val - 0 = 2 * h + k.val / 3; rw [p2]; omega
    | ⟨3, _⟩ => show w * 2 + (W33.rowMajor.symm k 3).val - 0 = 2 * w + k.val % 3; rw [p3]; omega
  show (List.finRange 9).foldl (fun (r : EReal) (k : Fin 9) => max r (A4 y n c (2 * h + k.val / 3) (2 * w + k.val % 3))) _ = _
  rw [hv, show List.finRange 9 = [0, 1, 2, 3, 4, 5, 6, 7, 8] from by decide]
  show max (max (max (max (max (max (max (max (max ⊥ (A4 y n c (2 * h) (2 * w))) (A4 y n c (2 * h) (2 * w + 1))) (A4 y n c (2 * h) (2 * w + 2)))
    (A4 y n c (2 * h + 1) (2 * w))) (A4 y n c (2 * h + 1) (2 * w + 1))) (A4 y n c (2 * h + 1) (2 * w + 2)))
    (A4 y n c (2 * h + 2) (2 * w))) (A4 y n c (2 * h + 2) (2 * w + 1))) (A4 y n c (2 * h + 2) (2 * w + 2)) = _
  unfold poolS max3
  rw [max_eq_right bot_le]
  dsimp only
  ac_rfl

end Cert.Net
-- ==== Proof.RefFc.lean ====
/-
  THE REFERENCE'S OTHER OPERATIONS: padding an image, a bias along an axis, a dense layer; and where a layer's value depends on
  its argument.
-/
module

public import proofs.«01_k».proof.Proof.HostOps

@[expose] public section

noncomputable section

open scoped BigOperators

namespace Cert.Net

open Idealize.ShloMosaic

/-- Equal rows and columns where the window looks make equal greatest values. -/
theorem poolS_congr {Y Z : ℕ → ℕ → ℕ → EReal} {c h w : ℕ}
    (e : ∀ i j, i < 3 → j < 3 → Y c (2 * h + i) (2 * w + j) = Z c (2 * h + i) (2 * w + j)) : poolS Y c h w = poolS Z c h w := by
  unfold poolS max3
  have e00 := e 0 0 (by omega) (by omega)
  have e01 := e 0 1 (by omega) (by omega)
  have e02 := e 0 2 (by omega) (by omega)
  have e10 := e 1 0 (by omega) (by omega)
  have e11 := e 1 1 (by omega) (by omega)
  have e12 := e 1 2 (by omega) (by omega)
  have e20 := e 2 0 (by omega) (by omega)
  have e21 := e 2 1 (by omega) (by omega)
  have e22 := e 2 2 (by omega) (by omega)
  simp only [Nat.add_zero] at e00 e01 e02 e10 e20
  simp only [e00, e01, e02, e10, e11, e12, e20, e21, e22]

/-- A normalised value depends on the channels at its own position. -/
theorem lrnS_congr {C : ℕ} {Y Z : ℕ → ℕ → ℕ → EReal} {c h w : ℕ} (hc : c < C) (e : ∀ k, k < C → Y k h w = Z k h w) :
    lrnS C Y c h w = lrnS C Z c h w := by
  unfold lrnS sqS
  rw [e c hc]
  refine congrArg (normV _) (Finset.sum_congr rfl fun k hk => ?_)
  show (if _ then Y k h w * Y k h w else 0) = if _ then Z k h w * Z k h w else 0
  rw [e k (Finset.mem_range.mp hk)]

/-- A padded image at coordinates. -/
theorem ref_pad {N C H D p : ℕ} (x : FVec Ideal ⟨4, ![N, C, H, H]⟩ .f32) {u : Shape} (v : FVec Ideal u .f32)
    (hp : (⟨4, ![N, C, H, H]⟩ : Shape).Pads ![0, 0, p, p] ![0, 0, p, p] ![0, 0, 0, 0] ⟨4, ![N, C, D, D]⟩) (hu : 0 < u.numel)
    (hv : v (Shape.Idx.first hu) = (0 : EReal)) {n c i j : ℕ} (hn : n < N) (hc : c < C) (hi : i < D) (hj : j < D) :
    A4 (pad ⟨4, ![N, C, D, D]⟩ ![0, 0, p, p] ![0, 0, p, p] ![0, 0, 0, 0] x v hp hu) n c i j = padS p (A4 x n) c i j := by
  refine (A4_pad x v hp hu hv hn hc hi hj).trans ?_
  unfold padS
  by_cases h : p ≤ i ∧ p ≤ j
  · rw [if_pos ⟨Nat.zero_le _, Nat.zero_le _, h.1, h.2⟩, if_pos h]
    rfl
  · rw [if_neg h, if_neg fun h' => h ⟨h'.2.2.1, h'.2.2.2⟩]

/-- A bias per channel at coordinates. -/
theorem ref_bias {N O P : ℕ} (e : O ≠ 1) (b : FVec Ideal ⟨1, ![O]⟩ .f32) (h1 : (⟨1, ![O]⟩ : Shape).BroadcastsInDim ⟨4, ![1, O, 1, 1]⟩ ![1])
    (h2 : (⟨4, ![1, O, 1, 1]⟩ : Shape).BroadcastsInDim ⟨4, ![N, O, P, P]⟩ ![0, 1, 2, 3]) {n o h q : ℕ} (hn : n < N) (ho : o < O)
    (hh : h < P) (hq : q < P) :
    A4 (broadcastInDim ⟨4, ![N, O, P, P]⟩ ![0, 1, 2, 3] h2 (broadcastInDim ⟨4, ![1, O, 1, 1]⟩ ![1] h1 b)) n o h q = A1 b o := by
  rw [A4_pos _ hn ho hh hq, A1_pos b ho]
  unfold broadcastInDim
  refine congrArg b (funext fun a => Fin.ext ?_)
  match a with
  | ⟨0, _⟩ =>
    have e1 : ¬ (⟨1, ![O]⟩ : Shape).size (0 : Fin 1) = 1 := e
    have e2 : ¬ (⟨4, ![1, O, 1, 1]⟩ : Shape).size (1 : Fin 4) = 1 := e
    refine (congrArg Fin.val (dif_neg e1)).trans ?_
    exact (congrArg Fin.val (dif_neg e2))

/-- A bias per column at coordinates. -/
theorem ref_bias2 {M N : ℕ} (e : N ≠ 1) (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) {i j : ℕ} (hi : i < M) (hj : j < N) :
    A2 (broadcastInDim ⟨2, ![M, N]⟩ ![0, 1] h2 (broadcastInDim ⟨2, ![1, N]⟩ ![1] h1 b)) i j = A1 b j := by
  rw [A2_pos _ hi hj, A1_pos b hj]
  unfold broadcastInDim
  refine congrArg b (funext fun a => Fin.ext ?_)
  match a with
  | ⟨0, _⟩ =>
    have e1 : ¬ (⟨1, ![N]⟩ : Shape).size (0 : Fin 1) = 1 := e
    have e2 : ¬ (⟨2, ![1, N]⟩ : Shape).size (1 : Fin 2) = 1 := e
    refine (congrArg Fin.val (dif_neg e1)).trans ?_
    exact (congrArg Fin.val (dif_neg e2))

/-- A plain product. -/
def mmD (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- A contraction index of one axis is its coordinate. -/
def idxEquiv1 (a : ℕ) : (Shape.ofList [a]).Idx ≃ Fin a where
  toFun v := v (0 : Fin 1)
  invFun q := fun (t : Fin 1) => match t with
    | ⟨0, _⟩ => q
  left_inv v := funext fun (t : Fin 1) => match t with
    | ⟨0, _⟩ => rfl
  right_inv _ := rfl

/-- The plain product at coordinates. -/
theorem mm_dot {M K N : ℕ} (wf) (x : FVec Ideal ⟨2, ![M, K]⟩ .f32) (w : FVec Ideal ⟨2, ![K, N]⟩ .f32) {i j : ℕ} (hi : i < M) (hj : j < N) :
    A2 (Host.dotGeneral (mmD M K N wf) none x w : FVec Ideal ⟨2, ![M, N]⟩ .f32) i j = ∑ k ∈ Finset.range K, A2 x i k * A2 w k j := by
  rw [A2_pos _ hi hj]
  refine (Ideal.dotGeneral_apply (mmD M K N wf) none _ x w _).trans ?_
  refine (Equiv.sum_comp (idxEquiv1 K).symm (fun k : (mmD M K N wf).contr.Idx =>
    x ((mmD M K N wf).lhsIdx (ix2 ⟨i, hi⟩ ⟨j, hj⟩) k) * w ((mmD M K N wf).rhsIdx (ix2 ⟨i, hi⟩ ⟨j, hj⟩) k))).symm.trans ?_
  rw [Finset.sum_range]
  refine Finset.sum_congr rfl fun k _ => ?_
  rw [A2_pos x hi k.isLt, A2_pos w k.isLt hj]
  refine congrArg₂ (· * ·) (congrArg x (funext fun t => Fin.ext ?_)) (congrArg w (funext fun t => Fin.ext ?_))
  · match t with
    | ⟨0, _⟩ => rfl
    | ⟨1, _⟩ => rfl
  · match t with
    | ⟨0, _⟩ => rfl
    | ⟨1, _⟩ => rfl

/-- The reference's dense layer at coordinates. -/
theorem ref_fc {M K N : ℕ} (e : N ≠ 1) (wf) (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩) (h1 : (⟨1, ![N]⟩ : Shape).BroadcastsInDim ⟨2, ![1, N]⟩ ![1])
    (h2 : (⟨2, ![1, N]⟩ : Shape).BroadcastsInDim ⟨2, ![M, N]⟩ ![0, 1]) (z : FVec Ideal ⟨2, ![M, N]⟩ .f32) (hz : ∀ i, z i = (0 : EReal))
    {i j : ℕ} (hi : i < M) (hj : j < N) :
    A2 (maximumf (addf (Host.dotGeneral (mmD M K N wf) none x (transpose ⟨2, ![K, N]⟩ [1, 0] w ht) : FVec Ideal ⟨2, ![M, N]⟩ .f32)
      (broadcastInDim ⟨2, ![M, N]⟩ ![0, 1] h2 (broadcastInDim ⟨2, ![1, N]⟩ ![1] h1 b))) z) i j = fcS K (A2 x i) (A2 w) (A1 b) j := by
  rw [A2_pos _ hi hj]
  refine congrArg₂ max (congrArg₂ (· + ·) ?_ ?_) (hz _)
  · refine (A2_ix _ ⟨i, hi⟩ ⟨j, hj⟩).trans ((mm_dot wf x _ hi hj).trans (Finset.sum_congr rfl fun k hk => ?_))
    rw [A2_transpose w ht (Finset.mem_range.mp hk) hj]
  · exact (A2_ix _ ⟨i, hi⟩ ⟨j, hj⟩).trans (ref_bias2 e b h1 h2 hi hj)

end Cert.Net
-- ==== Proof.HostA.lean ====
/-
  WHAT THE FIRST CALL IS GIVEN: the image split by the stride, and the weights laid out beside it.
-/
module

public import proofs.«01_k».proof.Proof.HostOps
public import proofs.«01_k».proof.Proof.Spec
public import proofs.«01_k».proof.Proof.Gen.KernelIdeal.Frame

@[expose] public section

set_option maxRecDepth 16384

noncomputable section

namespace Cert.Net

open Idealize.ShloMosaic Idealize.ShloMosaic.TcCoe Cert.KernelIdeal Cert.KernelIdeal.Gen

section HA
variable (m : (ℓ : Loc nD τ sig) → Buf (Elt Ideal) ℓ) (ρ : Dev nD → PrngReg) (c : Dev nD)

/-- The padding value: an integer zero converted. -/
abbrev zpad : FVec Ideal S_ .f32 := sitofp .f32 (constantI S_ 32 0#32)

/-- The contents of buffer `v0` at boundary 2, as an operation on earlier contents. -/
theorem w2_v0 : W2 m ρ c (Proc.devRef .tc main_v0)
    = pad S128x3x228x256 ![0, 0, 2, 2] ![0, 0, 2, 30] ![0, 0, 0, 0] (m ((c : Thread nD τ).loc main_arg0)) zpad pads_S128x3x224x224_S128x3x228x256_000_000_220_2300 h_S_ := by
  have hc : ∀ U : Valuation τ sig (Elt Ideal), StableHlo.after hostOps0 U (Proc.devRef .tc main_c) = constantI S_ 32 0#32 := by
    intro U
    after_results <;> rfl
  have h : ∀ U : Valuation τ sig (Elt Ideal), StableHlo.after hostOps0_1 U (Proc.devRef .tc main_v0)
      = pad S128x3x228x256 ![0, 0, 2, 2] ![0, 0, 2, 30] ![0, 0, 0, 0] (U (Proc.devRef .tc main_arg0)) (sitofp (F := Ideal) .f32 (U (Proc.devRef .tc main_c))) pads_S128x3x224x224_S128x3x228x256_000_000_220_2300 h_S_ := by
    intro U
    after_results <;> rfl
  refine (h (W1 m ρ c)).trans ?_
  rw [show W1 m ρ c (Proc.devRef .tc main_c) = constantI S_ 32 0#32 from hc _]
  exact congrArg (pad S128x3x228x256 ![0, 0, 2, 2] ![0, 0, 2, 30] ![0, 0, 0, 0] · zpad pads_S128x3x224x224_S128x3x228x256_000_000_220_2300 h_S_) (W1_args m ρ c main_arg0 (by decide))

/-- The contents of buffer `v3` at boundary 3, as an operation on earlier contents. -/
theorem w3_v3 : W3 m ρ c (Proc.devRef .tc main_v3)
    = shapeCast S128x4x12x3648 (transpose S128x4x4x3x57x64 [0, 3, 5, 1, 2, 4]
        (shapeCast S128x3x57x4x64x4 (W2 m ρ c (Proc.devRef .tc main_v0)) shapeCasts_S128x3x228x256_S128x3x57x4x64x4)
        transposes_S128x3x57x4x64x4_S128x4x4x3x57x64_0_3_5_1_2_4) shapeCasts_S128x4x4x3x57x64_S128x4x12x3648 := by
  show StableHlo.after hostOps0_2 (W2 m ρ c) _ = _
  generalize W2 m ρ c = U
  after_results <;> rfl

/-- The contents of buffer `v4` at boundary 4, as an operation on earlier contents. -/
theorem w4_v4 : W4 m ρ c (Proc.devRef .tc main_v4)
    = pad S128x4x16x3714 ![0, 0, 0, 0] ![0, 0, 4, 66] ![0, 0, 0, 0] (W3 m ρ c (Proc.devRef .tc main_v3)) zpad pads_S128x4x12x3648_S128x4x16x3714_000_000_040_0660 h_S_ := by
  have hc : ∀ U : Valuation τ sig (Elt Ideal), StableHlo.after hostOps0_2 U (Proc.devRef .tc main_c_0) = constantI S_ 32 0#32 := by
    intro U
    after_results <;> rfl
  have h : ∀ U : Valuation τ sig (Elt Ideal), StableHlo.after hostOps0_3 U (Proc.devRef .tc main_v4)
      = pad S128x4x16x3714 ![0, 0, 0, 0] ![0, 0, 4, 66] ![0, 0, 0, 0] (U (Proc.devRef .tc main_v3)) (sitofp (F := Ideal) .f32 (U (Proc.devRef .tc main_c_0))) pads_S128x4x12x3648_S128x4x16x3714_000_000_040_0660 h_S_ := by
    intro U
    after_results <;> rfl
  refine (h (W3 m ρ c)).trans ?_
  rw [show W3 m ρ c (Proc.devRef .tc main_c_0) = constantI S_ 32 0#32 from hc _]

/-- The contents of buffer `v5` at boundary 6, as an operation on earlier contents. -/
theorem w6_v5 : W6 m ρ c (Proc.devRef .tc main_v5)
    = pad S96x3x11x12 ![0, 0, 0, 0] ![0, 0, 0, 1] ![0, 0, 0, 0] (m ((c : Thread nD τ).loc main_arg1)) zpad pads_S96x3x11x11_S96x3x11x12_000_000_000_010 h_S_ := by
  have hc : ∀ U : Valuation τ sig (Elt Ideal), StableHlo.after hostOps0_4 U (Proc.devRef .tc main_c_1) = constantI S_ 32 0#32 := by
    intro U
    after_results <;> rfl
  have h : ∀ U : Valuation τ sig (Elt Ideal), StableHlo.after hostOps0_5 U (Proc.devRef .tc main_v5)
      = pad S96x3x11x12 ![0, 0, 0, 0] ![0, 0, 0, 1] ![0, 0, 0, 0] (U (Proc.devRef .tc main_arg1)) (sitofp (F := Ideal) .f32 (U (Proc.devRef .tc main_c_1))) pads_S96x3x11x11_S96x3x11x12_000_000_000_010 h_S_ := by
    intro U
    after_results <;> rfl
  refine (h (W5 m ρ c)).trans ?_
  rw [show W5 m ρ c (Proc.devRef .tc main_c_1) = constantI S_ 32 0#32 from hc _]
  exact congrArg (pad S96x3x11x12 ![0, 0, 0, 0] ![0, 0, 0, 1] ![0, 0, 0, 0] · zpad pads_S96x3x11x11_S96x3x11x12_000_000_000_010 h_S_) (W5_args m ρ c main_arg1 (by decide))

/-- The contents of buffer `v8` at boundary 7, as an operation on earlier contents. -/
theorem w7_v8 : W7 m ρ c (Proc.devRef .tc main_v8)
    = shapeCast S11x3x12x96 (transpose S11x3x4x3x96 [2, 3, 4, 1, 0]
        (shapeCast S96x3x11x3x4 (W6 m ρ c (Proc.devRef .tc main_v5)) shapeCasts_S96x3x11x12_S96x3x11x3x4)
        transposes_S96x3x11x3x4_S11x3x4x3x96_2_3_4_1_0) shapeCasts_S11x3x4x3x96_S11x3x12x96 := by
  show StableHlo.after hostOps0_6 (W6 m ρ c) _ = _
  generalize W6 m ρ c = U
  after_results <;> rfl

/-- The contents of buffer `v9` at boundary 8, as an operation on earlier contents. -/
theorem w8_v9 : W8 m ρ c (Proc.devRef .tc main_v9)
    = pad S11x3x16x128 ![0, 0, 0, 0] ![0, 0, 4, 32] ![0, 0, 0, 0] (W7 m ρ c (Proc.devRef .tc main_v8)) zpad pads_S11x3x12x96_S11x3x16x128_000_000_040_0320 h_S_ := by
  have hc : ∀ U : Valuation τ sig (Elt Ideal), StableHlo.after hostOps0_6 U (Proc.devRef .tc main_c_2) = constantI S_ 32 0#32 := by
    intro U
    after_results <;> rfl
  have h : ∀ U : Valuation τ sig (Elt Ideal), StableHlo.after hostOps0_7 U (Proc.devRef .tc main_v9)
      = pad S11x3x16x128 ![0, 0, 0, 0] ![0, 0, 4, 32] ![0, 0, 0, 0] (U (Proc.devRef .tc main_v8)) (sitofp (F := Ideal) .f32 (U (Proc.devRef .tc main_c_2))) pads_S11x3x12x96_S11x3x16x128_000_000_040_0320 h_S_ := by
    intro U
    after_results <;> rfl
  refine (h (W7 m ρ c)).trans ?_
  rw [show W7 m ρ c (Proc.devRef .tc main_c_2) = constantI S_ 32 0#32 from hc _]

/-- The contents of buffer `v11` at boundary 9, as an operation on earlier contents. -/
theorem w9_v11 : W9 m ρ c (Proc.devRef .tc main_v11) = truncf (F := Ideal) .bf16 (shapeCast S528x128 (W8 m ρ c (Proc.devRef .tc main_v9)) shapeCasts_S11x3x16x128_S528x128) bitsLt_bf16_f32 := by
  show StableHlo.after hostOps0_8 (W8 m ρ c) _ = _
  generalize W8 m ρ c = U
  after_results <;> rfl

/-- The contents of buffer `v18` at boundary 9, as an operation on earlier contents. -/
theorem w9_v18 : W9 m ρ c (Proc.devRef .tc main_v18) = uitofp (F := Ideal) .bf16 (cmpi .sle (absi (subi (iotaInDim S128x128 32 0) (iotaInDim S128x128 32 1)))
        (broadcastInDim S128x128 ![] bcast_S_S128x128 (constantI S_ 32 2#32))) := by
  show StableHlo.after hostOps0_8 (W8 m ρ c) _ = _
  generalize W8 m ρ c = U
  after_results <;> rfl

/-- The contents of buffer `v19` at boundary 10, as an operation on earlier contents. -/
theorem w10_v19 : W10 m ρ c (Proc.devRef .tc main_v19)
    = pad S128 ![0] ![32] ![0] (m ((c : Thread nD τ).loc main_arg2)) zpad pads_S96_S128_0320 h_S_ := by
  have hc : ∀ U : Valuation τ sig (Elt Ideal), StableHlo.after hostOps0_8 U (Proc.devRef .tc main_c_4) = constantI S_ 32 0#32 := by
    intro U
    after_results <;> rfl
  have h : ∀ U : Valuation τ sig (Elt Ideal), StableHlo.after hostOps0_9 U (Proc.devRef .tc main_v19)
      = pad S128 ![0] ![32] ![0] (U (Proc.devRef .tc main_arg2)) (sitofp (F := Ideal) .f32 (U (Proc.devRef .tc main_c_4))) pads_S96_S128_0320 h_S_ := by
    intro U
    after_results <;> rfl
  refine (h (W9 m ρ c)).trans ?_
  rw [show W9 m ρ c (Proc.devRef .tc main_c_4) = constantI S_ 32 0#32 from hc _]
  exact congrArg (pad S128 ![0] ![32] ![0] · zpad pads_S96_S128_0320 h_S_) (W9_args m ρ c main_arg2 (by decide))

/-- The contents of buffer `v20` at boundary 11, as an operation on earlier contents. -/
theorem w11_v20 : W11 m ρ c (Proc.devRef .tc main_v20) = shapeCast S1x128 (W10 m ρ c (Proc.devRef .tc main_v19)) shapeCasts_S128_S1x128 := by
  show StableHlo.after hostOps0_10 (W10 m ρ c) _ = _
  generalize W10 m ρ c = U
  after_results <;> rfl

/-- Buffer `v4` is unchanged up to the call that reads it. -/
theorem k_v4 : W11 m ρ c (Proc.devRef .tc main_v4) = W4 m ρ c (Proc.devRef .tc main_v4) :=
  ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans (W5_of m ρ c main_v4 (by decide))))))))

/-- Buffer `v11` is unchanged up to the call that reads it. -/
theorem k_v11 : W11 m ρ c (Proc.devRef .tc main_v11) = W9 m ρ c (Proc.devRef .tc main_v11) :=
  ((W11_of m ρ c main_v11 (by decide)).trans (W10_of m ρ c main_v11 (by decide)))

/-- Buffer `v18` is unchanged up to the call that reads it. -/
theorem k_v18 : W11 m ρ c (Proc.devRef .tc main_v18) = W9 m ρ c (Proc.devRef .tc main_v18) :=
  ((W11_of m ρ c main_v18 (by decide)).trans (W10_of m ρ c main_v18 (by decide)))

/-- The split image: rows and columns by their remainders modulo the stride. -/
theorem in0_x {n hr wr k h w : ℕ} (hn : n < 128) (h1 : hr < 4) (h2 : wr < 4) (h3 : k < 3) (h4 : h < 57) (h5 : w < 57) :
    A4 (a := 128) (b := 4) (c := 16) (d := 3714) (V11 m ρ c main_v4) n hr (wr * 3 + k) (h * 64 + w)
      = padS 2 (A4 (a := 128) (b := 3) (c := 224) (d := 224) (m ((c : Thread nD τ).loc main_arg0)) n) k (4 * h + hr) (4 * w + wr) := by
  have e1 : V11 m ρ c main_v4 = _ := (k_v4 m ρ c).trans (w4_v4 m ρ c)
  rw [e1]
  refine (A4_pad _ _ _ _ (zero_of_int _) hn h1 (by omega) (by omega)).trans ?_
  rw [if_pos (by omega)]
  simp only [Nat.sub_zero]
  rw [w3_v3, A4_fl (a := 128) (b := 4) (c := 12) (d := 3648) _ hn h1 (by omega) (by omega)]
  refine (fl_cast _ _ _).trans ?_
  refine (congrArg (fl _) (by omega)).trans ((A6_fl (a := 128) (b := 4) (c := 4) (d := 3) (e := 57) (f := 64) (n := w) _ hn h1 h2 h3 h4 (by omega)).symm.trans ?_)
  refine (A6_transpose_035124 _ _ hn h1 h2 h3 h4 (by omega)).trans ?_
  rw [A6_fl _ hn h3 h4 h1 (by omega) h2]
  refine (fl_cast _ _ _).trans ?_
  rw [w2_v0]
  refine (congrArg (fl _) (by omega)).trans ((A4_fl (a := 128) (b := 3) (c := 228) (d := 256) (k := 4 * h + hr) (l := 4 * w + wr) _ hn h3 (by omega) (by omega)).symm.trans ?_)
  refine (A4_pad _ _ _ _ (zero_of_int _) hn h3 (by omega) (by omega)).trans ?_
  unfold padS
  by_cases hh : 2 ≤ 4 * h + hr ∧ 2 ≤ 4 * w + wr
  · rw [if_pos (by omega), if_pos hh]; rfl
  · rw [if_neg (by omega), if_neg hh]

/-- The weights of the first convolution, laid out beside the split image. -/
theorem in0_w {kh g wr k o : ℕ} (h1 : kh < 11) (h2 : g < 3) (h3 : wr < 4) (h4 : k < 3) (h5 : o < 128) :
    A2 (a := 528) (b := 128) (V11 m ρ c main_v11) ((kh * 3 + g) * 16 + (wr * 3 + k)) o
      = if g * 4 + wr < 11 ∧ o < 96 then A4 (a := 96) (b := 3) (c := 11) (d := 11) (m ((c : Thread nD τ).loc main_arg1)) o k kh (g * 4 + wr) else 0 := by
  have e1 : V11 m ρ c main_v11 = _ := (k_v11 m ρ c).trans (w9_v11 m ρ c)
  rw [e1]
  show A2 (a := 528) (b := 128) (shapeCast S528x128 (W8 m ρ c (Proc.devRef .tc main_v9)) shapeCasts_S11x3x16x128_S528x128) _ _ = _
  refine (A2_fl (a := 528) (b := 128) (i := (kh * 3 + g) * 16 + (wr * 3 + k)) (shapeCast S528x128 _ shapeCasts_S11x3x16x128_S528x128) (by omega) h5).trans ?_
  refine (fl_cast _ _ _).trans ?_
  rw [w8_v9]
  refine (congrArg (fl _) (by omega)).trans ((A4_fl (a := 11) (b := 3) (c := 16) (d := 128) (k := wr * 3 + k) (l := o) _ h1 h2 (by omega) h5).symm.trans ?_)
  refine (A4_pad _ _ _ _ (zero_of_int _) h1 h2 (by omega) h5).trans ?_
  rw [if_pos (by omega)]
  simp only [Nat.sub_zero]
  by_cases ho : o < 96
  · rw [w7_v8, A4_fl (a := 11) (b := 3) (c := 12) (d := 96) _ h1 h2 (by omega) ho]
    refine (fl_cast _ _ _).trans ?_
    refine (congrArg (fl _) (by omega)).trans ((A5_fl (a := 11) (b := 3) (c := 4) (d := 3) (e := 96) (m := o) _ h1 h2 h3 h4 ho).symm.trans ?_)
    refine (A5_transpose_23410 _ _ h1 h2 h3 h4 ho).trans ?_
    rw [A5_fl _ ho h4 h1 h2 h3]
    refine (fl_cast _ _ _).trans ?_
    rw [w6_v5]
    refine (congrArg (fl _) (by omega)).trans ((A4_fl (a := 96) (b := 3) (c := 11) (d := 12) (k := kh) (l := g * 4 + wr) _ ho h4 h1 (by omega)).symm.trans ?_)
    refine (A4_pad _ _ _ _ (zero_of_int _) ho h4 h1 (by omega)).trans ?_
    rw [if_pos (by omega)]
    simp only [Nat.sub_zero]
    by_cases hg : g * 4 + wr < 11
    · rw [if_pos ⟨hg, ho⟩]
    · rw [if_neg (by omega), A4_neg]; omega
  · rw [if_neg (by omega), A4_neg]; omega

/-- The rows of the first weights that stand for no channel or tap are zero. -/
theorem in0_w0 {kh g q o : ℕ} (h1 : kh < 11) (h2 : g < 3) (h3 : 12 ≤ q) (h4 : q < 16) (h5 : o < 128) :
    A2 (a := 528) (b := 128) (V11 m ρ c main_v11) ((kh * 3 + g) * 16 + q) o = 0 := by
  have e1 : V11 m ρ c main_v11 = _ := (k_v11 m ρ c).trans (w9_v11 m ρ c)
  rw [e1]
  show A2 (a := 528) (b := 128) (shapeCast S528x128 (W8 m ρ c (Proc.devRef .tc main_v9)) shapeCasts_S11x3x16x128_S528x128) _ _ = _
  refine (A2_fl (a := 528) (b := 128) (i := (kh * 3 + g) * 16 + q) (shapeCast S528x128 _ shapeCasts_S11x3x16x128_S528x128) (by omega) h5).trans ?_
  refine (fl_cast _ _ _).trans ?_
  rw [w8_v9]
  refine (congrArg (fl _) (by omega)).trans ((A4_fl (a := 11) (b := 3) (c := 16) (d := 128) (k := q) (l := o) _ h1 h2 h4 h5).symm.trans ?_)
  refine (A4_pad _ _ _ _ (zero_of_int _) h1 h2 h4 h5).trans ?_
  rw [if_pos (by omega), A4_neg]; omega

/-- The first bias as a row, with 32 zeros. -/
theorem in0_b {o : ℕ} (h : o < 128) :
    A2 (a := 1) (b := 128) (V11 m ρ c main_v20) 0 o = if o < 96 then A1 (a := 96) (m ((c : Thread nD τ).loc main_arg2)) o else 0 := by
  have e1 : V11 m ρ c main_v20 = _ := w11_v20 m ρ c
  rw [e1]
  refine (cast1_2 _ _ h).trans ?_
  rw [w10_v19]
  refine (A1_pad _ _ _ _ (zero_of_int _) h).trans ?_
  rw [if_pos (by omega)]
  by_cases ho : o < 96
  · rw [if_pos ho]; rfl
  · rw [if_neg ho, A1_neg]; omega

/-- The first banded matrix: one within distance two of the diagonal, zero elsewhere. -/
theorem in0_g {i j : ℕ} (hi : i < 128) (hj : j < 128) :
    A2 (a := 128) (b := 128) (V11 m ρ c main_v18) i j = if i ≤ j + 2 ∧ j ≤ i + 2 then 1 else 0 := by
  have e1 : V11 m ρ c main_v18 = _ := (k_v18 m ρ c).trans (w9_v18 m ρ c)
  rw [e1]
  exact A2_band (by omega) _ hi hj

end HA

end Cert.Net
-- ==== Proof.HostB.lean ====
/-
  WHAT THE LATER CALLS ARE GIVEN: weights laid out tap by tap, biases as rows, the flattened features.
-/
module

public import proofs.«01_k».proof.Proof.HostA
public import proofs.«01_k».proof.Proof.Spec
public import proofs.«01_k».proof.Proof.Gen.KernelIdeal.Frame

@[expose] public section

set_option maxRecDepth 16384

noncomputable section

namespace Cert.Net

open Idealize.ShloMosaic Idealize.ShloMosaic.TcCoe Cert.KernelIdeal Cert.KernelIdeal.Gen

section HB
variable (m : (ℓ : Loc nD τ sig) → Buf (Elt Ideal) ℓ) (ρ : Dev nD → PrngReg) (c : Dev nD)

/-- Buffer `v21` is unchanged up to the call that reads it. -/
theorem k_v21 : W15 m ρ c (Proc.devRef .tc main_v21) = W12 m ρ c (Proc.devRef .tc main_v21) :=
  ((W15_of m ρ c main_v21 (by decide)).trans ((W14_of m ρ c main_v21 (by decide)).trans (W13_of m ρ c main_v21 (by decide))))

/-- The contents of buffer `v22` at boundary 13, as an operation on earlier contents. -/
theorem w13_v22 : W13 m ρ c (Proc.devRef .tc main_v22) = transpose S5x5x96x256 [2, 3, 1, 0] (W12 m ρ c (Proc.devRef .tc main_arg3)) transposes_S256x96x5x5_S5x5x96x256_2_3_1_0 := by
  show StableHlo.after hostOps1 (W12 m ρ c) _ = _
  generalize W12 m ρ c = U
  after_results <;> rfl

/-- The contents of buffer `v23` at boundary 14, as an operation on earlier contents. -/
theorem w14_v23 : W14 m ρ c (Proc.devRef .tc main_v23)
    = pad S5x5x128x256 ![0, 0, 0, 0] ![0, 0, 32, 0] ![0, 0, 0, 0] (W13 m ρ c (Proc.devRef .tc main_v22)) zpad pads_S5x5x96x256_S5x5x128x256_000_000_0320_000 h_S_ := by
  have hc : ∀ U : Valuation τ sig (Elt Ideal), StableHlo.after hostOps1 U (Proc.devRef .tc main_c_5) = constantI S_ 32 0#32 := by
    intro U
    after_results <;> rfl
  have h : ∀ U : Valuation τ sig (Elt Ideal), StableHlo.after hostOps1_1 U (Proc.devRef .tc main_v23)
      = pad S5x5x128x256 ![0, 0, 0, 0] ![0, 0, 32, 0] ![0, 0, 0, 0] (U (Proc.devRef .tc main_v22))
          (sitofp (F := Ideal) .f32 (U (Proc.devRef .tc main_c_5))) pads_S5x5x96x256_S5x5x128x256_000_000_0320_000 h_S_ := by
    intro U
    after_results <;> rfl
  refine (h (W13 m ρ c)).trans ?_
  rw [show W13 m ρ c (Proc.devRef .tc main_c_5) = constantI S_ 32 0#32 from hc _]

/-- The contents of buffer `v25` at boundary 15, as an operation on earlier contents. -/
theorem w15_v25 : W15 m ρ c (Proc.devRef .tc main_v25) = truncf (F := Ideal) .bf16 (shapeCast S5x640x256 (W14 m ρ c (Proc.devRef .tc main_v23)) shapeCasts_S5x5x128x256_S5x640x256) bitsLt_bf16_f32 := by
  show StableHlo.after hostOps1_2 (W14 m ρ c) _ = _
  generalize W14 m ρ c = U
  after_results <;> rfl

/-- The contents of buffer `v32` at boundary 15, as an operation on earlier contents. -/
theorem w15_v32 : W15 m ρ c (Proc.devRef .tc main_v32) = uitofp (F := Ideal) .bf16 (cmpi .sle (absi (subi (iotaInDim S256x256 32 0) (iotaInDim S256x256 32 1)))
        (broadcastInDim S256x256 ![] bcast_S_S256x256 (constantI S_ 32 2#32))) := by
  show StableHlo.after hostOps1_2 (W14 m ρ c) _ = _
  generalize W14 m ρ c = U
  after_results <;> rfl

/-- The contents of buffer `v33` at boundary 15, as an operation on earlier contents. -/
theorem w15_v33 : W15 m ρ c (Proc.devRef .tc main_v33) = shapeCast S1x256 (W14 m ρ c (Proc.devRef .tc main_arg4)) shapeCasts_S256_S1x256 := by
  show StableHlo.after hostOps1_2 (W14 m ρ c) _ = _
  generalize W14 m ρ c = U
  after_results <;> rfl

/-- The contents of buffer `v37` at boundary 17, as an operation on earlier contents. -/
theorem w17_v37 : W17 m ρ c (Proc.devRef .tc main_v37) = truncf (F := Ideal) .bf16 (shapeCast S3x768x384 (transpose S3x3x256x384 [2, 3, 1, 0] (W16 m ρ c (Proc.devRef .tc main_arg5)) transposes_S384x256x3x3_S3x3x256x384_2_3_1_0) shapeCasts_S3x3x256x384_S3x768x384) bitsLt_bf16_f32 := by
  show StableHlo.after hostOps2 (W16 m ρ c) _ = _
  generalize W16 m ρ c = U
  after_results <;> rfl

/-- The contents of buffer `v40` at boundary 17, as an operation on earlier contents. -/
theorem w17_v40 : W17 m ρ c (Proc.devRef .tc main_v40) = truncf (F := Ideal) .bf16 (shapeCast S3x1152x384 (transpose S3x3x384x384 [2, 3, 1, 0] (W16 m ρ c (Proc.devRef .tc main_arg7)) transposes_S384x384x3x3_S3x3x384x384_2_3_1_0) shapeCasts_S3x3x384x384_S3x1152x384) bitsLt_bf16_f32 := by
  show StableHlo.after hostOps2 (W16 m ρ c) _ = _
  generalize W16 m ρ c = U
  after_results <;> rfl

/-- The contents of buffer `v43` at boundary 17, as an operation on earlier contents. -/
theorem w17_v43 : W17 m ρ c (Proc.devRef .tc main_v43) = truncf (F := Ideal) .bf16 (shapeCast S3x1152x256 (transpose S3x3x384x256 [2, 3, 1, 0] (W16 m ρ c (Proc.devRef .tc main_arg9)) transposes_S256x384x3x3_S3x3x384x256_2_3_1_0) shapeCasts_S3x3x384x256_S3x1152x256) bitsLt_bf16_f32 := by
  show StableHlo.after hostOps2 (W16 m ρ c) _ = _
  generalize W16 m ρ c = U
  after_results <;> rfl

/-- The contents of buffer `v44` at boundary 17, as an operation on earlier contents. -/
theorem w17_v44 : W17 m ρ c (Proc.devRef .tc main_v44) = shapeCast S1x384 (W16 m ρ c (Proc.devRef .tc main_arg6)) shapeCasts_S384_S1x384 := by
  show StableHlo.after hostOps2 (W16 m ρ c) _ = _
  generalize W16 m ρ c = U
  after_results <;> rfl

/-- The contents of buffer `v45` at boundary 17, as an operation on earlier contents. -/
theorem w17_v45 : W17 m ρ c (Proc.devRef .tc main_v45) = shapeCast S1x384 (W16 m ρ c (Proc.devRef .tc main_arg8)) shapeCasts_S384_S1x384 := by
  show StableHlo.after hostOps2 (W16 m ρ c) _ = _
  generalize W16 m ρ c = U
  after_results <;> rfl

/-- The contents of buffer `v46` at boundary 17, as an operation on earlier contents. -/
theorem w17_v46 : W17 m ρ c (Proc.devRef .tc main_v46) = shapeCast S1x256 (W16 m ρ c (Proc.devRef .tc main_arg10)) shapeCasts_S256_S1x256 := by
  show StableHlo.after hostOps2 (W16 m ρ c) _ = _
  generalize W16 m ρ c = U
  after_results <;> rfl

/-- Buffer `v34` is unchanged up to the call that reads it. -/
theorem k_v34 : W17 m ρ c (Proc.devRef .tc main_v34) = W16 m ρ c (Proc.devRef .tc main_v34) :=
  (W17_of m ρ c main_v34 (by decide))

/-- The contents of buffer `v49` at boundary 19, as an operation on earlier contents. -/
theorem w19_v49 : W19 m ρ c (Proc.devRef .tc main_v49) = extf (F := Ideal) .f32 (shapeCast S128x9216 (W18 m ρ c (Proc.devRef .tc main_v47)) shapeCasts_S128x256x36_S128x9216) bitsLt_bf16_f32 := by
  show StableHlo.after hostOps3 (W18 m ρ c) _ = _
  generalize W18 m ρ c = U
  after_results <;> rfl

/-- The contents of buffer `v50` at boundary 19, as an operation on earlier contents. -/
theorem w19_v50 : W19 m ρ c (Proc.devRef .tc main_v50) = shapeCast S1x4096 (W18 m ρ c (Proc.devRef .tc main_arg12)) shapeCasts_S4096_S1x4096 := by
  show StableHlo.after hostOps3 (W18 m ρ c) _ = _
  generalize W18 m ρ c = U
  after_results <;> rfl

/-- The contents of buffer `v52` at boundary 21, as an operation on earlier contents. -/
theorem w21_v52 : W21 m ρ c (Proc.devRef .tc main_v52) = shapeCast S1x4096 (W20 m ρ c (Proc.devRef .tc main_arg14)) shapeCasts_S4096_S1x4096 := by
  show StableHlo.after hostOps4 (W20 m ρ c) _ = _
  generalize W20 m ρ c = U
  after_results <;> rfl

/-- The contents of buffer `v54` at boundary 23, as an operation on earlier contents. -/
theorem w23_v54 : W23 m ρ c (Proc.devRef .tc main_v54) = shapeCast S1x1000 (W22 m ρ c (Proc.devRef .tc main_arg16)) shapeCasts_S1000_S1x1000 := by
  show StableHlo.after hostOps5 (W22 m ρ c) _ = _
  generalize W22 m ρ c = U
  after_results <;> rfl

/-- Buffer `v51` is unchanged up to the call that reads it. -/
theorem k_v51 : W21 m ρ c (Proc.devRef .tc main_v51) = W20 m ρ c (Proc.devRef .tc main_v51) :=
  (W21_of m ρ c main_v51 (by decide))

/-- Buffer `v53` is unchanged up to the call that reads it. -/
theorem k_v53 : W23 m ρ c (Proc.devRef .tc main_v53) = W22 m ρ c (Proc.devRef .tc main_v53) :=
  (W23_of m ρ c main_v53 (by decide))

/-- The second convolution's weights, tap by tap, with 32 channels of zeros. -/
theorem in1_w {i q k o : ℕ} (h1 : i < 5) (h2 : q < 5) (h3 : k < 128) (h4 : o < 256) :
    A3 (a := 5) (b := 640) (c := 256) (V15 m ρ c main_v25) i (q * 128 + k) o
      = if k < 96 then A4 (a := 256) (b := 96) (c := 5) (d := 5) (m ((c : Thread nD τ).loc main_arg3)) o k i q else 0 := by
  have e1 : V15 m ρ c main_v25 = _ := w15_v25 m ρ c
  rw [e1]
  show A3 (a := 5) (b := 640) (c := 256) (shapeCast S5x640x256 (W14 m ρ c (Proc.devRef .tc main_v23)) shapeCasts_S5x5x128x256_S5x640x256) _ _ _ = _
  refine (A3_fl (a := 5) (b := 640) (c := 256) (j := q * 128 + k) _ h1 (by omega) h4).trans ?_
  refine (fl_cast _ _ _).trans ?_
  rw [w14_v23]
  refine (congrArg (fl _) (by omega)).trans ((A4_fl (a := 5) (b := 5) (c := 128) (d := 256) (l := o) _ h1 h2 h3 h4).symm.trans ?_)
  refine (A4_pad _ _ _ _ (zero_of_int _) h1 h2 h3 h4).trans ?_
  rw [if_pos (by omega)]
  simp only [Nat.sub_zero]
  by_cases hk : k < 96
  · rw [if_pos hk, w13_v22]
    refine (A4_transpose_2310 _ _ h1 h2 hk h4).trans ?_
    rw [W12_args m ρ c main_arg3 (by decide)]
  · rw [if_neg hk, A4_neg]; omega

/-- The second bias as a row. -/
theorem in1_b {o : ℕ} (h : o < 256) :
    A2 (a := 1) (b := 256) (V15 m ρ c main_v33) 0 o = A1 (a := 256) (m ((c : Thread nD τ).loc main_arg4)) o := by
  have e1 : V15 m ρ c main_v33 = _ := w15_v33 m ρ c
  rw [e1, W14_args m ρ c main_arg4 (by decide)]
  exact cast1_2 _ _ h

/-- The second banded matrix: one within distance two of the diagonal, zero elsewhere. -/
theorem in1_g {i j : ℕ} (hi : i < 256) (hj : j < 256) :
    A2 (a := 256) (b := 256) (V15 m ρ c main_v32) i j = if i ≤ j + 2 ∧ j ≤ i + 2 then 1 else 0 := by
  have e1 : V15 m ρ c main_v32 = _ := w15_v32 m ρ c
  rw [e1]
  exact A2_band (by omega) _ hi hj

/-- A `3 × 3` convolution's weights, channels last, the columns and channels of a tap in one axis. -/
theorem taps {O C D : ℕ} (hD : D = 3 * C) (x : (⟨4, ![O, C, 3, 3]⟩ : Shape).Idx → EReal)
    (h : (⟨4, ![O, C, 3, 3]⟩ : Shape).Transposes [2, 3, 1, 0] ⟨4, ![3, 3, C, O]⟩)
    (h' : (⟨4, ![3, 3, C, O]⟩ : Shape).ShapeCasts ⟨3, ![3, D, O]⟩) {i q k o : ℕ} (h1 : i < 3) (h2 : q < 3) (h3 : k < C) (h4 : o < O) :
    A3 (shapeCast ⟨3, ![3, D, O]⟩ (transpose ⟨4, ![3, 3, C, O]⟩ [2, 3, 1, 0] x h) h') i (q * C + k) o = A4 x o k i q := by
  have hb : q * C + k < D := by subst hD; nlinarith
  rw [A3_fl _ h1 hb h4]
  refine (fl_cast _ _ _).trans (Eq.trans (congrArg (fl _) ?_) ((A4_fl _ h1 h2 h3 h4).symm.trans (A4_transpose_2310 _ _ h1 h2 h3 h4)))
  subst hD; ring

/-- The third convolution's weights, tap by tap. -/
theorem in2_w3 {i q k o : ℕ} (h1 : i < 3) (h2 : q < 3) (h3 : k < 256) (h4 : o < 384) :
    A3 (a := 3) (b := 768) (c := 384) (V17 m ρ c main_v37) i (q * 256 + k) o
      = A4 (a := 384) (b := 256) (c := 3) (d := 3) (m ((c : Thread nD τ).loc main_arg5)) o k i q := by
  have e1 : V17 m ρ c main_v37 = _ := w17_v37 m ρ c
  rw [e1, W16_args m ρ c main_arg5 (by decide)]
  exact taps (by norm_num) _ _ _ h1 h2 h3 h4

/-- The fourth convolution's weights, tap by tap. -/
theorem in2_w4 {i q k o : ℕ} (h1 : i < 3) (h2 : q < 3) (h3 : k < 384) (h4 : o < 384) :
    A3 (a := 3) (b := 1152) (c := 384) (V17 m ρ c main_v40) i (q * 384 + k) o
      = A4 (a := 384) (b := 384) (c := 3) (d := 3) (m ((c : Thread nD τ).loc main_arg7)) o k i q := by
  have e1 : V17 m ρ c main_v40 = _ := w17_v40 m ρ c
  rw [e1, W16_args m ρ c main_arg7 (by decide)]
  exact taps (by norm_num) _ _ _ h1 h2 h3 h4

/-- The fifth convolution's weights, tap by tap. -/
theorem in2_w5 {i q k o : ℕ} (h1 : i < 3) (h2 : q < 3) (h3 : k < 384) (h4 : o < 256) :
    A3 (a := 3) (b := 1152) (c := 256) (V17 m ρ c main_v43) i (q * 384 + k) o
      = A4 (a := 256) (b := 384) (c := 3) (d := 3) (m ((c : Thread nD τ).loc main_arg9)) o k i q := by
  have e1 : V17 m ρ c main_v43 = _ := w17_v43 m ρ c
  rw [e1, W16_args m ρ c main_arg9 (by decide)]
  exact taps (by norm_num) _ _ _ h1 h2 h3 h4

/-- The third bias as a row. -/
theorem in2_b3 {o : ℕ} (h : o < 384) :
    A2 (a := 1) (b := 384) (V17 m ρ c main_v44) 0 o = A1 (a := 384) (m ((c : Thread nD τ).loc main_arg6)) o := by
  have e1 : V17 m ρ c main_v44 = _ := w17_v44 m ρ c
  rw [e1, W16_args m ρ c main_arg6 (by decide)]
  exact cast1_2 _ _ h

/-- The fourth bias as a row. -/
theorem in2_b4 {o : ℕ} (h : o < 384) :
    A2 (a := 1) (b := 384) (V17 m ρ c main_v45) 0 o = A1 (a := 384) (m ((c : Thread nD τ).loc main_arg8)) o := by
  have e1 : V17 m ρ c main_v45 = _ := w17_v45 m ρ c
  rw [e1, W16_args m ρ c main_arg8 (by decide)]
  exact cast1_2 _ _ h

/-- The fifth bias as a row. -/
theorem in2_b5 {o : ℕ} (h : o < 256) :
    A2 (a := 1) (b := 256) (V17 m ρ c main_v46) 0 o = A1 (a := 256) (m ((c : Thread nD τ).loc main_arg10)) o := by
  have e1 : V17 m ρ c main_v46 = _ := w17_v46 m ρ c
  rw [e1, W16_args m ρ c main_arg10 (by decide)]
  exact cast1_2 _ _ h

/-- The first dense bias as a row. -/
theorem in3_b {o : ℕ} (h : o < 4096) :
    A2 (a := 1) (b := 4096) (V19 m ρ c main_v50) 0 o = A1 (a := 4096) (m ((c : Thread nD τ).loc main_arg12)) o := by
  have e1 : V19 m ρ c main_v50 = _ := w19_v50 m ρ c
  rw [e1, W18_args m ρ c main_arg12 (by decide)]
  exact cast1_2 _ _ h

/-- The second dense bias as a row. -/
theorem in4_b {o : ℕ} (h : o < 4096) :
    A2 (a := 1) (b := 4096) (V21 m ρ c main_v52) 0 o = A1 (a := 4096) (m ((c : Thread nD τ).loc main_arg14)) o := by
  have e1 : V21 m ρ c main_v52 = _ := w21_v52 m ρ c
  rw [e1, W20_args m ρ c main_arg14 (by decide)]
  exact cast1_2 _ _ h

/-- The third dense bias as a row. -/
theorem in5_b {o : ℕ} (h : o < 1000) :
    A2 (a := 1) (b := 1000) (V23 m ρ c main_v54) 0 o = A1 (a := 1000) (m ((c : Thread nD τ).loc main_arg16)) o := by
  have e1 : V23 m ρ c main_v54 = _ := w23_v54 m ρ c
  rw [e1, W22_args m ρ c main_arg16 (by decide)]
  exact cast1_2 _ _ h

/-- The features of one image in one row: channel by channel, 36 positions each. -/
theorem in3_x {n k p : ℕ} (hn : n < 128) (hk : k < 256) (hp : p < 36) :
    A2 (a := 128) (b := 9216) (V19 m ρ c main_v49) n (k * 36 + p) = A3 (a := 128) (b := 256) (c := 36) (W18 m ρ c (Proc.devRef .tc main_v47)) n k p := by
  have e1 : V19 m ρ c main_v49 = _ := w19_v49 m ρ c
  rw [e1]
  show A2 (a := 128) (b := 9216) (shapeCast S128x9216 (W18 m ρ c (Proc.devRef .tc main_v47)) shapeCasts_S128x256x36_S128x9216) _ _ = _
  refine (A2_fl (a := 128) (b := 9216) (j := k * 36 + p) _ hn (by omega)).trans ?_
  refine (fl_cast _ _ _).trans ?_
  exact (congrArg (fl _) (by omega)).trans (A3_fl (a := 128) (b := 256) (c := 36) _ hn hk hp).symm

end HB

end Cert.Net
-- ==== Proof.Load.lean ====
/-
  LOADS READ AT NATURAL COORDINATES: a load through a unit-stride rectangle reads the contents at the rectangle's offsets.
-/
module

public import proofs.«01_k».proof.Proof.Acc
public import Idealize.ShloMosaic.Lib.Pipeline.Value
public import Idealize.ShloMosaic.Lib.Pipeline.ValueKit.Basic
public import Idealize.ShloMosaic.Lib.Pipeline.ValueKit.Tiles

@[expose] public section

noncomputable section

namespace Cert.Net

open Idealize.ShloMosaic

/-- A load through a rectangle at an offset, at coordinates. -/
theorem A2_ld16 {a b a' b' p q : ℕ} (x : FVec Ideal ⟨2, ![a, b]⟩ .bf16)
    (inb : ∀ t, ![p, q] t + ![a', b'] t ≤ (⟨2, ![a, b]⟩ : Shape).size t) {i j : ℕ} (hi : i < a') (hj : j < b') :
    A2 (View.ld (Val := Elt Ideal) (e' := EltTy.bf16) x (Rect.unit (s := (⟨2, ![a, b]⟩ : Shape)) ![p, q] ![a', b'] inb)) i j
      = A2 x (p + i) (q + j) :=
  (congrArg (fun y => A2 y i j) (View.ld_unit (Val := Elt Ideal) (e := EltTy.bf16) x _ _ inb)).trans
    (A2_slice (a' := a') (b' := b') (p := p) (q := q) x ⟨rfl, inb⟩ hi hj)

/-- A load through a rectangle at an offset, at coordinates. -/
theorem A3_ld16 {a b c a' b' c' p q r : ℕ} (x : FVec Ideal ⟨3, ![a, b, c]⟩ .bf16)
    (inb : ∀ t, ![p, q, r] t + ![a', b', c'] t ≤ (⟨3, ![a, b, c]⟩ : Shape).size t) {i j k : ℕ} (hi : i < a') (hj : j < b') (hk : k < c') :
    A3 (View.ld (Val := Elt Ideal) (e' := EltTy.bf16) x (Rect.unit (s := (⟨3, ![a, b, c]⟩ : Shape)) ![p, q, r] ![a', b', c'] inb)) i j k
      = A3 x (p + i) (q + j) (r + k) :=
  (congrArg (fun y => A3 y i j k) (View.ld_unit (Val := Elt Ideal) (e := EltTy.bf16) x _ _ inb)).trans
    (A3_slice (a' := a') (b' := b') (c' := c') (p := p) (q := q) (r := r) x ⟨rfl, inb⟩ hi hj hk)

/-- A load through a rectangle at an offset, at coordinates. -/
theorem A4_ld16 {a b c d a' b' c' d' p q r s : ℕ} (x : FVec Ideal ⟨4, ![a, b, c, d]⟩ .bf16)
    (inb : ∀ t, ![p, q, r, s] t + ![a', b', c', d'] t ≤ (⟨4, ![a, b, c, d]⟩ : Shape).size t) {i j k l : ℕ} (hi : i < a') (hj : j < b') (hk : k < c') (hl : l < d') :
    A4 (View.ld (Val := Elt Ideal) (e' := EltTy.bf16) x (Rect.unit (s := (⟨4, ![a, b, c, d]⟩ : Shape)) ![p, q, r, s] ![a', b', c', d'] inb)) i j k l
      = A4 x (p + i) (q + j) (r + k) (s + l) :=
  (congrArg (fun y => A4 y i j k l) (View.ld_unit (Val := Elt Ideal) (e := EltTy.bf16) x _ _ inb)).trans
    (A4_slice (a' := a') (b' := b') (c' := c') (d' := d') (p := p) (q := q) (r := r) (s := s) x ⟨rfl, inb⟩ hi hj hk hl)

/-- A load through a rectangle at an offset, at coordinates. -/
theorem A2_ld32 {a b a' b' p q : ℕ} (x : FVec Ideal ⟨2, ![a, b]⟩ .f32)
    (inb : ∀ t, ![p, q] t + ![a', b'] t ≤ (⟨2, ![a, b]⟩ : Shape).size t) {i j : ℕ} (hi : i < a') (hj : j < b') :
    A2 (View.ld (Val := Elt Ideal) (e' := EltTy.f32) x (Rect.unit (s := (⟨2, ![a, b]⟩ : Shape)) ![p, q] ![a', b'] inb)) i j
      = A2 x (p + i) (q + j) :=
  (congrArg (fun y => A2 y i j) (View.ld_unit (Val := Elt Ideal) (e := EltTy.f32) x _ _ inb)).trans
    (A2_slice (a' := a') (b' := b') (p := p) (q := q) x ⟨rfl, inb⟩ hi hj)

/-- A load through a rectangle at an offset, at coordinates. -/
theorem A4_ld32 {a b c d a' b' c' d' p q r s : ℕ} (x : FVec Ideal ⟨4, ![a, b, c, d]⟩ .f32)
    (inb : ∀ t, ![p, q, r, s] t + ![a', b', c', d'] t ≤ (⟨4, ![a, b, c, d]⟩ : Shape).size t) {i j k l : ℕ} (hi : i < a') (hj : j < b') (hk : k < c') (hl : l < d') :
    A4 (View.ld (Val := Elt Ideal) (e' := EltTy.f32) x (Rect.unit (s := (⟨4, ![a, b, c, d]⟩ : Shape)) ![p, q, r, s] ![a', b', c', d'] inb)) i j k l
      = A4 x (p + i) (q + j) (r + k) (s + l) :=
  (congrArg (fun y => A4 y i j k l) (View.ld_unit (Val := Elt Ideal) (e := EltTy.f32) x _ _ inb)).trans
    (A4_slice (a' := a') (b' := b') (c' := c') (d' := d') (p := p) (q := q) (r := r) (s := s) x ⟨rfl, inb⟩ hi hj hk hl)

end Cert.Net
-- ==== Proof.BlkB.lean ====
/-
  THE SECOND STAGE'S BLOCK: what one grid point of the second call computes: a `5 × 5` convolution of one image, its
  normalisation over channels, a pooling and a zero border.
-/
module

public import proofs.«01_k».proof.Proof.Ops
public import proofs.«01_k».proof.Proof.Load
public import proofs.«01_k».proof.Proof.Gen.KernelIdeal.Frame

@[expose] public section

noncomputable section

open scoped BigOperators

namespace Cert.Net

open Idealize.ShloMosaic Cert.KernelIdeal Cert.KernelIdeal.Gen

/-- A sum whose terms from `n` on are `0`. -/
theorem sum_cut {n m : ℕ} (f : ℕ → EReal) (h : n ≤ m) (hz : ∀ c, n ≤ c → c < m → f c = 0) :
    ∑ c ∈ Finset.range m, f c = ∑ c ∈ Finset.range n, f c := by
  symm
  refine Finset.sum_subset (Finset.range_mono h) fun c hc hn => ?_
  rw [Finset.mem_range] at hc hn
  exact hz c (by omega) hc

/-- The product of these extents is a plain matrix product. -/
theorem mm_864_640_256 : IsMM dot_S864x640_S640x256_S864x256_1_0_0_1_n_n := by
  intro l r z i j
  simp only [pointwise]

/-- The product of these extents is a plain matrix product. -/
theorem mm_864_256_256 : IsMM dot_S864x256_S256x256_S864x256_1_0_0_1_n_n := by
  intro l r z i j
  simp only [pointwise]

/-- The border of the stage's input. -/
def okPadB : PadOk 27 29 32 27 29 32 2 3 2 3 128 where
  a := concatenates_S2x27x128_S27x27x128_S29x27x128_d0
  b := concatenates_S29x27x128_S3x27x128_S32x27x128_d0
  d := concatenates_S32x2x128_S32x27x128_S32x29x128_d1
  e := concatenates_S32x29x128_S32x3x128_S32x32x128_d1

/-- The border of the stage's output. -/
def okPadB' : PadOk 13 14 16 13 14 16 1 2 1 2 256 where
  a := concatenates_S1x13x256_S13x13x256_S14x13x256_d0
  b := concatenates_S14x13x256_S2x13x256_S16x13x256_d0
  d := concatenates_S16x1x256_S16x13x256_S16x14x256_d1
  e := concatenates_S16x14x256_S16x2x256_S16x16x256_d1

/-- The pooling's operations. -/
def okPoolB : PoolOk 14 32 16 13 13 256 where
  hW := rfl
  s0 := slices_S14x2x32x256_o0_0_0_0_S13x1x32x256
  s1 := slices_S14x2x32x256_o0_1_0_0_S13x1x32x256
  s2 := slices_S14x2x32x256_o1_0_0_0_S13x1x32x256
  d := shapeCasts_S13x1x32x256_S13x32x256
  sp := shapeCasts_S13x32x256_S13x16x2x256
  t0 := slices_S13x16x2x256_o0_0_0_0_S13x13x1x256
  t1 := slices_S13x16x2x256_o0_0_1_0_S13x13x1x256
  t2 := slices_S13x16x2x256_o0_1_0_0_S13x13x1x256
  u := shapeCasts_S13x13x1x256_S13x13x256

/-- The normalisation's operations. -/
def okLrnB : LrnOk 864 256 where
  bs := shapeCasts_S256x256_S256x256
  d := dot_S864x256_S256x256_S864x256_1_0_0_1_n_n
  hd := mm_864_256_256

/-- The image with its border, as rows of channels. -/
def rowsB (x : Vec Ideal S1x27x27x128 .bf16) : FVec Ideal S1024x128 .bf16 :=
  shapeCast S1024x128 (padV okPadB (Scalar.sitofp .bf16 0#32) (shapeCast S27x27x128 x shapeCasts_S1x27x27x128_S27x27x128))
    shapeCasts_S32x32x128_S1024x128

/-- Five shifted copies of the rows side by side. -/
def colsOfB (y : FVec Ideal S1024x128 .bf16) : FVec Ideal S992x640 .bf16 :=
  concatenate S992x640 1 [⟨S992x128, extractStridedSlice S992x128 ![0, 0] y slices_S1024x128_o0_0_S992x128⟩,
    ⟨S992x128, extractStridedSlice S992x128 ![1, 0] y slices_S1024x128_o1_0_S992x128⟩,
    ⟨S992x128, extractStridedSlice S992x128 ![2, 0] y slices_S1024x128_o2_0_S992x128⟩,
    ⟨S992x128, extractStridedSlice S992x128 ![3, 0] y slices_S1024x128_o3_0_S992x128⟩,
    ⟨S992x128, extractStridedSlice S992x128 ![4, 0] y slices_S1024x128_o4_0_S992x128⟩]
    concatenates_S992x128_S992x128_S992x128_S992x128_S992x128_S992x640_d1

/-- One of the five products. -/
def mmB (s : FVec Ideal S864x640 .bf16) (w : FVec Ideal S1x640x256 .bf16) : FVec Ideal S864x256 .f32 :=
  matmul dot_S864x640_S640x256_S864x256_1_0_0_1_n_n none s (shapeCast S640x256 w shapeCasts_S1x640x256_S640x256)
    (constant S864x256 .f32 0x00000000#32)

/-- The convolution's rows, bias added and negative values cut to `0`. -/
def convB (y : FVec Ideal S992x640 .bf16) (w0 w1 w2 w3 w4 : Vec Ideal S1x640x256 .bf16) (b : Vec Ideal S1x256 .f32) :
    FVec Ideal S864x256 .f32 :=
  maximumf (addf (addf (addf (addf (addf
    (mmB (extractStridedSlice S864x640 ![0, 0] y slices_S992x640_o0_0_S864x640) w0)
    (mmB (extractStridedSlice S864x640 ![32, 0] y slices_S992x640_o32_0_S864x640) w1))
    (mmB (extractStridedSlice S864x640 ![64, 0] y slices_S992x640_o64_0_S864x640) w2))
    (mmB (extractStridedSlice S864x640 ![96, 0] y slices_S992x640_o96_0_S864x640) w3))
    (mmB (extractStridedSlice S864x640 ![128, 0] y slices_S992x640_o128_0_S864x640) w4))
    (broadcastTo S864x256 (shapeCast S1x256 b shapeCasts_S1x256_S1x256) broadcasts_S1x256_S864x256))
    (broadcast S864x256 (Scalar.ofBits .f32 0x00000000#32))

/-- The rows as pairs of rows of the image, one zero row below. -/
def pairsB (v : FVec Ideal S864x256 .bf16) : FVec Ideal S14x2x32x256 .bf16 :=
  shapeCast S14x2x32x256 (concatenate S28x32x256 0 [⟨S27x32x256, shapeCast S27x32x256 v shapeCasts_S864x256_S27x32x256⟩,
    ⟨S1x32x256, broadcast S1x32x256 (Scalar.sitofp .bf16 0#32)⟩] concatenates_S27x32x256_S1x32x256_S28x32x256_d0)
    shapeCasts_S28x32x256_S14x2x32x256

/-- One image through the second stage. -/
def imgB (x : Vec Ideal S1x27x27x128 .bf16) (w0 w1 w2 w3 w4 : Vec Ideal S1x640x256 .bf16) (b : Vec Ideal S1x256 .f32)
    (g : Vec Ideal S256x256 .bf16) : FVec Ideal S1x16x16x256 .bf16 :=
  shapeCast S1x16x16x256 (padV okPadB' (Scalar.sitofp .bf16 0#32) (poolCols okPoolB (poolRows okPoolB
    (pairsB (lrnV okLrnB (convB (colsOfB (rowsB x)) w0 w1 w2 w3 w4 b) g))))) shapeCasts_S16x16x256_S1x16x16x256

/-- The block the second call leaves. -/
theorem out1_eq (x0 : Vec Ideal S1x27x27x128 .bf16) (x1 : Vec Ideal S5x640x256 .bf16) (x2 : Vec Ideal S1x256 .f32)
    (x3 : Vec Ideal S256x256 .bf16) : out1_4 (F := Ideal) x0 x1 x2 x3 = View.canon [⟨r1_8, imgB (View.ld x0 r1_0) (View.ld x1 r1_1)
      (View.ld x1 r1_2) (View.ld x1 r1_3) (View.ld x1 r1_4) (View.ld x1 r1_5) (View.ld x2 r1_6) (View.ld x3 r1_7)⟩] := rfl

/-! ## What the block holds -/

/-- Five shifts of the lines laid side by side: column `q * 128 + c` of line `r` is column `c` of line `r + q`. -/
theorem colsOfB_at (y : FVec Ideal S1024x128 .bf16) {r q c : ℕ} (hr : r < 992) (hq : q < 5) (hc : c < 128) :
    A2 (colsOfB y) r (q * 128 + c) = A2 y (r + q) c := by
  unfold colsOfB
  have e := cat2_1_of [⟨S992x128, extractStridedSlice S992x128 ![0, 0] y slices_S1024x128_o0_0_S992x128⟩,
    ⟨S992x128, extractStridedSlice S992x128 ![1, 0] y slices_S1024x128_o1_0_S992x128⟩,
    ⟨S992x128, extractStridedSlice S992x128 ![2, 0] y slices_S1024x128_o2_0_S992x128⟩,
    ⟨S992x128, extractStridedSlice S992x128 ![3, 0] y slices_S1024x128_o3_0_S992x128⟩,
    ⟨S992x128, extractStridedSlice S992x128 ![4, 0] y slices_S1024x128_o4_0_S992x128⟩]
    [extractStridedSlice S992x128 ![0, 0] y slices_S1024x128_o0_0_S992x128,
     extractStridedSlice S992x128 ![1, 0] y slices_S1024x128_o1_0_S992x128,
     extractStridedSlice S992x128 ![2, 0] y slices_S1024x128_o2_0_S992x128,
     extractStridedSlice S992x128 ![3, 0] y slices_S1024x128_o3_0_S992x128,
     extractStridedSlice S992x128 ![4, 0] y slices_S1024x128_o4_0_S992x128] rfl
    concatenates_S992x128_S992x128_S992x128_S992x128_S992x128_S992x640_d1 hr hc hq (by omega)
  refine e.trans ?_
  have fin : ∀ k, A2 y (k + r) (0 + c) = A2 y (r + k) c := fun k => by rw [Nat.zero_add, Nat.add_comm]
  match q, hq with
  | 0, _ => exact (A2_slice y slices_S1024x128_o0_0_S992x128 hr hc).trans (fin 0)
  | 1, _ => exact (A2_slice y slices_S1024x128_o1_0_S992x128 hr hc).trans (fin 1)
  | 2, _ => exact (A2_slice y slices_S1024x128_o2_0_S992x128 hr hc).trans (fin 2)
  | 3, _ => exact (A2_slice y slices_S1024x128_o3_0_S992x128 hr hc).trans (fin 3)
  | 4, _ => exact (A2_slice y slices_S1024x128_o4_0_S992x128 hr hc).trans (fin 4)

section Value
variable (x : Vec Ideal S1x27x27x128 .bf16) (X : ℕ → ℕ → ℕ → EReal) (W : ℕ → ℕ → ℕ → ℕ → EReal) (B : ℕ → EReal)

/-- The second stage's columns are the padded image at the window's positions. -/
theorem colsB_img (hX : ∀ i j c, i < 27 → j < 27 → c < 96 → A4 x 0 i j c = X c i j)
    (hX0 : ∀ c i j, ¬ (i < 27 ∧ j < 27) → X c i j = 0) {h w i q c : ℕ} (hh : h + i < 31) (hw : w + q < 32) (hw' : w < 28)
    (hq : q < 5) (hc : c < 96) : A2 (colsOfB (rowsB x)) (i * 32 + (h * 32 + w)) (q * 128 + c) = padS 2 X c (h + i) (w + q) := by
  rw [colsOfB_at _ (by omega) hq (by omega)]
  have e := cast3_2 (padV okPadB (Scalar.sitofp .bf16 0#32) (shapeCast S27x27x128 x shapeCasts_S1x27x27x128_S27x27x128))
    shapeCasts_S32x32x128_S1024x128 (i := h + i) (j := w + q) (k := c) (by omega) hw (by omega) (by omega)
  rw [show i * 32 + (h * 32 + w) + q = (h + i) * 32 + (w + q) by ring]
  refine e.trans ?_
  rw [padV_eq okPadB _ sitofp_zero _ (by omega) hw (by omega)]
  unfold padS
  split
  · refine (cast4_3_unit x shapeCasts_S1x27x27x128_S27x27x128 _ _ _).trans ?_
    by_cases hb : h + i - 2 < 27 ∧ w + q - 2 < 27
    · exact hX _ _ _ hb.1 hb.2 hc
    · rw [hX0 _ _ _ hb, A4_neg _ (by omega)]
  · rfl

/-- One of the five products: the sum over the columns of the window and the channels. -/
theorem convTermB (hX : ∀ i j c, i < 27 → j < 27 → c < 96 → A4 x 0 i j c = X c i j)
    (hX0 : ∀ c i j, ¬ (i < 27 ∧ j < 27) → X c i j = 0) (w : Vec Ideal S1x640x256 .bf16) {off i : ℕ} (ho : off = i * 32) (hi : i < 5)
    (hw : ∀ q c o, q < 5 → c < 128 → o < 256 → A3 w 0 (q * 128 + c) o = if c < 96 then W o c i q else 0)
    (t : S992x640.Slices ![off, 0] S864x640) {r s o : ℕ} (hr : r < 27) (hs : s < 27) (hO : o < 256) :
    A2 (mmB (extractStridedSlice S864x640 ![off, 0] (colsOfB (rowsB x)) t) w) (r * 32 + s) o
      = ∑ c ∈ Finset.range 96, ∑ q ∈ Finset.range 5, padS 2 X c (1 * r + i) (1 * s + q) * W o c i q := by
  unfold mmB
  refine (A2_mm mm_864_640_256 _ _ (show r * 32 + s < 864 by omega) hO).trans ?_
  refine (sum_mul_range 5 128 _).trans ?_
  rw [Finset.sum_comm, sum_cut _ (show 96 ≤ 128 by omega)]
  · refine Finset.sum_congr rfl fun c hc => Finset.sum_congr rfl fun q hq => ?_
    rw [Finset.mem_range] at hq hc
    rw [cast3_2_unit, hw q c o hq (by omega) hO, if_pos hc]
    refine congrArg (· * _) ((A2_slice _ t (show r * 32 + s < 864 by omega) (show q * 128 + c < 640 by omega)).trans ?_)
    rw [ho, Nat.zero_add, colsB_img x X hX hX0 (by omega) (by omega) (by omega) hq hc, one_mul, one_mul]
  · intro c h1 h2
    refine Finset.sum_eq_zero fun q hq => ?_
    rw [Finset.mem_range] at hq
    rw [cast3_2_unit, hw q c o hq h2 hO, if_neg (by omega), mul_zero]

/-- The convolution of the image, at a row of it. -/
theorem convB_at (hX : ∀ i j c, i < 27 → j < 27 → c < 96 → A4 x 0 i j c = X c i j)
    (hX0 : ∀ c i j, ¬ (i < 27 ∧ j < 27) → X c i j = 0) (w0 w1 w2 w3 w4 : Vec Ideal S1x640x256 .bf16) (b : Vec Ideal S1x256 .f32)
    (h0 : ∀ q c o, q < 5 → c < 128 → o < 256 → A3 w0 0 (q * 128 + c) o = if c < 96 then W o c 0 q else 0)
    (h1 : ∀ q c o, q < 5 → c < 128 → o < 256 → A3 w1 0 (q * 128 + c) o = if c < 96 then W o c 1 q else 0)
    (h2 : ∀ q c o, q < 5 → c < 128 → o < 256 → A3 w2 0 (q * 128 + c) o = if c < 96 then W o c 2 q else 0)
    (h3 : ∀ q c o, q < 5 → c < 128 → o < 256 → A3 w3 0 (q * 128 + c) o = if c < 96 then W o c 3 q else 0)
    (h4 : ∀ q c o, q < 5 → c < 128 → o < 256 → A3 w4 0 (q * 128 + c) o = if c < 96 then W o c 4 q else 0)
    (hB : ∀ o, o < 256 → A2 b 0 o = B o) {r s o : ℕ} (hr : r < 27) (hs : s < 27) (hO : o < 256) :
    A2 (convB (colsOfB (rowsB x)) w0 w1 w2 w3 w4 b) (r * 32 + s) o = convS 96 5 1 (padS 2 X) W B o r s := by
  have hrs : r * 32 + s < 864 := by omega
  unfold convB
  refine (A2_maximumf (φ := .f32) _ _ _ _).trans ?_
  have bias : A2 (broadcastTo S864x256 (shapeCast S1x256 b shapeCasts_S1x256_S1x256) broadcasts_S1x256_S864x256) (r * 32 + s) o = B o := by
    refine (A2_row _ broadcasts_S1x256_S864x256 hrs hO).trans ?_
    rw [cast_self2]; exact hB o hO
  refine congrArg₂ max ((A2_addf (φ := .f32) _ _ _ _).trans (congrArg₂ (· + ·) ?_ bias)) ((A2_splat _ hrs hO).trans ofBits_zero_f32)
  · refine (A2_addf (φ := .f32) _ _ _ _).trans ?_
    refine (congrArg₂ (· + ·) ((A2_addf (φ := .f32) _ _ _ _).trans
      (congrArg₂ (· + ·) ((A2_addf (φ := .f32) _ _ _ _).trans
        (congrArg₂ (· + ·) ((A2_addf (φ := .f32) _ _ _ _).trans
          (congrArg₂ (· + ·) (convTermB x X W hX hX0 w0 (i := 0) rfl (by omega) h0 _ hr hs hO)
            (convTermB x X W hX hX0 w1 (i := 1) rfl (by omega) h1 _ hr hs hO)))
          (convTermB x X W hX hX0 w2 (i := 2) rfl (by omega) h2 _ hr hs hO)))
        (convTermB x X W hX hX0 w3 (i := 3) rfl (by omega) h3 _ hr hs hO)))
      (convTermB x X W hX hX0 w4 (i := 4) rfl (by omega) h4 _ hr hs hO)).trans ?_
    simp only [← Finset.sum_add_distrib]
    refine Finset.sum_congr rfl fun c _ => ?_
    rw [Finset.sum_comm (s := Finset.range 5) (t := Finset.range 5)]
    refine Finset.sum_congr rfl fun q _ => ?_
    simp only [Finset.sum_range_succ, Finset.sum_range_zero, zero_add]

/-- One image through the stage. -/
theorem imgB_eq (hX : ∀ i j c, i < 27 → j < 27 → c < 96 → A4 x 0 i j c = X c i j)
    (hX0 : ∀ c i j, ¬ (i < 27 ∧ j < 27) → X c i j = 0) (w0 w1 w2 w3 w4 : Vec Ideal S1x640x256 .bf16) (b : Vec Ideal S1x256 .f32)
    (g : Vec Ideal S256x256 .bf16)
    (h0 : ∀ q c o, q < 5 → c < 128 → o < 256 → A3 w0 0 (q * 128 + c) o = if c < 96 then W o c 0 q else 0)
    (h1 : ∀ q c o, q < 5 → c < 128 → o < 256 → A3 w1 0 (q * 128 + c) o = if c < 96 then W o c 1 q else 0)
    (h2 : ∀ q c o, q < 5 → c < 128 → o < 256 → A3 w2 0 (q * 128 + c) o = if c < 96 then W o c 2 q else 0)
    (h3 : ∀ q c o, q < 5 → c < 128 → o < 256 → A3 w3 0 (q * 128 + c) o = if c < 96 then W o c 3 q else 0)
    (h4 : ∀ q c o, q < 5 → c < 128 → o < 256 → A3 w4 0 (q * 128 + c) o = if c < 96 then W o c 4 q else 0)
    (hB : ∀ o, o < 256 → A2 b 0 o = B o)
    (hg : ∀ i j, i < 256 → j < 256 → A2 g i j = if i ≤ j + 2 ∧ j ≤ i + 2 then 1 else 0)
    {i j c : ℕ} (hi : i < 16) (hj : j < 16) (hc : c < 256) :
    A4 (imgB x w0 w1 w2 w3 w4 b g) 0 i j c = padS 1 (L2 X W B) c i j := by
  unfold imgB
  refine (cast3_4_unit _ shapeCasts_S16x16x256_S1x16x16x256 _ _ _).trans ?_
  rw [padV_eq okPadB' _ sitofp_zero _ hi hj hc]
  unfold padS
  split
  swap
  · rfl
  unfold L2 clip
  by_cases hb : i - 1 < 13 ∧ j - 1 < 13
  swap
  · rw [A3_neg _ (by omega), if_neg (by omega)]
  rw [if_pos ⟨hc, hb⟩]
  refine pool_eq okPoolB _ _ ?_ hb.1 hb.2 hc
  intro r e w l hr he hw hl
  unfold pairsB
  refine (cast3_4_lead _ shapeCasts_S28x32x256_S14x2x32x256 (by omega) he (by omega) hl (by omega)).trans ?_
  refine (cat3_0 _ _ concatenates_S27x32x256_S1x32x256_S28x32x256_d0 (by omega) (by omega) hl).trans ?_
  rw [if_pos (by omega), show r * 2 + e = 2 * r + e by ring]
  refine (cast2_3 _ shapeCasts_S864x256_S27x32x256 (by omega) (by omega) hl (by omega)).trans ?_
  exact lrnV_eq okLrnB _ g (fun k => convS 96 5 1 (padS 2 X) W B k (2 * r + e) w) hg
    (fun k hk => convB_at x X W B hX hX0 w0 w1 w2 w3 w4 b h0 h1 h2 h3 h4 hB (by omega) (by omega) hk) (by omega) hl

end Value

/-- Four zero offsets are the zero offset. -/
theorem zero4 : (![0, 0, 0, 0] : Fin 4 → ℕ) = fun _ => 0 := by
  funext a
  fin_cases a <;> rfl

/-- The block of the second call. -/
theorem out1_at (x0 : Vec Ideal S1x27x27x128 .bf16) (x1 : Vec Ideal S5x640x256 .bf16) (x2 : Vec Ideal S1x256 .f32)
    (x3 : Vec Ideal S256x256 .bf16) (X : ℕ → ℕ → ℕ → EReal) (W : ℕ → ℕ → ℕ → ℕ → EReal) (B : ℕ → EReal)
    (hX : ∀ i j c, i < 27 → j < 27 → c < 96 → A4 x0 0 i j c = X c i j)
    (hX0 : ∀ c i j, ¬ (i < 27 ∧ j < 27) → X c i j = 0)
    (hW : ∀ i q c o, i < 5 → q < 5 → c < 128 → o < 256 → A3 x1 i (q * 128 + c) o = if c < 96 then W o c i q else 0)
    (hB : ∀ o, o < 256 → A2 x2 0 o = B o)
    (hg : ∀ i j, i < 256 → j < 256 → A2 x3 i j = if i ≤ j + 2 ∧ j ≤ i + 2 then 1 else 0)
    {i j c : ℕ} (hi : i < 16) (hj : j < 16) (hc : c < 256) :
    A4 (out1_4 (F := Ideal) x0 x1 x2 x3) 0 i j c = padS 1 (L2 X W B) c i j := by
  have hw : ∀ k (inb : ∀ a, ![k, 0, 0] a + S1x640x256.size a ≤ S5x640x256.size a), k < 5 → ∀ q c o, q < 5 → c < 128 → o < 256 →
      A3 (View.ld (Val := Elt Ideal) (e' := EltTy.bf16) x1 (Rect.unit (s := S5x640x256) ![k, 0, 0] S1x640x256.size inb)) 0 (q * 128 + c) o
        = if c < 96 then W o c k q else 0 := by
    intro k inb hk q c o hq hc ho
    refine (A3_ld16 x1 _ Nat.one_pos (by omega) ho).trans ?_
    rw [← hW k q c o hk hq hc ho]
    simp only [Nat.zero_add, Nat.add_zero]
  have e := imgB_eq (View.ld x0 r1_0) X W B
    (fun i j c hi hj hc => (A4_ld16 x0 _ Nat.one_pos hi hj (by omega)).trans (by
      rw [← hX i j c hi hj hc]; simp only [Nat.zero_add, Nat.add_zero])) hX0
    (View.ld x1 r1_1) (View.ld x1 r1_2) (View.ld x1 r1_3) (View.ld x1 r1_4) (View.ld x1 r1_5) (View.ld x2 r1_6) (View.ld x3 r1_7)
    (hw 0 _ (by omega)) (hw 1 _ (by omega)) (hw 2 _ (by omega)) (hw 3 _ (by omega)) (hw 4 _ (by omega))
    (fun o ho => (A2_ld32 x2 _ Nat.one_pos ho).trans (by rw [← hB o ho]; simp only [Nat.zero_add, Nat.add_zero]))
    (fun i j hi hj => (A2_ld16 x3 _ hi hj).trans (by rw [← hg i j hi hj]; simp only [Nat.zero_add, Nat.add_zero])) hi hj hc
  rw [← e, out1_eq, A4_pos _ Nat.one_pos hi hj hc, A4_pos _ Nat.one_pos hi hj hc]
  exact congrFun (View.canon_unit_zero (S := S1x16x16x256) (e := EltTy.bf16) (Val := Elt Ideal) zero4 _ _) _

end Cert.Net
-- ==== Proof.BlkA.lean ====
/-
  THE FIRST STAGE'S BLOCK: what one grid point of the first call computes: an `11 × 11` convolution at stride 4 of one
  image, its normalisation over channels and a pooling.
-/
module

public import proofs.«01_k».proof.Proof.BlkB

@[expose] public section

noncomputable section

open scoped BigOperators

namespace Cert.Net

open Idealize.ShloMosaic Cert.KernelIdeal Cert.KernelIdeal.Gen

/-- The first convolution's product: both operands summed over their rows. -/
theorem mm_3584_528_128 (l : S528x3584.Idx → EReal) (r : S528x128.Idx → EReal) (z : S3584x128.Idx → EReal) (i : Fin 3584) (j : Fin 128) :
    Ideal.matmul dot_S528x3584_S528x128_S3584x128_0_0_1_1_n_n l r z (ix2 i j) = z (ix2 i j) + ∑ k : Fin 528, l (ix2 k i) * r (ix2 k j) := by
  simp only [pointwise]

/-- The product of these extents is a plain matrix product. -/
theorem mm_3584_128_128 : IsMM dot_S3584x128_S128x128_S3584x128_1_0_0_1_n_n := by
  intro l r z i j
  simp only [pointwise]

/-- The pooling's operations. -/
def okPoolA : PoolOk 28 64 32 27 27 128 where
  hW := rfl
  s0 := slices_S28x2x64x128_o0_0_0_0_S27x1x64x128
  s1 := slices_S28x2x64x128_o0_1_0_0_S27x1x64x128
  s2 := slices_S28x2x64x128_o1_0_0_0_S27x1x64x128
  d := shapeCasts_S27x1x64x128_S27x64x128
  sp := shapeCasts_S27x64x128_S27x32x2x128
  t0 := slices_S27x32x2x128_o0_0_0_0_S27x27x1x128
  t1 := slices_S27x32x2x128_o0_0_1_0_S27x27x1x128
  t2 := slices_S27x32x2x128_o0_1_0_0_S27x27x1x128
  u := shapeCasts_S27x27x1x128_S27x27x128

/-- The normalisation's operations. -/
def okLrnA : LrnOk 3584 128 where
  bs := shapeCasts_S128x128_S128x128
  d := dot_S3584x128_S128x128_S3584x128_1_0_0_1_n_n
  hd := mm_3584_128_128

/-- Every slab that the first stage loads lies inside its block. -/
theorem inbA (r : ℕ) (h : r < 33) : ∀ a, ![0, r / 3 % 4, 0, r / 12 * 64 + r % 3] a + S1x1x16x3584.size a ≤ S1x4x16x3714.size a := by
  intro a
  fin_cases a
  · show 0 + 1 ≤ 1; omega
  · show r / 3 % 4 + 1 ≤ 4; omega
  · show 0 + 16 ≤ 16; omega
  · show r / 12 * 64 + r % 3 + 3584 ≤ 3714; omega

/-- Piece `r` of the convolution's columns: the window of the image's phases at kernel row `r / 3`, column group `r % 3`. -/
def pcA (x : Vec Ideal S1x4x16x3714 .f32) (r : Fin 33) : FVec Ideal S16x3584 .f32 :=
  shapeCast S16x3584 (View.ld (Val := Elt Ideal) (e' := EltTy.f32) x (Rect.unit (s := S1x4x16x3714)
    ![0, r.val / 3 % 4, 0, r.val / 12 * 64 + r.val % 3] S1x1x16x3584.size (inbA r.val r.isLt))) shapeCasts_S1x1x16x3584_S16x3584

/-- The pieces in order. -/
abbrev pcsA (x : Vec Ideal S1x4x16x3714 .f32) : List (S16x3584.Idx → EReal) :=
  pcA x 0 :: pcA x 1 :: pcA x 2 :: pcA x 3 :: pcA x 4 :: pcA x 5 :: pcA x 6 :: pcA x 7 :: pcA x 8 :: pcA x 9 :: pcA x 10 :: pcA x 11 :: pcA x 12 :: pcA x 13 :: pcA x 14 :: pcA x 15 :: pcA x 16 :: pcA x 17 :: pcA x 18 :: pcA x 19 :: pcA x 20 :: pcA x 21 :: pcA x 22 :: pcA x 23 :: pcA x 24 :: pcA x 25 :: pcA x 26 :: pcA x 27 :: pcA x 28 :: pcA x 29 :: pcA x 30 :: pcA x 31 :: pcA x 32 :: []

/-- The pieces stacked. -/
def colsA (x : Vec Ideal S1x4x16x3714 .f32) : FVec Ideal S528x3584 .f32 :=
  concatenate S528x3584 0 (⟨S16x3584, pcA x 0⟩ :: ⟨S16x3584, pcA x 1⟩ :: ⟨S16x3584, pcA x 2⟩ :: ⟨S16x3584, pcA x 3⟩ :: ⟨S16x3584, pcA x 4⟩ ::
    ⟨S16x3584, pcA x 5⟩ :: ⟨S16x3584, pcA x 6⟩ :: ⟨S16x3584, pcA x 7⟩ :: ⟨S16x3584, pcA x 8⟩ :: ⟨S16x3584, pcA x 9⟩ ::
    ⟨S16x3584, pcA x 10⟩ :: ⟨S16x3584, pcA x 11⟩ :: ⟨S16x3584, pcA x 12⟩ :: ⟨S16x3584, pcA x 13⟩ :: ⟨S16x3584, pcA x 14⟩ ::
    ⟨S16x3584, pcA x 15⟩ :: ⟨S16x3584, pcA x 16⟩ :: ⟨S16x3584, pcA x 17⟩ :: ⟨S16x3584, pcA x 18⟩ :: ⟨S16x3584, pcA x 19⟩ ::
    ⟨S16x3584, pcA x 20⟩ :: ⟨S16x3584, pcA x 21⟩ :: ⟨S16x3584, pcA x 22⟩ :: ⟨S16x3584, pcA x 23⟩ :: ⟨S16x3584, pcA x 24⟩ ::
    ⟨S16x3584, pcA x 25⟩ :: ⟨S16x3584, pcA x 26⟩ :: ⟨S16x3584, pcA x 27⟩ :: ⟨S16x3584, pcA x 28⟩ :: ⟨S16x3584, pcA x 29⟩ ::
    ⟨S16x3584, pcA x 30⟩ :: ⟨S16x3584, pcA x 31⟩ :: ⟨S16x3584, pcA x 32⟩ :: [])
    concatenates_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S16x3584_S528x3584_d0

/-- The convolution's rows, bias added and negative values cut to `0`. -/
def convA (y : FVec Ideal S528x3584 .f32) (w : FVec Ideal S528x128 .bf16) (b : FVec Ideal S1x128 .f32) : FVec Ideal S3584x128 .f32 :=
  maximumf (addf (matmul dot_S528x3584_S528x128_S3584x128_0_0_1_1_n_n none (truncf .bf16 y bitsLt_bf16_f32)
      (shapeCast S528x128 w shapeCasts_S528x128_S528x128) (constant S3584x128 .f32 0x00000000#32))
    (broadcastTo S3584x128 (shapeCast S1x128 b shapeCasts_S1x128_S1x128) broadcasts_S1x128_S3584x128))
    (broadcast S3584x128 (Scalar.ofBits .f32 0x00000000#32))

/-- One image through the first stage. -/
def imgA (x : Vec Ideal S1x4x16x3714 .f32) (w : Vec Ideal S528x128 .bf16) (b : Vec Ideal S1x128 .f32) (g : Vec Ideal S128x128 .bf16) :
    FVec Ideal S1x27x27x128 .bf16 :=
  shapeCast S1x27x27x128 (poolCols okPoolA (poolRows okPoolA (shapeCast S28x2x64x128 (shapeCast S56x64x128
    (lrnV okLrnA (convA (colsA x) w b) g) shapeCasts_S3584x128_S56x64x128) shapeCasts_S56x64x128_S28x2x64x128)))
    shapeCasts_S27x27x128_S1x27x27x128

/-- The block the first call leaves. -/
theorem out0_eq (x0 : Vec Ideal S1x4x16x3714 .f32) (x1 : Vec Ideal S528x128 .bf16) (x2 : Vec Ideal S1x128 .f32)
    (x3 : Vec Ideal S128x128 .bf16) : out0_4 (F := Ideal) x0 x1 x2 x3 = View.canon [⟨r0_36, imgA x0 (View.ld x1 r0_33)
      (View.ld x2 r0_34) (View.ld x3 r0_35)⟩] := rfl

/-! ## What the block holds -/

/-- One slab of the split image, at coordinates. -/
theorem pcA_at (x : Vec Ideal S1x4x16x3714 .f32) (r : Fin 33) {q j : ℕ} (hq : q < 16) (hj : j < 3584) :
    A2 (pcA x r) q j = A4 x 0 (r.val / 3 % 4) q (r.val / 12 * 64 + r.val % 3 + j) := by
  unfold pcA
  refine (cast4_2_unit _ shapeCasts_S1x1x16x3584_S16x3584 _ _).trans ?_
  refine (A4_ld32 x _ Nat.one_pos Nat.one_pos hq hj).trans ?_
  simp only [Nat.zero_add, Nat.add_zero]

/-- The slabs in the order in which they are stacked. -/
theorem pcsA_get (x : Vec Ideal S1x4x16x3714 .f32) (r : Fin 33) : (pcsA x)[r.val]'r.isLt = pcA x r := by
  fin_cases r <;> rfl

/-- The stacked slabs, at coordinates. -/
theorem colsA_at (x : Vec Ideal S1x4x16x3714 .f32) {r q j : ℕ} (hr : r < 33) (hq : q < 16) (hj : j < 3584) :
    A2 (colsA x) (r * 16 + q) j = A4 x 0 (r / 3 % 4) q (r / 12 * 64 + r % 3 + j) := by
  unfold colsA
  refine (cat2_0_of _ (pcsA x) rfl _ hj hq (show r < 33 from hr) (by omega)).trans ?_
  rw [pcsA_get x ⟨r, hr⟩]
  exact pcA_at x ⟨r, hr⟩ hq hj

section Value
variable (x : Vec Ideal S1x4x16x3714 .f32) (X : ℕ → ℕ → ℕ → EReal) (W : ℕ → ℕ → ℕ → ℕ → EReal) (B : ℕ → EReal)

/-- The convolution of the image, at a row of it: channels past 96 hold `0`. -/
theorem convA_at
    (hX : ∀ hr wr c h w, hr < 4 → wr < 4 → c < 3 → h < 57 → w < 57 →
      A4 x 0 hr (wr * 3 + c) (h * 64 + w) = padS 2 X c (4 * h + hr) (4 * w + wr))
    (w : FVec Ideal S528x128 .bf16) (b : FVec Ideal S1x128 .f32)
    (hW : ∀ kh g wr c o, kh < 11 → g < 3 → wr < 4 → c < 3 → o < 128 →
      A2 w ((kh * 3 + g) * 16 + (wr * 3 + c)) o = if g * 4 + wr < 11 ∧ o < 96 then W o c kh (g * 4 + wr) else 0)
    (hW0 : ∀ kh g q o, kh < 11 → g < 3 → 12 ≤ q → q < 16 → o < 128 → A2 w ((kh * 3 + g) * 16 + q) o = 0)
    (hB : ∀ o, o < 128 → A2 b 0 o = if o < 96 then B o else 0) {r s o : ℕ} (hr : r < 55) (hs : s < 55) (hO : o < 128) :
    A2 (convA (colsA x) w b) (r * 64 + s) o = if o < 96 then convS 3 11 4 (padS 2 X) W B o r s else 0 := by
  have hrs : r * 64 + s < 3584 := by omega
  have bias : A2 (broadcastTo S3584x128 (shapeCast S1x128 b shapeCasts_S1x128_S1x128) broadcasts_S1x128_S3584x128) (r * 64 + s) o
      = if o < 96 then B o else 0 := by
    refine (A2_row _ broadcasts_S1x128_S3584x128 hrs hO).trans ?_
    rw [cast_self2]; exact hB o hO
  have prod : A2 (matmul (F := Ideal) dot_S528x3584_S528x128_S3584x128_0_0_1_1_n_n none (truncf .bf16 (colsA x) bitsLt_bf16_f32)
      (shapeCast S528x128 w shapeCasts_S528x128_S528x128) (constant S3584x128 .f32 0x00000000#32)) (r * 64 + s) o
      = ∑ k ∈ Finset.range 528, A2 (colsA x) k (r * 64 + s) * A2 w k o := by
    rw [A2_pos _ hrs hO]
    refine (mm_3584_528_128 _ _ _ ⟨_, hrs⟩ ⟨o, hO⟩).trans ?_
    rw [Finset.sum_range]
    refine (congrArg (· + _) ofBits_zero_f32).trans ((zero_add _).trans (Finset.sum_congr rfl fun k _ => ?_))
    rw [A2_pos _ k.isLt hrs, A2_pos _ k.isLt hO]
    rw [cast_self2]
    rfl
  have inner : ∀ kh g, kh < 11 → g < 3 → ∑ q ∈ Finset.range 16, A2 (colsA x) ((kh * 3 + g) * 16 + q) (r * 64 + s) * A2 w ((kh * 3 + g) * 16 + q) o
      = ∑ wr ∈ Finset.range 4, ∑ c ∈ Finset.range 3, padS 2 X c (4 * r + kh) (4 * s + (g * 4 + wr)) *
          (if g * 4 + wr < 11 ∧ o < 96 then W o c kh (g * 4 + wr) else 0) := by
    intro kh g hk hg
    rw [sum_cut _ (show 12 ≤ 16 by omega)]
    · refine (sum_mul_range 4 3 _).trans (Finset.sum_congr rfl fun wr h1 => Finset.sum_congr rfl fun c h2 => ?_)
      rw [Finset.mem_range] at h1 h2
      rw [hW kh g wr c o hk hg h1 h2 hO]
      refine congrArg (· * _) ((colsA_at x (by omega) (by omega) hrs).trans ?_)
      rw [show (kh * 3 + g) / 12 * 64 + (kh * 3 + g) % 3 + (r * 64 + s) = (r + kh / 4) * 64 + (s + g) by omega,
        show (kh * 3 + g) / 3 % 4 = kh % 4 by omega, hX _ _ _ _ _ (by omega) h1 h2 (by omega) (by omega),
        show 4 * (r + kh / 4) + kh % 4 = 4 * r + kh by omega, show 4 * (s + g) + wr = 4 * s + (g * 4 + wr) by omega]
    · intro q h1 h2
      rw [hW0 kh g q o hk hg h1 h2 hO, mul_zero]
  have total : ∑ k ∈ Finset.range 528, A2 (colsA x) k (r * 64 + s) * A2 w k o
      = ∑ kh ∈ Finset.range 11, ∑ kw ∈ Finset.range 11, ∑ c ∈ Finset.range 3, padS 2 X c (4 * r + kh) (4 * s + kw) *
          (if o < 96 then W o c kh kw else 0) := by
    refine (sum_mul_range 33 16 _).trans ((sum_mul_range 11 3 _).trans (Finset.sum_congr rfl fun kh hk => ?_))
    rw [Finset.mem_range] at hk
    refine (Finset.sum_congr rfl fun g hg => inner kh g hk (Finset.mem_range.mp hg)).trans ?_
    refine (sum_mul_range 3 4 (fun kw => ∑ c ∈ Finset.range 3, padS 2 X c (4 * r + kh) (4 * s + kw) *
      (if kw < 11 ∧ o < 96 then W o c kh kw else 0))).symm.trans ?_
    rw [sum_cut _ (show 11 ≤ 3 * 4 by omega)]
    · refine Finset.sum_congr rfl fun kw hkw => Finset.sum_congr rfl fun c _ => ?_
      rw [Finset.mem_range] at hkw
      simp only [hkw, true_and]
    · intro kw h1 _
      refine Finset.sum_eq_zero fun c _ => ?_
      rw [if_neg (by omega), mul_zero]
  unfold convA
  refine (A2_maximumf (φ := .f32) _ _ _ _).trans ?_
  refine (congrArg₂ max ((A2_addf (φ := .f32) _ _ _ _).trans (congrArg₂ (· + ·) (prod.trans total) bias))
    ((A2_splat _ hrs hO).trans ofBits_zero_f32)).trans ?_
  by_cases ho : o < 96
  · simp only [ho, if_true]
    unfold convS
    refine congrArg₂ max (congrArg₂ (· + ·) ?_ rfl) rfl
    rw [Finset.sum_comm (s := Finset.range 3)]
    refine Finset.sum_congr rfl fun kh _ => ?_
    rw [Finset.sum_comm]
  · simp only [ho, if_false, mul_zero, Finset.sum_const_zero, add_zero, max_self]

/-- One image through the stage. -/
theorem imgA_eq
    (hX : ∀ hr wr c h w, hr < 4 → wr < 4 → c < 3 → h < 57 → w < 57 →
      A4 x 0 hr (wr * 3 + c) (h * 64 + w) = padS 2 X c (4 * h + hr) (4 * w + wr))
    (w : Vec Ideal S528x128 .bf16) (b : Vec Ideal S1x128 .f32) (g : Vec Ideal S128x128 .bf16)
    (hW : ∀ kh g wr c o, kh < 11 → g < 3 → wr < 4 → c < 3 → o < 128 →
      A2 w ((kh * 3 + g) * 16 + (wr * 3 + c)) o = if g * 4 + wr < 11 ∧ o < 96 then W o c kh (g * 4 + wr) else 0)
    (hW0 : ∀ kh g q o, kh < 11 → g < 3 → 12 ≤ q → q < 16 → o < 128 → A2 w ((kh * 3 + g) * 16 + q) o = 0)
    (hB : ∀ o, o < 128 → A2 b 0 o = if o < 96 then B o else 0)
    (hg : ∀ i j, i < 128 → j < 128 → A2 g i j = if i ≤ j + 2 ∧ j ≤ i + 2 then 1 else 0)
    {i j c : ℕ} (hi : i < 27) (hj : j < 27) (hc : c < 96) :
    A4 (imgA x w b g) 0 i j c = L1 X W B c i j := by
  unfold imgA
  refine (cast3_4_unit _ shapeCasts_S27x27x128_S1x27x27x128 _ _ _).trans ?_
  unfold L1 clip
  rw [if_pos ⟨hc, hi, hj⟩]
  refine (pool_eq okPoolA _ (fun c h w => normV (if c < 96 then convS 3 11 4 (padS 2 X) W B c h w else 0)
    (sqS 128 (fun k => if k < 96 then convS 3 11 4 (padS 2 X) W B k h w else 0) c)) ?_ hi hj (show c < 128 by omega)).trans ?_
  · intro r e v l hr he hv hl
    refine (cast3_4_lead _ shapeCasts_S56x64x128_S28x2x64x128 (by omega) he (by omega) hl (by omega)).trans ?_
    rw [show r * 2 + e = 2 * r + e by ring]
    refine (cast2_3 _ shapeCasts_S3584x128_S56x64x128 (by omega) (by omega) hl (by omega)).trans ?_
    exact lrnV_eq okLrnA _ g (fun k => if k < 96 then convS 3 11 4 (padS 2 X) W B k (2 * r + e) v else 0) hg
      (fun k hk => convA_at x X W B hX w b hW hW0 hB (by omega) (by omega) hk) (by omega) hl
  · have key : ∀ h w, normV (if c < 96 then convS 3 11 4 (padS 2 X) W B c h w else 0)
        (sqS 128 (fun k => if k < 96 then convS 3 11 4 (padS 2 X) W B k h w else 0) c)
        = lrnS 96 (convS 3 11 4 (padS 2 X) W B) c h w := by
      intro h w
      unfold lrnS
      rw [if_pos hc]
      refine congrArg _ ?_
      unfold sqS
      rw [sum_cut _ (show 96 ≤ 128 by omega)]
      · refine Finset.sum_congr rfl fun k hk => ?_
        rw [Finset.mem_range] at hk
        simp only [hk, if_true]
      · intro k h1 _
        simp only [show ¬ k < 96 by omega, if_false, mul_zero, ite_self]
    unfold poolS max3
    simp only [key]

end Value

/-- The block of the first call. -/
theorem out0_at (x0 : Vec Ideal S1x4x16x3714 .f32) (x1 : Vec Ideal S528x128 .bf16) (x2 : Vec Ideal S1x128 .f32)
    (x3 : Vec Ideal S128x128 .bf16) (X : ℕ → ℕ → ℕ → EReal) (W : ℕ → ℕ → ℕ → ℕ → EReal) (B : ℕ → EReal)
    (hX : ∀ hr wr c h w, hr < 4 → wr < 4 → c < 3 → h < 57 → w < 57 →
      A4 x0 0 hr (wr * 3 + c) (h * 64 + w) = padS 2 X c (4 * h + hr) (4 * w + wr))
    (hW : ∀ kh g wr c o, kh < 11 → g < 3 → wr < 4 → c < 3 → o < 128 →
      A2 x1 ((kh * 3 + g) * 16 + (wr * 3 + c)) o = if g * 4 + wr < 11 ∧ o < 96 then W o c kh (g * 4 + wr) else 0)
    (hW0 : ∀ kh g q o, kh < 11 → g < 3 → 12 ≤ q → q < 16 → o < 128 → A2 x1 ((kh * 3 + g) * 16 + q) o = 0)
    (hB : ∀ o, o < 128 → A2 x2 0 o = if o < 96 then B o else 0)
    (hg : ∀ i j, i < 128 → j < 128 → A2 x3 i j = if i ≤ j + 2 ∧ j ≤ i + 2 then 1 else 0)
    {i j c : ℕ} (hi : i < 27) (hj : j < 27) (hc : c < 96) :
    A4 (out0_4 (F := Ideal) x0 x1 x2 x3) 0 i j c = L1 X W B c i j := by
  have ew : ∀ k o, k < 528 → o < 128 → A2 (View.ld x1 r0_33) k o = A2 x1 k o := fun k o hk ho =>
    (A2_ld16 x1 _ hk ho).trans (by simp only [Nat.zero_add])
  have e := imgA_eq x0 X W B hX (View.ld x1 r0_33) (View.ld x2 r0_34) (View.ld x3 r0_35)
    (fun kh g wr c o h1 h2 h3 h4 h5 => (ew _ _ (by omega) h5).trans (hW kh g wr c o h1 h2 h3 h4 h5))
    (fun kh g q o h1 h2 h3 h4 h5 => (ew _ _ (by omega) h5).trans (hW0 kh g q o h1 h2 h3 h4 h5))
    (fun o ho => (A2_ld32 x2 _ Nat.one_pos ho).trans (by rw [← hB o ho]; simp only [Nat.zero_add, Nat.add_zero]))
    (fun i j hi hj => (A2_ld16 x3 _ hi hj).trans (by rw [← hg i j hi hj]; simp only [Nat.zero_add, Nat.add_zero])) hi hj hc
  rw [← e, out0_eq, A4_pos _ Nat.one_pos hi hj (by omega), A4_pos _ Nat.one_pos hi hj (by omega)]
  exact congrFun (View.canon_unit_zero (S := S1x27x27x128) (e := EltTy.bf16) (Val := Elt Ideal) zero4 _ _) _

end Cert.Net
-- ==== Proof.Rd0.lean ====
/-
  WHAT THE FIRST CALL LEAVES: its result array, every image through the first stage.
-/
module

public import proofs.«01_k».proof.Proof.BlkA

@[expose] public section

noncomputable section

open scoped BigOperators

namespace Cert.Net

open Idealize.ShloMosaic Idealize.ShloMosaic.TcCoe Cert.KernelIdeal Cert.KernelIdeal.Gen
open Idealize.ShloMosaic.Pipeline (Dat)

section R0
variable (V : (c : Dev nD) → (b : Ref sig .tc) → Buf (Elt Ideal) ((c : Thread nD τ).loc b)) (c : Dev nD)

/-- Where the windows of the first call stand at each grid point. -/
theorem idx0 : ∀ t : Fin cfg0.N,
    (win0_0.index t 0 = t.val ∧ win0_0.index t 1 = 0 ∧ win0_0.index t 2 = 0 ∧ win0_0.index t 3 = 0)
    ∧ (win0_1.index t 0 = 0 ∧ win0_1.index t 1 = 0) ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0 ∧ win0_4.index t 3 = 0) := by
  decide +kernel

/-- The image's block of the first call is its own part of the array. -/
theorem blk0_0 (t : Fin cfg0.N) {i j k : ℕ} (hi : i < 4) (hj : j < 16) (hk : k < 3714) :
    A4 (a := 1) (b := 4) (c := 16) (d := 3714) (iblk0 V c 0 t) 0 i j k
      = A4 (a := 128) (b := 4) (c := 16) (d := 3714) (V c main_v4) t.val i j k := by
  have ht : t.val < 128 := t.isLt.trans_eq N_0
  rw [A4_pos _ Nat.one_pos hi hj hk, A4_pos _ ht hi hj hk]
  unfold iblk0
  rw [View.read_apply]
  show V c main_v4 _ = V c main_v4 _
  refine congrArg (V c main_v4) (funext fun a => Fin.ext ?_)
  have e := (idx0 t).1
  match a with
  | ⟨0, _⟩ => show win0_0.index t 0 * 1 + 1 * 0 = t.val; rw [e.1]; omega
  | ⟨1, _⟩ => show win0_0.index t 1 * 4 + 1 * i = i; rw [e.2.1]; omega
  | ⟨2, _⟩ => show win0_0.index t 2 * 16 + 1 * j = j; rw [e.2.2.1]; omega
  | ⟨3, _⟩ => show win0_0.index t 3 * 3714 + 1 * k = k; rw [e.2.2.2]; omega

/-- The whole array is one block at every grid point. -/
theorem blk0_1 (t : Fin cfg0.N) : iblk0 V c 1 t = V c main_v11 := by
  funext y
  unfold iblk0
  rw [View.read_apply]
  show V c main_v11 _ = V c main_v11 _
  refine congrArg (V c main_v11) (funext fun a => Fin.ext ?_)
  have e := (idx0 t).2.1
  match a with
  | ⟨0, _⟩ => show win0_1.index t 0 * 528 + 1 * (y 0).val = (y 0).val; rw [e.1]; omega
  | ⟨1, _⟩ => show win0_1.index t 1 * 128 + 1 * (y 1).val = (y 1).val; rw [e.2]; omega

/-- The whole array is one block at every grid point. -/
theorem blk0_2 (t : Fin cfg0.N) : iblk0 V c 2 t = V c main_v20 := by
  funext y
  unfold iblk0
  rw [View.read_apply]
  show V c main_v20 _ = V c main_v20 _
  refine congrArg (V c main_v20) (funext fun a => Fin.ext ?_)
  have e := (idx0 t).2.2.1
  match a with
  | ⟨0, _⟩ => show win0_2.index t 0 * 1 + 1 * (y 0).val = (y 0).val; rw [e.1]; omega
  | ⟨1, _⟩ => show win0_2.index t 1 * 128 + 1 * (y 1).val = (y 1).val; rw [e.2]; omega

/-- The whole array is one block at every grid point. -/
theorem blk0_3 (t : Fin cfg0.N) : iblk0 V c 3 t = V c main_v18 := by
  funext y
  unfold iblk0
  rw [View.read_apply]
  show V c main_v18 _ = V c main_v18 _
  refine congrArg (V c main_v18) (funext fun a => Fin.ext ?_)
  have e := (idx0 t).2.2.2.1
  match a with
  | ⟨0, _⟩ => show win0_3.index t 0 * 128 + 1 * (y 0).val = (y 0).val; rw [e.1]; omega
  | ⟨1, _⟩ => show win0_3.index t 1 * 128 + 1 * (y 1).val = (y 1).val; rw [e.2]; omega

variable (X : ℕ → ℕ → ℕ → ℕ → EReal) (W : ℕ → ℕ → ℕ → ℕ → EReal) (B : ℕ → EReal)

/-- The first call's result array, image `n`, row `i`, column `j`, channel `k` below 96. -/
theorem arr0
    (hX : ∀ n hr wr k h w, n < 128 → hr < 4 → wr < 4 → k < 3 → h < 57 → w < 57 →
      A4 (a := 128) (b := 4) (c := 16) (d := 3714) (V c main_v4) n hr (wr * 3 + k) (h * 64 + w) = padS 2 (X n) k (4 * h + hr) (4 * w + wr))
    (hW : ∀ kh g wr k o, kh < 11 → g < 3 → wr < 4 → k < 3 → o < 128 →
      A2 (a := 528) (b := 128) (V c main_v11) ((kh * 3 + g) * 16 + (wr * 3 + k)) o = if g * 4 + wr < 11 ∧ o < 96 then W o k kh (g * 4 + wr) else 0)
    (hW0 : ∀ kh g q o, kh < 11 → g < 3 → 12 ≤ q → q < 16 → o < 128 → A2 (a := 528) (b := 128) (V c main_v11) ((kh * 3 + g) * 16 + q) o = 0)
    (hB : ∀ o, o < 128 → A2 (a := 1) (b := 128) (V c main_v20) 0 o = if o < 96 then B o else 0)
    (hg : ∀ i j, i < 128 → j < 128 → A2 (a := 128) (b := 128) (V c main_v18) i j = if i ≤ j + 2 ∧ j ≤ i + 2 then 1 else 0)
    {n i j k : ℕ} (hn : n < 128) (hi : i < 27) (hj : j < 27) (hk : k < 96) :
    A4 (a := 128) (b := 27) (c := 27) (d := 128) ((dat0 V c).arrAt 4 cfg0.N) n i j k = L1 (X n) W B k i j := by
  have h := (dat0 V c).arrAt_forall_of_cover 4
    (fun (x : S128x27x27x128.Idx) (v : EReal) => (x 3).val < 96 → v = L1 (X (x 0).val) W B (x 3).val (x 1).val (x 2).val) ?_ ?_
    (ix4 (⟨n, hn⟩ : Fin 128) (⟨i, hi⟩ : Fin 27) (⟨j, hj⟩ : Fin 27) (⟨k, by omega⟩ : Fin 128)) hk
  · rw [A4_pos _ hn hi hj (by omega)]; exact h
  · intro t _ y hy
    have e := (idx0 t).2.2.2.2
    have ht : t.val < 128 := t.isLt.trans_eq N_0
    have y0 : (y 0).val < 1 := (y 0).isLt
    have y1 : (y 1).val < 27 := (y 1).isLt
    have y2 : (y 2).val < 27 := (y 2).isLt
    have e0 : (((cfg0.win 4).blk t).view.emb y 0).val = t.val := by
      show win0_4.index t 0 * 1 + 1 * (y 0).val = t.val; rw [e.1]; omega
    have e1 : (((cfg0.win 4).blk t).view.emb y 1).val = (y 1).val := by
      show win0_4.index t 1 * 27 + 1 * (y 1).val = _; rw [e.2.1]; omega
    have e2 : (((cfg0.win 4).blk t).view.emb y 2).val = (y 2).val := by
      show win0_4.index t 2 * 27 + 1 * (y 2).val = _; rw [e.2.2.1]; omega
    have e3 : (((cfg0.win 4).blk t).view.emb y 3).val = (y 3).val := by
      show win0_4.index t 3 * 128 + 1 * (y 3).val = _; rw [e.2.2.2]; omega
    have hy' : (y 3).val < 96 := e3 ▸ hy
    show (dat0 V c).after 4 t y = L1 (X _) W B _ _ _
    rw [e0, e1, e2, e3, after0_4, blk0_1, blk0_2, blk0_3]
    refine Eq.trans ?_ (out0_at (iblk0 V c 0 t) (V c main_v11) (V c main_v20) (V c main_v18) (X t.val) W B
      (fun hr wr k h w h1 h2 h3 h4 h5 => (blk0_0 V c t h1 (by omega) (by omega)).trans (hX _ hr wr k h w ht h1 h2 h3 h4 h5))
      hW hW0 hB hg y1 y2 hy')
    rw [A4_pos _ Nat.one_pos y1 y2 (by omega)]
    refine congrArg _ (funext fun a => Fin.ext ?_)
    match a with
    | ⟨0, _⟩ => show (y 0).val = 0; omega
    | ⟨1, _⟩ => rfl
    | ⟨2, _⟩ => rfl
    | ⟨3, _⟩ => rfl
  · intro x
    have x0 : (x 0).val < 128 := (x 0).isLt
    have x1 : (x 1).val < 27 := (x 1).isLt
    have x2 : (x 2).val < 27 := (x 2).isLt
    have x3 : (x 3).val < 128 := (x 3).isLt
    let t : Fin cfg0.N := ⟨(x 0).val, x0.trans_eq N_0.symm⟩
    have e := (idx0 t).2.2.2.2
    refine ⟨t, flush0_4 t, ?_⟩
    show x ∈ ((View.whole main_v21).slice (win0_4.rect t)).set
    rw [View.set_slice_whole, Rect.mem_set_unit]
    intro a
    match a with
    | ⟨0, _⟩ => show win0_4.index t 0 * 1 ≤ (x 0).val ∧ (x 0).val < win0_4.index t 0 * 1 + 1
                rw [e.1]; show (x 0).val * 1 ≤ (x 0).val ∧ (x 0).val < (x 0).val * 1 + 1; omega
    | ⟨1, _⟩ => show win0_4.index t 1 * 27 ≤ (x 1).val ∧ (x 1).val < win0_4.index t 1 * 27 + 27
                rw [e.2.1]; omega
    | ⟨2, _⟩ => show win0_4.index t 2 * 27 ≤ (x 2).val ∧ (x 2).val < win0_4.index t 2 * 27 + 27
                rw [e.2.2.1]; omega
    | ⟨3, _⟩ => show win0_4.index t 3 * 128 ≤ (x 3).val ∧ (x 3).val < win0_4.index t 3 * 128 + 128
                rw [e.2.2.2]; omega

end R0

end Cert.Net
-- ==== Proof.Rd1.lean ====
/-
  WHAT THE SECOND CALL LEAVES: its result array, every image through the second stage, inside a border of zeros.
-/
module

public import proofs.«01_k».proof.Proof.BlkB

@[expose] public section

noncomputable section

open scoped BigOperators

namespace Cert.Net

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b)) (c : Dev nD)

/-- Where the blocks of each window lie at a grid point. -/
theorem idx1 : ∀ t : Fin cfg1.N,
    (win1_0.index t 0 = t.val ∧ win1_0.index t 1 = 0 ∧ win1_0.index t 2 = 0 ∧ win1_0.index t 3 = 0)
    ∧ (win1_1.index t 0 = 0 ∧ win1_1.index t 1 = 0 ∧ win1_1.index t 2 = 0)
    ∧ (win1_2.index t 0 = 0 ∧ win1_2.index t 1 = 0)
    ∧ (win1_3.index t 0 = 0 ∧ win1_3.index t 1 = 0)
    ∧ (win1_4.index t 0 = t.val ∧ win1_4.index t 1 = 0 ∧ win1_4.index t 2 = 0 ∧ win1_4.index t 3 = 0) := by
  decide +kernel

/-- One block of the array, at coordinates. -/
theorem blk1_0 (t : Fin cfg1.N) {i j k l : ℕ} (hi : i < 1) (hj : j < 27) (hk : k < 27) (hl : l < 128) :
    A4 (a := 1) (b := 27) (c := 27) (d := 128) (iblk1 V c 0 t) i j k l = A4 (a := 128) (b := 27) (c := 27) (d := 128) (V c main_v21) (t.val * 1 + i) j k l := by
  have ht : t.val < 128 := t.isLt.trans_eq N_1
  rw [A4_pos _ hi hj hk hl, A4_pos _ (by omega) hj hk hl]
  unfold iblk1
  rw [View.read_apply]
  show V c main_v21 _ = V c main_v21 _
  refine congrArg (V c main_v21) (funext fun a => Fin.ext ?_)
  have e := (idx1 t).1
  match a with
  | ⟨0, _⟩ => show win1_0.index t 0 * 1 + 1 * i = t.val * 1 + i; rw [e.1]; omega
  | ⟨1, _⟩ => show win1_0.index t 1 * 27 + 1 * j = j; rw [e.2.1]; omega
  | ⟨2, _⟩ => show win1_0.index t 2 * 27 + 1 * k = k; rw [e.2.2.1]; omega
  | ⟨3, _⟩ => show win1_0.index t 3 * 128 + 1 * l = l; rw [e.2.2.2]; omega

/-- The whole array is one block at every grid point. -/
theorem blk1_1 (t : Fin cfg1.N) : iblk1 V c 1 t = V c main_v25 := by
  funext y
  unfold iblk1
  rw [View.read_apply]
  show V c main_v25 _ = V c main_v25 _
  refine congrArg (V c main_v25) (funext fun a => Fin.ext ?_)
  have e := (idx1 t).2.1
  match a with
  | ⟨0, _⟩ => show win1_1.index t 0 * 5 + 1 * (y 0).val = (y 0).val; rw [e.1]; omega
  | ⟨1, _⟩ => show win1_1.index t 1 * 640 + 1 * (y 1).val = (y 1).val; rw [e.2.1]; omega
  | ⟨2, _⟩ => show win1_1.index t 2 * 256 + 1 * (y 2).val = (y 2).val; rw [e.2.2]; omega

/-- The whole array is one block at every grid point. -/
theorem blk1_2 (t : Fin cfg1.N) : iblk1 V c 2 t = V c main_v33 := by
  funext y
  unfold iblk1
  rw [View.read_apply]
  show V c main_v33 _ = V c main_v33 _
  refine congrArg (V c main_v33) (funext fun a => Fin.ext ?_)
  have e := (idx1 t).2.2.1
  match a with
  | ⟨0, _⟩ => show win1_2.index t 0 * 1 + 1 * (y 0).val = (y 0).val; rw [e.1]; omega
  | ⟨1, _⟩ => show win1_2.index t 1 * 256 + 1 * (y 1).val = (y 1).val; rw [e.2]; omega

/-- The whole array is one block at every grid point. -/
theorem blk1_3 (t : Fin cfg1.N) : iblk1 V c 3 t = V c main_v32 := by
  funext y
  unfold iblk1
  rw [View.read_apply]
  show V c main_v32 _ = V c main_v32 _
  refine congrArg (V c main_v32) (funext fun a => Fin.ext ?_)
  have e := (idx1 t).2.2.2.1
  match a with
  | ⟨0, _⟩ => show win1_3.index t 0 * 256 + 1 * (y 0).val = (y 0).val; rw [e.1]; omega
  | ⟨1, _⟩ => show win1_3.index t 1 * 256 + 1 * (y 1).val = (y 1).val; rw [e.2]; omega

variable (X : ℕ → ℕ → ℕ → ℕ → EReal) (W : ℕ → ℕ → ℕ → ℕ → EReal) (B : ℕ → EReal)

/-- The second call's result array, image `n`, row `i`, column `j` of 16, channel `k`. -/
theorem arr1
    (hX : ∀ n i j k, n < 128 → i < 27 → j < 27 → k < 96 → A4 (a := 128) (b := 27) (c := 27) (d := 128) (V c main_v21) n i j k = X n k i j)
    (hX0 : ∀ n k i j, ¬(i < 27 ∧ j < 27) → X n k i j = 0)
    (hW : ∀ i q k o, i < 5 → q < 5 → k < 128 → o < 256 →
      A3 (a := 5) (b := 640) (c := 256) (V c main_v25) i (q * 128 + k) o = if k < 96 then W o k i q else 0)
    (hB : ∀ o, o < 256 → A2 (a := 1) (b := 256) (V c main_v33) 0 o = B o)
    (hg : ∀ i j, i < 256 → j < 256 → A2 (a := 256) (b := 256) (V c main_v32) i j = if i ≤ j + 2 ∧ j ≤ i + 2 then 1 else 0)
    {n i j k : ℕ} (hn : n < 128) (hi : i < 16) (hj : j < 16) (hk : k < 256) :
    A4 (a := 128) (b := 16) (c := 16) (d := 256) ((dat1 V c).arrAt 4 cfg1.N) n i j k = padS 1 (L2 (X n) W B) k i j := by
  have h := (dat1 V c).arrAt_forall_of_cover 4
    (fun (x : S128x16x16x256.Idx) (v : EReal) => v = padS 1 (L2 (X (x 0).val) W B) (x 3).val (x 1).val (x 2).val) ?_ ?_
    (ix4 (⟨n, hn⟩ : Fin 128) (⟨i, hi⟩ : Fin 16) (⟨j, hj⟩ : Fin 16) (⟨k, hk⟩ : Fin 256))
  · rw [A4_pos _ hn hi hj hk]; exact h
  · intro t _ y
    have e := (idx1 t).2.2.2.2
    have ht : t.val < 128 := t.isLt.trans_eq N_1
    have y0 : (y 0).val < 1 := (y 0).isLt
    have y1 : (y 1).val < 16 := (y 1).isLt
    have y2 : (y 2).val < 16 := (y 2).isLt
    have y3 : (y 3).val < 256 := (y 3).isLt
    have e0 : (((cfg1.win 4).blk t).view.emb y 0).val = t.val * 1 + (y 0).val := by
      show win1_4.index t 0 * 1 + 1 * (y 0).val = _; rw [e.1]; omega
    have e1 : (((cfg1.win 4).blk t).view.emb y 1).val = (y 1).val := by
      show win1_4.index t 1 * 16 + 1 * (y 1).val = _; rw [e.2.1]; omega
    have e2 : (((cfg1.win 4).blk t).view.emb y 2).val = (y 2).val := by
      show win1_4.index t 2 * 16 + 1 * (y 2).val = _; rw [e.2.2.1]; omega
    have e3 : (((cfg1.win 4).blk t).view.emb y 3).val = (y 3).val := by
      show win1_4.index t 3 * 256 + 1 * (y 3).val = _; rw [e.2.2.2]; omega
    have e0' : t.val * 1 + (y 0).val = t.val := by omega
    show (dat1 V c).after 4 t y = padS 1 (L2 (X _) W B) _ _ _
    rw [e0, e1, e2, e3, e0', after1_4, blk1_1, blk1_2, blk1_3]
    refine Eq.trans ?_ (out1_at (iblk1 V c 0 t) (V c main_v25) (V c main_v33) (V c main_v32) (X t.val) W B
      (fun i j k h1 h2 h3 => (blk1_0 V c t Nat.one_pos h1 h2 (by omega)).trans
        ((congrArg (fun n => A4 (a := 128) (b := 27) (c := 27) (d := 128) (V c main_v21) n i j k) (by omega)).trans (hX _ i j k ht h1 h2 h3)))
      (hX0 _) hW hB hg y1 y2 y3)
    rw [A4_pos _ Nat.one_pos y1 y2 y3]
    refine congrArg _ (funext fun a => Fin.ext ?_)
    match a with
    | ⟨0, _⟩ => show (y 0).val = 0; omega
    | ⟨1, _⟩ => rfl
    | ⟨2, _⟩ => rfl
    | ⟨3, _⟩ => rfl
  · intro x
    have x0 : (x 0).val < 128 := (x 0).isLt
    have x1 : (x 1).val < 16 := (x 1).isLt
    have x2 : (x 2).val < 16 := (x 2).isLt
    have x3 : (x 3).val < 256 := (x 3).isLt
    let t : Fin cfg1.N := ⟨(x 0).val / 1, (show (x 0).val / 1 < 128 by omega).trans_eq N_1.symm⟩
    have et : t.val = (x 0).val / 1 := rfl
    have e := (idx1 t).2.2.2.2
    refine ⟨t, flush1_4 t, ?_⟩
    show x ∈ ((View.whole main_v34).slice (win1_4.rect t)).set
    rw [View.set_slice_whole, Rect.mem_set_unit]
    intro a
    match a with
    | ⟨0, _⟩ => show win1_4.index t 0 * 1 ≤ (x 0).val ∧ (x 0).val < win1_4.index t 0 * 1 + 1
                rw [e.1]; omega
    | ⟨1, _⟩ => show win1_4.index t 1 * 16 ≤ (x 1).val ∧ (x 1).val < win1_4.index t 1 * 16 + 16
                rw [e.2.1]; omega
    | ⟨2, _⟩ => show win1_4.index t 2 * 16 ≤ (x 2).val ∧ (x 2).val < win1_4.index t 2 * 16 + 16
                rw [e.2.2.1]; omega
    | ⟨3, _⟩ => show win1_4.index t 3 * 256 ≤ (x 3).val ∧ (x 3).val < win1_4.index t 3 * 256 + 256
                rw [e.2.2.2]; omega

end Cert.Net
-- ==== Proof.BlkC.lean ====
/-
  THE THIRD STAGE'S BLOCK: what one grid point of the third call computes, four images by the same function: three
  `3 × 3` convolutions and a pooling.
-/
module

public import proofs.«01_k».proof.Proof.Ops
public import proofs.«01_k».proof.Proof.Load
public import proofs.«01_k».proof.Proof.Load
public import proofs.«01_k».proof.Proof.Load
public import proofs.«01_k».proof.Proof.Load
public import proofs.«01_k».proof.Proof.Gen.KernelIdeal.Frame

@[expose] public section

noncomputable section

open scoped BigOperators

namespace Cert.Net

open Idealize.ShloMosaic Cert.KernelIdeal Cert.KernelIdeal.Gen

/-- The product of these extents is a plain matrix product. -/
theorem mm_208_768_384 : IsMM dot_S208x768_S768x384_S208x384_1_0_0_1_n_n := by
  intro l r z i j
  simp only [pointwise]

/-- The product of these extents is a plain matrix product. -/
theorem mm_208_1152_384 : IsMM dot_S208x1152_S1152x384_S208x384_1_0_0_1_n_n := by
  intro l r z i j
  simp only [pointwise]

/-- The product of these extents is a plain matrix product. -/
theorem mm_208_1152_256 : IsMM dot_S208x1152_S1152x256_S208x256_1_0_0_1_n_n := by
  intro l r z i j
  simp only [pointwise]

/-- The third convolution's operations. -/
def okConv3 : ConvOk 256 768 384 where
  hK := rfl
  flat := shapeCasts_S16x16x256_S256x256
  s0 := slices_S256x256_o0_0_S240x256
  s1 := slices_S256x256_o1_0_S240x256
  s2 := slices_S256x256_o2_0_S240x256
  cat := concatenates_S240x256_S240x256_S240x256_S240x768_d1
  t0 := slices_S240x768_o0_0_S208x768
  t1 := slices_S240x768_o16_0_S208x768
  t2 := slices_S240x768_o32_0_S208x768
  wgt := shapeCasts_S1x768x384_S768x384
  d := dot_S208x768_S768x384_S208x384_1_0_0_1_n_n
  hd := mm_208_768_384
  bs := shapeCasts_S1x384_S1x384
  bb := broadcasts_S1x384_S208x384
  img := shapeCasts_S208x384_S13x16x384

/-- The fourth convolution's operations. -/
def okConv4 : ConvOk 384 1152 384 where
  hK := rfl
  flat := shapeCasts_S16x16x384_S256x384
  s0 := slices_S256x384_o0_0_S240x384
  s1 := slices_S256x384_o1_0_S240x384
  s2 := slices_S256x384_o2_0_S240x384
  cat := concatenates_S240x384_S240x384_S240x384_S240x1152_d1
  t0 := slices_S240x1152_o0_0_S208x1152
  t1 := slices_S240x1152_o16_0_S208x1152
  t2 := slices_S240x1152_o32_0_S208x1152
  wgt := shapeCasts_S1x1152x384_S1152x384
  d := dot_S208x1152_S1152x384_S208x384_1_0_0_1_n_n
  hd := mm_208_1152_384
  bs := shapeCasts_S1x384_S1x384
  bb := broadcasts_S1x384_S208x384
  img := shapeCasts_S208x384_S13x16x384

/-- The fifth convolution's operations. -/
def okConv5 : ConvOk 384 1152 256 where
  hK := rfl
  flat := shapeCasts_S16x16x384_S256x384
  s0 := slices_S256x384_o0_0_S240x384
  s1 := slices_S256x384_o1_0_S240x384
  s2 := slices_S256x384_o2_0_S240x384
  cat := concatenates_S240x384_S240x384_S240x384_S240x1152_d1
  t0 := slices_S240x1152_o0_0_S208x1152
  t1 := slices_S240x1152_o16_0_S208x1152
  t2 := slices_S240x1152_o32_0_S208x1152
  wgt := shapeCasts_S1x1152x256_S1152x256
  d := dot_S208x1152_S1152x256_S208x256_1_0_0_1_n_n
  hd := mm_208_1152_256
  bs := shapeCasts_S1x256_S1x256
  bb := broadcasts_S1x256_S208x256
  img := shapeCasts_S208x256_S13x16x256

/-- The shape conditions of the third stage's mask. -/
def okMask : MaskOk 384 where
  io := iota_S1x16x1_d1_w32
  cs := shapeCasts_S1x16x1_S1x16x1
  bb := broadcasts_S1x16x1_S13x16x384

/-- The shape conditions of the third stage's border. -/
def okPadC : PadOk 13 14 16 16 17 19 1 2 1 2 384 where
  a := concatenates_S1x16x384_S13x16x384_S14x16x384_d0
  b := concatenates_S14x16x384_S2x16x384_S16x16x384_d0
  d := concatenates_S16x1x384_S16x16x384_S16x17x384_d1
  e := concatenates_S16x17x384_S16x2x384_S16x19x384_d1

/-- The shape conditions of the third stage's pooling. -/
def okPoolC : PoolOk 7 16 8 6 6 256 where
  hW := rfl
  s0 := slices_S7x2x16x256_o0_0_0_0_S6x1x16x256
  s1 := slices_S7x2x16x256_o0_1_0_0_S6x1x16x256
  s2 := slices_S7x2x16x256_o1_0_0_0_S6x1x16x256
  d := shapeCasts_S6x1x16x256_S6x16x256
  sp := shapeCasts_S6x16x256_S6x8x2x256
  t0 := slices_S6x8x2x256_o0_0_0_0_S6x6x1x256
  t1 := slices_S6x8x2x256_o0_0_1_0_S6x6x1x256
  t2 := slices_S6x8x2x256_o0_1_0_0_S6x6x1x256
  u := shapeCasts_S6x6x1x256_S6x6x256

/-- The masked image with its zero border. -/
def padC (x : FVec Ideal S13x16x384 .bf16) : FVec Ideal S16x16x384 .bf16 :=
  extractStridedSlice S16x16x384 ![0, 0, 0] (padV okPadC (Scalar.sitofp .bf16 0#32) (mask13 okMask x)) slices_S16x19x384_o0_0_0_S16x16x384

/-- One image through the third stage. -/
def imgC (x : Vec Ideal S1x16x16x256 .bf16) (u0 u1 u2 : Vec Ideal S1x768x384 .bf16) (b3 : Vec Ideal S1x384 .f32)
    (v0 v1 v2 : Vec Ideal S1x1152x384 .bf16) (b4 : Vec Ideal S1x384 .f32) (w0 w1 w2 : Vec Ideal S1x1152x256 .bf16)
    (b5 : Vec Ideal S1x256 .f32) : FVec Ideal S1x256x36 .bf16 :=
  shapeCast S1x256x36 (transpose S256x36 [1, 0] (shapeCast S36x256 (poolCols okPoolC (poolRows okPoolC
    (shapeCast S7x2x16x256 (concatenate S14x16x256 0 [⟨S13x16x256,
        conv3 okConv5 (padC (conv3 okConv4 (padC (conv3 okConv3 (shapeCast S16x16x256 x shapeCasts_S1x16x16x256_S16x16x256)
          u0 u1 u2 b3)) v0 v1 v2 b4)) w0 w1 w2 b5⟩,
      ⟨S1x16x256, broadcast S1x16x256 (Scalar.sitofp .bf16 0#32)⟩] concatenates_S13x16x256_S1x16x256_S14x16x256_d0)
      shapeCasts_S14x16x256_S7x2x16x256))) shapeCasts_S6x6x256_S36x256) transposes_S36x256_p1_0_S256x36) shapeCasts_S256x36_S1x256x36

section Payloads
variable (x0 : Vec Ideal S4x16x16x256 .bf16) (x1 : Vec Ideal S3x768x384 .bf16) (x2 : Vec Ideal S1x384 .f32)
  (x3 : Vec Ideal S3x1152x384 .bf16) (x4 : Vec Ideal S1x384 .f32) (x5 : Vec Ideal S3x1152x256 .bf16) (x6 : Vec Ideal S1x256 .f32)

/-- What one image's store holds, from the call's blocks: the image through the stage. -/
abbrev imgCof (x : Vec Ideal S1x16x16x256 .bf16) : FVec Ideal S1x256x36 .bf16 :=
  imgC x (View.ld x1 r2_1) (View.ld x1 r2_2) (View.ld x1 r2_3) (View.ld x2 r2_4) (View.ld x3 r2_5) (View.ld x3 r2_6)
    (View.ld x3 r2_7) (View.ld x4 r2_4) (View.ld x5 r2_8) (View.ld x5 r2_9) (View.ld x5 r2_10) (View.ld x6 r2_11)

/-- The block the third call leaves: four images, each through the stage. -/
theorem out2_eq : out2_7 (F := Ideal) x0 x1 x2 x3 x4 x5 x6 = View.canon [
    ⟨r2_18, imgCof x1 x2 x3 x4 x5 x6 (View.ld x0 r2_17)⟩, ⟨r2_16, imgCof x1 x2 x3 x4 x5 x6 (View.ld x0 r2_15)⟩,
    ⟨r2_14, imgCof x1 x2 x3 x4 x5 x6 (View.ld x0 r2_13)⟩, ⟨r2_12, imgCof x1 x2 x3 x4 x5 x6 (View.ld x0 r2_0)⟩] := rfl

end Payloads

/-! ## What the block holds -/

/-- The masked and bordered image: the specified image, cut to 13 × 13, padded by one. -/
theorem padC_eq (y : FVec Ideal S13x16x384 .bf16) (Y : ℕ → ℕ → ℕ → EReal)
    (hY : ∀ h w o, h < 13 → w < 13 → o < 384 → A3 y h w o = Y o h w) {i j o : ℕ} (hi : i < 16) (hj : j < 16) (ho : o < 384) :
    A3 (padC y) i j o = padS 1 (clip 384 13 13 Y) o i j := by
  unfold padC
  refine (A3_slice _ slices_S16x19x384_o0_0_0_S16x16x384 hi hj ho).trans ?_
  simp only [Nat.zero_add]
  rw [padV_eq okPadC _ sitofp_zero _ hi (show j < 19 by omega) ho]
  unfold padS
  split
  · next h =>
    unfold clip
    by_cases h1 : i - 1 < 13
    · rw [mask13_eq okMask y h1 (by omega) ho]
      split
      · next h2 => rw [hY _ _ _ h1 h2 ho, if_pos ⟨ho, h1, h2⟩]
      · next h2 => rw [if_neg (by omega)]
    · rw [A3_neg _ (by omega), if_neg (by omega)]
  · rfl

/-- The whole third stage of one image. -/
def stageC (X : ℕ → ℕ → ℕ → EReal) (W3 W4 W5 : ℕ → ℕ → ℕ → ℕ → EReal) (b3 b4 b5 : ℕ → EReal) : ℕ → ℕ → ℕ → EReal :=
  poolS (L3 384 256 (L3 384 384 (L3 256 384 X W3 b3) W4 b4) W5 b5)

/-- The computed image of the third stage is the composition of its three convolutions and pooling. -/
theorem imgC_eq (x : Vec Ideal S1x16x16x256 .bf16) (u0 u1 u2 : Vec Ideal S1x768x384 .bf16) (b3 : Vec Ideal S1x384 .f32)
    (v0 v1 v2 : Vec Ideal S1x1152x384 .bf16) (b4 : Vec Ideal S1x384 .f32) (w0 w1 w2 : Vec Ideal S1x1152x256 .bf16)
    (b5 : Vec Ideal S1x256 .f32) (X : ℕ → ℕ → ℕ → EReal) (W3 W4 W5 : ℕ → ℕ → ℕ → ℕ → EReal) (B3 B4 B5 : ℕ → EReal)
    (hX : ∀ i j c, i < 16 → j < 16 → c < 256 → A4 x 0 i j c = padS 1 X c i j)
    (hu0 : ∀ q c o, q < 3 → c < 256 → o < 384 → A3 u0 0 (q * 256 + c) o = W3 o c 0 q)
    (hu1 : ∀ q c o, q < 3 → c < 256 → o < 384 → A3 u1 0 (q * 256 + c) o = W3 o c 1 q)
    (hu2 : ∀ q c o, q < 3 → c < 256 → o < 384 → A3 u2 0 (q * 256 + c) o = W3 o c 2 q)
    (hv0 : ∀ q c o, q < 3 → c < 384 → o < 384 → A3 v0 0 (q * 384 + c) o = W4 o c 0 q)
    (hv1 : ∀ q c o, q < 3 → c < 384 → o < 384 → A3 v1 0 (q * 384 + c) o = W4 o c 1 q)
    (hv2 : ∀ q c o, q < 3 → c < 384 → o < 384 → A3 v2 0 (q * 384 + c) o = W4 o c 2 q)
    (hw0 : ∀ q c o, q < 3 → c < 384 → o < 256 → A3 w0 0 (q * 384 + c) o = W5 o c 0 q)
    (hw1 : ∀ q c o, q < 3 → c < 384 → o < 256 → A3 w1 0 (q * 384 + c) o = W5 o c 1 q)
    (hw2 : ∀ q c o, q < 3 → c < 384 → o < 256 → A3 w2 0 (q * 384 + c) o = W5 o c 2 q)
    (hb3 : ∀ o, o < 384 → A2 b3 0 o = B3 o) (hb4 : ∀ o, o < 384 → A2 b4 0 o = B4 o) (hb5 : ∀ o, o < 256 → A2 b5 0 o = B5 o)
    {c p : ℕ} (hc : c < 256) (hp : p < 36) :
    A3 (imgC x u0 u1 u2 b3 v0 v1 v2 b4 w0 w1 w2 b5) 0 c p = stageC X W3 W4 W5 B3 B4 B5 c (p / 6) (p % 6) := by
  have h3 : ∀ h w o, h < 13 → w < 13 → o < 384 →
      A3 (conv3 okConv3 (shapeCast S16x16x256 x shapeCasts_S1x16x16x256_S16x16x256) u0 u1 u2 b3) h w o
        = convS 256 3 1 (padS 1 X) W3 B3 o h w := fun h w o hh hw ho =>
    conv3_eq okConv3 _ _ _ _ _ _ W3 B3 (fun i j c hi hj hc =>
      (cast4_3_unit x shapeCasts_S1x16x16x256_S16x16x256 i j c).trans (hX i j c (by omega) (by omega) hc)) hu0 hu1 hu2 hb3 hh hw ho
  have h4 : ∀ h w o, h < 13 → w < 13 → o < 384 →
      A3 (conv3 okConv4 (padC (conv3 okConv3 (shapeCast S16x16x256 x shapeCasts_S1x16x16x256_S16x16x256) u0 u1 u2 b3)) v0 v1 v2 b4) h w o
        = convS 384 3 1 (padS 1 (L3 256 384 X W3 B3)) W4 B4 o h w := fun h w o hh hw ho =>
    conv3_eq okConv4 _ _ _ _ _ _ W4 B4 (fun i j c hi hj hc => padC_eq _ _ h3 (by omega) (by omega) hc) hv0 hv1 hv2 hb4 hh hw ho
  have h5 : ∀ h w o, h < 13 → w < 13 → o < 256 →
      A3 (conv3 okConv5 (padC (conv3 okConv4 (padC (conv3 okConv3 (shapeCast S16x16x256 x shapeCasts_S1x16x16x256_S16x16x256)
          u0 u1 u2 b3)) v0 v1 v2 b4)) w0 w1 w2 b5) h w o
        = convS 384 3 1 (padS 1 (L3 384 384 (L3 256 384 X W3 B3) W4 B4)) W5 B5 o h w := fun h w o hh hw ho =>
    conv3_eq okConv5 _ _ _ _ _ _ W5 B5 (fun i j c hi hj hc => padC_eq _ _ h4 (by omega) (by omega) hc) hw0 hw1 hw2 hb5 hh hw ho
  unfold imgC
  refine (cast2_3_unit _ shapeCasts_S256x36_S1x256x36 hc hp).trans ?_
  refine (A2_transpose _ transposes_S36x256_p1_0_S256x36 hc hp).trans ?_
  have hp6 : p / 6 * 6 + p % 6 = p := by omega
  have e := cast3_2 (poolCols okPoolC (poolRows okPoolC
    (shapeCast S7x2x16x256 (concatenate S14x16x256 0 [⟨S13x16x256,
        conv3 okConv5 (padC (conv3 okConv4 (padC (conv3 okConv3 (shapeCast S16x16x256 x shapeCasts_S1x16x16x256_S16x16x256)
          u0 u1 u2 b3)) v0 v1 v2 b4)) w0 w1 w2 b5⟩,
      ⟨S1x16x256, broadcast S1x16x256 (Scalar.sitofp .bf16 0#32)⟩] concatenates_S13x16x256_S1x16x256_S14x16x256_d0)
      shapeCasts_S14x16x256_S7x2x16x256))) shapeCasts_S6x6x256_S36x256 (i := p / 6) (j := p % 6) (k := c) (by omega) (by omega) hc (by omega)
  rw [hp6] at e
  refine e.trans (pool_eq okPoolC _ _ ?_ (by omega) (by omega) hc)
  intro i e w l hi he hw hl
  refine (cast3_4_lead _ shapeCasts_S14x16x256_S7x2x16x256 (by omega) he (by omega) hl (by omega)).trans ?_
  refine (cat3_0 _ _ concatenates_S13x16x256_S1x16x256_S14x16x256_d0 (by omega) (by omega) hl).trans ?_
  rw [if_pos (by omega), show i * 2 + e = 2 * i + e by ring]
  unfold L3 clip
  rw [if_pos ⟨hl, by omega, by omega⟩]
  exact h5 _ _ _ (by omega) (by omega) hl

section Block
variable (x0 : Vec Ideal S4x16x16x256 .bf16) (x1 : Vec Ideal S3x768x384 .bf16) (x2 : Vec Ideal S1x384 .f32)
  (x3 : Vec Ideal S3x1152x384 .bf16) (x4 : Vec Ideal S1x384 .f32) (x5 : Vec Ideal S3x1152x256 .bf16) (x6 : Vec Ideal S1x256 .f32)
  (X : ℕ → ℕ → ℕ → ℕ → EReal) (W3 W4 W5 : ℕ → ℕ → ℕ → ℕ → EReal) (B3 B4 B5 : ℕ → EReal)

/-- One image's store of the block, at an index of it. -/
theorem imgCof_at
    (hX : ∀ n i j c, n < 4 → i < 16 → j < 16 → c < 256 → A4 x0 n i j c = padS 1 (X n) c i j)
    (h3 : ∀ i q c o, i < 3 → q < 3 → c < 256 → o < 384 → A3 x1 i (q * 256 + c) o = W3 o c i q)
    (h4 : ∀ i q c o, i < 3 → q < 3 → c < 384 → o < 384 → A3 x3 i (q * 384 + c) o = W4 o c i q)
    (h5 : ∀ i q c o, i < 3 → q < 3 → c < 384 → o < 256 → A3 x5 i (q * 384 + c) o = W5 o c i q)
    (hb3 : ∀ o, o < 384 → A2 x2 0 o = B3 o) (hb4 : ∀ o, o < 384 → A2 x4 0 o = B4 o) (hb5 : ∀ o, o < 256 → A2 x6 0 o = B5 o)
    {n : ℕ} (hn : n < 4) (inb : ∀ a, ![n, 0, 0, 0] a + S1x16x16x256.size a ≤ S4x16x16x256.size a) {c p : ℕ} (hc : c < 256) (hp : p < 36) :
    A3 (imgCof x1 x2 x3 x4 x5 x6 (View.ld x0 (Rect.unit (s := S4x16x16x256) ![n, 0, 0, 0] S1x16x16x256.size inb))) 0 c p
      = stageC (X n) W3 W4 W5 B3 B4 B5 c (p / 6) (p % 6) := by
  refine imgC_eq _ _ _ _ _ _ _ _ _ _ _ _ _ (X n) W3 W4 W5 B3 B4 B5 ?_ ?_ ?_ ?_ ?_ ?_ ?_ ?_ ?_ ?_ ?_ ?_ ?_ hc hp
  · intro i j c hi hj hc
    refine (A4_ld16 x0 _ Nat.one_pos hi hj hc).trans ?_
    rw [← hX n i j c hn hi hj hc]
    simp only [Nat.zero_add, Nat.add_zero]
  · intro q c o hq hc ho
    refine (A3_ld16 x1 _ Nat.one_pos (by omega) ho).trans ?_
    rw [← h3 0 q c o (by omega) hq hc ho]
    simp only [Nat.zero_add, Nat.add_zero]
  · intro q c o hq hc ho
    refine (A3_ld16 x1 _ Nat.one_pos (by omega) ho).trans ?_
    rw [← h3 1 q c o (by omega) hq hc ho]
    simp only [Nat.zero_add, Nat.add_zero]
  · intro q c o hq hc ho
    refine (A3_ld16 x1 _ Nat.one_pos (by omega) ho).trans ?_
    rw [← h3 2 q c o (by omega) hq hc ho]
    simp only [Nat.zero_add, Nat.add_zero]
  · intro q c o hq hc ho
    refine (A3_ld16 x3 _ Nat.one_pos (by omega) ho).trans ?_
    rw [← h4 0 q c o (by omega) hq hc ho]
    simp only [Nat.zero_add, Nat.add_zero]
  · intro q c o hq hc ho
    refine (A3_ld16 x3 _ Nat.one_pos (by omega) ho).trans ?_
    rw [← h4 1 q c o (by omega) hq hc ho]
    simp only [Nat.zero_add, Nat.add_zero]
  · intro q c o hq hc ho
    refine (A3_ld16 x3 _ Nat.one_pos (by omega) ho).trans ?_
    rw [← h4 2 q c o (by omega) hq hc ho]
    simp only [Nat.zero_add, Nat.add_zero]
  · intro q c o hq hc ho
    refine (A3_ld16 x5 _ Nat.one_pos (by omega) ho).trans ?_
    rw [← h5 0 q c o (by omega) hq hc ho]
    simp only [Nat.zero_add, Nat.add_zero]
  · intro q c o hq hc ho
    refine (A3_ld16 x5 _ Nat.one_pos (by omega) ho).trans ?_
    rw [← h5 1 q c o (by omega) hq hc ho]
    simp only [Nat.zero_add, Nat.add_zero]
  · intro q c o hq hc ho
    refine (A3_ld16 x5 _ Nat.one_pos (by omega) ho).trans ?_
    rw [← h5 2 q c o (by omega) hq hc ho]
    simp only [Nat.zero_add, Nat.add_zero]
  · intro o ho
    refine (A2_ld32 x2 _ Nat.one_pos ho).trans ?_
    rw [← hb3 o ho]
    simp only [Nat.zero_add, Nat.add_zero]
  · intro o ho
    refine (A2_ld32 x4 _ Nat.one_pos ho).trans ?_
    rw [← hb4 o ho]
    simp only [Nat.zero_add, Nat.add_zero]
  · intro o ho
    refine (A2_ld32 x6 _ Nat.one_pos ho).trans ?_
    rw [← hb5 o ho]
    simp only [Nat.zero_add, Nat.add_zero]

/-- The block of the third call: image `n`, channel `c`, position `p` of 36. -/
theorem out2_at
    (hX : ∀ n i j c, n < 4 → i < 16 → j < 16 → c < 256 → A4 x0 n i j c = padS 1 (X n) c i j)
    (h3 : ∀ i q c o, i < 3 → q < 3 → c < 256 → o < 384 → A3 x1 i (q * 256 + c) o = W3 o c i q)
    (h4 : ∀ i q c o, i < 3 → q < 3 → c < 384 → o < 384 → A3 x3 i (q * 384 + c) o = W4 o c i q)
    (h5 : ∀ i q c o, i < 3 → q < 3 → c < 384 → o < 256 → A3 x5 i (q * 384 + c) o = W5 o c i q)
    (hb3 : ∀ o, o < 384 → A2 x2 0 o = B3 o) (hb4 : ∀ o, o < 384 → A2 x4 0 o = B4 o) (hb5 : ∀ o, o < 256 → A2 x6 0 o = B5 o)
    {n c p : ℕ} (hn : n < 4) (hc : c < 256) (hp : p < 36) :
    A3 (out2_7 (F := Ideal) x0 x1 x2 x3 x4 x5 x6) n c p = stageC (X n) W3 W4 W5 B3 B4 B5 c (p / 6) (p % 6) := by
  have key : ∀ (k : ℕ) (inb : ∀ a, ![k, 0, 0, 0] a + S1x16x16x256.size a ≤ S4x16x16x256.size a),
      View.TileAt (S := S4x256x36) (e := EltTy.bf16) (Val := Elt Ideal) (ix3 ⟨n, hn⟩ ⟨c, hc⟩ ⟨p, hp⟩) ![k, 0, 0] S1x256x36.size
        (imgCof x1 x2 x3 x4 x5 x6 (View.ld x0 (Rect.unit (s := S4x16x16x256) ![k, 0, 0, 0] S1x16x16x256.size inb)))
        (stageC (X n) W3 W4 W5 B3 B4 B5 c (p / 6) (p % 6)) := by
    intro k inb x hx
    have e0 : n = k + (x 0).val := hx 0
    have e1 : c = 0 + (x 1).val := hx 1
    have e2 : p = 0 + (x 2).val := hx 2
    have l0 : (x 0).val < 1 := (x 0).isLt
    have e0' : n = k := by omega
    subst e0'
    rw [← imgCof_at x0 x1 x2 x3 x4 x5 x6 X W3 W4 W5 B3 B4 B5 hX h3 h4 h5 hb3 hb4 hb5 hn inb hc hp, A3_pos _ Nat.one_pos hc hp]
    refine congrArg _ (funext fun a => Fin.ext ?_)
    match a with
    | ⟨0, _⟩ => show (x 0).val = 0; omega
    | ⟨1, _⟩ => show (x 1).val = c; omega
    | ⟨2, _⟩ => show (x 2).val = p; omega
  rw [A3_pos _ hn hc hp, out2_eq]
  refine View.canon_eq_of_allAt _ _ _ (cover2_7 _ _ _ _ _) ?_
  refine View.allAt_cons_unit _ _ _ _ _ (key 3 _) ?_
  refine View.allAt_cons_unit _ _ _ _ _ (key 2 _) ?_
  refine View.allAt_cons_unit _ _ _ _ _ (key 1 _) ?_
  refine View.allAt_cons_unit _ _ _ _ _ (key 0 _) ?_
  exact View.allAt_nil _ _

end Block

end Cert.Net
-- ==== Proof.Rd2.lean ====
/-
  WHAT THE THIRD CALL LEAVES: its result array, every image through the third stage.
-/
module

public import proofs.«01_k».proof.Proof.BlkC

@[expose] public section

noncomputable section

open scoped BigOperators

namespace Cert.Net

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b)) (c : Dev nD)

/-- Where the blocks of each window lie at a grid point. -/
theorem idx2 : ∀ t : Fin cfg2.N,
    (win2_0.index t 0 = t.val ∧ win2_0.index t 1 = 0 ∧ win2_0.index t 2 = 0 ∧ win2_0.index t 3 = 0)
    ∧ (win2_1.index t 0 = 0 ∧ win2_1.index t 1 = 0 ∧ win2_1.index t 2 = 0)
    ∧ (win2_2.index t 0 = 0 ∧ win2_2.index t 1 = 0)
    ∧ (win2_3.index t 0 = 0 ∧ win2_3.index t 1 = 0 ∧ win2_3.index t 2 = 0)
    ∧ (win2_4.index t 0 = 0 ∧ win2_4.index t 1 = 0)
    ∧ (win2_5.index t 0 = 0 ∧ win2_5.index t 1 = 0 ∧ win2_5.index t 2 = 0)
    ∧ (win2_6.index t 0 = 0 ∧ win2_6.index t 1 = 0)
    ∧ (win2_7.index t 0 = t.val ∧ win2_7.index t 1 = 0 ∧ win2_7.index t 2 = 0) := by
  decide +kernel

/-- One block of the array, at coordinates. -/
theorem blk2_0 (t : Fin cfg2.N) {i j k l : ℕ} (hi : i < 4) (hj : j < 16) (hk : k < 16) (hl : l < 256) :
    A4 (a := 4) (b := 16) (c := 16) (d := 256) (iblk2 V c 0 t) i j k l = A4 (a := 128) (b := 16) (c := 16) (d := 256) (V c main_v34) (t.val * 4 + i) j k l := by
  have ht : t.val < 32 := t.isLt.trans_eq N_2
  rw [A4_pos _ hi hj hk hl, A4_pos _ (by omega) hj hk hl]
  unfold iblk2
  rw [View.read_apply]
  show V c main_v34 _ = V c main_v34 _
  refine congrArg (V c main_v34) (funext fun a => Fin.ext ?_)
  have e := (idx2 t).1
  match a with
  | ⟨0, _⟩ => show win2_0.index t 0 * 4 + 1 * i = t.val * 4 + i; rw [e.1]; omega
  | ⟨1, _⟩ => show win2_0.index t 1 * 16 + 1 * j = j; rw [e.2.1]; omega
  | ⟨2, _⟩ => show win2_0.index t 2 * 16 + 1 * k = k; rw [e.2.2.1]; omega
  | ⟨3, _⟩ => show win2_0.index t 3 * 256 + 1 * l = l; rw [e.2.2.2]; omega

/-- The whole array is one block at every grid point. -/
theorem blk2_1 (t : Fin cfg2.N) : iblk2 V c 1 t = V c main_v37 := by
  funext y
  unfold iblk2
  rw [View.read_apply]
  show V c main_v37 _ = V c main_v37 _
  refine congrArg (V c main_v37) (funext fun a => Fin.ext ?_)
  have e := (idx2 t).2.1
  match a with
  | ⟨0, _⟩ => show win2_1.index t 0 * 3 + 1 * (y 0).val = (y 0).val; rw [e.1]; omega
  | ⟨1, _⟩ => show win2_1.index t 1 * 768 + 1 * (y 1).val = (y 1).val; rw [e.2.1]; omega
  | ⟨2, _⟩ => show win2_1.index t 2 * 384 + 1 * (y 2).val = (y 2).val; rw [e.2.2]; omega

/-- The whole array is one block at every grid point. -/
theorem blk2_2 (t : Fin cfg2.N) : iblk2 V c 2 t = V c main_v44 := by
  funext y
  unfold iblk2
  rw [View.read_apply]
  show V c main_v44 _ = V c main_v44 _
  refine congrArg (V c main_v44) (funext fun a => Fin.ext ?_)
  have e := (idx2 t).2.2.1
  match a with
  | ⟨0, _⟩ => show win2_2.index t 0 * 1 + 1 * (y 0).val = (y 0).val; rw [e.1]; omega
  | ⟨1, _⟩ => show win2_2.index t 1 * 384 + 1 * (y 1).val = (y 1).val; rw [e.2]; omega

/-- The whole array is one block at every grid point. -/
theorem blk2_3 (t : Fin cfg2.N) : iblk2 V c 3 t = V c main_v40 := by
  funext y
  unfold iblk2
  rw [View.read_apply]
  show V c main_v40 _ = V c main_v40 _
  refine congrArg (V c main_v40) (funext fun a => Fin.ext ?_)
  have e := (idx2 t).2.2.2.1
  match a with
  | ⟨0, _⟩ => show win2_3.index t 0 * 3 + 1 * (y 0).val = (y 0).val; rw [e.1]; omega
  | ⟨1, _⟩ => show win2_3.index t 1 * 1152 + 1 * (y 1).val = (y 1).val; rw [e.2.1]; omega
  | ⟨2, _⟩ => show win2_3.index t 2 * 384 + 1 * (y 2).val = (y 2).val; rw [e.2.2]; omega

/-- The whole array is one block at every grid point. -/
theorem blk2_4 (t : Fin cfg2.N) : iblk2 V c 4 t = V c main_v45 := by
  funext y
  unfold iblk2
  rw [View.read_apply]
  show V c main_v45 _ = V c main_v45 _
  refine congrArg (V c main_v45) (funext fun a => Fin.ext ?_)
  have e := (idx2 t).2.2.2.2.1
  match a with
  | ⟨0, _⟩ => show win2_4.index t 0 * 1 + 1 * (y 0).val = (y 0).val; rw [e.1]; omega
  | ⟨1, _⟩ => show win2_4.index t 1 * 384 + 1 * (y 1).val = (y 1).val; rw [e.2]; omega

/-- The whole array is one block at every grid point. -/
theorem blk2_5 (t : Fin cfg2.N) : iblk2 V c 5 t = V c main_v43 := by
  funext y
  unfold iblk2
  rw [View.read_apply]
  show V c main_v43 _ = V c main_v43 _
  refine congrArg (V c main_v43) (funext fun a => Fin.ext ?_)
  have e := (idx2 t).2.2.2.2.2.1
  match a with
  | ⟨0, _⟩ => show win2_5.index t 0 * 3 + 1 * (y 0).val = (y 0).val; rw [e.1]; omega
  | ⟨1, _⟩ => show win2_5.index t 1 * 1152 + 1 * (y 1).val = (y 1).val; rw [e.2.1]; omega
  | ⟨2, _⟩ => show win2_5.index t 2 * 256 + 1 * (y 2).val = (y 2).val; rw [e.2.2]; omega

/-- The whole array is one block at every grid point. -/
theorem blk2_6 (t : Fin cfg2.N) : iblk2 V c 6 t = V c main_v46 := by
  funext y
  unfold iblk2
  rw [View.read_apply]
  show V c main_v46 _ = V c main_v46 _
  refine congrArg (V c main_v46) (funext fun a => Fin.ext ?_)
  have e := (idx2 t).2.2.2.2.2.2.1
  match a with
  | ⟨0, _⟩ => show win2_6.index t 0 * 1 + 1 * (y 0).val = (y 0).val; rw [e.1]; omega
  | ⟨1, _⟩ => show win2_6.index t 1 * 256 + 1 * (y 1).val = (y 1).val; rw [e.2]; omega

variable (X : ℕ → ℕ → ℕ → ℕ → EReal) (W3 W4 W5 : ℕ → ℕ → ℕ → ℕ → EReal) (B3 B4 B5 : ℕ → EReal)

/-- The third call's result array, image `n`, channel `k`, position `p` of the 6 × 6. -/
theorem arr2
    (hX : ∀ n i j k, n < 128 → i < 16 → j < 16 → k < 256 →
      A4 (a := 128) (b := 16) (c := 16) (d := 256) (V c main_v34) n i j k = padS 1 (X n) k i j)
    (h3 : ∀ i q k o, i < 3 → q < 3 → k < 256 → o < 384 → A3 (a := 3) (b := 768) (c := 384) (V c main_v37) i (q * 256 + k) o = W3 o k i q)
    (h4 : ∀ i q k o, i < 3 → q < 3 → k < 384 → o < 384 → A3 (a := 3) (b := 1152) (c := 384) (V c main_v40) i (q * 384 + k) o = W4 o k i q)
    (h5 : ∀ i q k o, i < 3 → q < 3 → k < 384 → o < 256 → A3 (a := 3) (b := 1152) (c := 256) (V c main_v43) i (q * 384 + k) o = W5 o k i q)
    (hb3 : ∀ o, o < 384 → A2 (a := 1) (b := 384) (V c main_v44) 0 o = B3 o)
    (hb4 : ∀ o, o < 384 → A2 (a := 1) (b := 384) (V c main_v45) 0 o = B4 o)
    (hb5 : ∀ o, o < 256 → A2 (a := 1) (b := 256) (V c main_v46) 0 o = B5 o)
    {n k p : ℕ} (hn : n < 128) (hk : k < 256) (hp : p < 36) :
    A3 (a := 128) (b := 256) (c := 36) ((dat2 V c).arrAt 7 cfg2.N) n k p = stageC (X n) W3 W4 W5 B3 B4 B5 k (p / 6) (p % 6) := by
  have h := (dat2 V c).arrAt_forall_of_cover 7
    (fun (x : S128x256x36.Idx) (v : EReal) => v = stageC (X (x 0).val) W3 W4 W5 B3 B4 B5 (x 1).val ((x 2).val / 6) ((x 2).val % 6)) ?_ ?_
    (ix3 (⟨n, hn⟩ : Fin 128) (⟨k, hk⟩ : Fin 256) (⟨p, hp⟩ : Fin 36))
  · rw [A3_pos _ hn hk hp]; exact h
  · intro t _ y
    have e := (idx2 t).2.2.2.2.2.2.2
    have ht : t.val < 32 := t.isLt.trans_eq N_2
    have y0 : (y 0).val < 4 := (y 0).isLt
    have y1 : (y 1).val < 256 := (y 1).isLt
    have y2 : (y 2).val < 36 := (y 2).isLt
    have e0 : (((cfg2.win 7).blk t).view.emb y 0).val = t.val * 4 + (y 0).val := by
      show win2_7.index t 0 * 4 + 1 * (y 0).val = _; rw [e.1]; omega
    have e1 : (((cfg2.win 7).blk t).view.emb y 1).val = (y 1).val := by
      show win2_7.index t 1 * 256 + 1 * (y 1).val = _; rw [e.2.1]; omega
    have e2 : (((cfg2.win 7).blk t).view.emb y 2).val = (y 2).val := by
      show win2_7.index t 2 * 36 + 1 * (y 2).val = _; rw [e.2.2]; omega
    show (dat2 V c).after 7 t y = stageC (X _) W3 W4 W5 B3 B4 B5 _ _ _
    rw [e0, e1, e2, after2_7, blk2_1, blk2_2, blk2_3, blk2_4, blk2_5, blk2_6]
    refine Eq.trans ?_ (out2_at (iblk2 V c 0 t) (V c main_v37) (V c main_v44) (V c main_v40) (V c main_v45) (V c main_v43) (V c main_v46)
      (fun n => X (t.val * 4 + n)) W3 W4 W5 B3 B4 B5
      (fun n i j k h0 h1 h2 h3 => (blk2_0 V c t h0 h1 h2 h3).trans (hX _ i j k (by omega) h1 h2 h3))
      h3 h4 h5 hb3 hb4 hb5 y0 y1 y2)
    rw [A3_pos _ y0 y1 y2]
    refine congrArg _ (funext fun a => Fin.ext ?_)
    match a with
    | ⟨0, _⟩ => rfl
    | ⟨1, _⟩ => rfl
    | ⟨2, _⟩ => rfl
  · intro x
    have x0 : (x 0).val < 128 := (x 0).isLt
    have x1 : (x 1).val < 256 := (x 1).isLt
    have x2 : (x 2).val < 36 := (x 2).isLt
    let t : Fin cfg2.N := ⟨(x 0).val / 4, (show (x 0).val / 4 < 32 by omega).trans_eq N_2.symm⟩
    have et : t.val = (x 0).val / 4 := rfl
    have e := (idx2 t).2.2.2.2.2.2.2
    refine ⟨t, flush2_7 t, ?_⟩
    show x ∈ ((View.whole main_v47).slice (win2_7.rect t)).set
    rw [View.set_slice_whole, Rect.mem_set_unit]
    intro a
    match a with
    | ⟨0, _⟩ => show win2_7.index t 0 * 4 ≤ (x 0).val ∧ (x 0).val < win2_7.index t 0 * 4 + 4
                rw [e.1]; omega
    | ⟨1, _⟩ => show win2_7.index t 1 * 256 ≤ (x 1).val ∧ (x 1).val < win2_7.index t 1 * 256 + 256
                rw [e.2.1]; omega
    | ⟨2, _⟩ => show win2_7.index t 2 * 36 ≤ (x 2).val ∧ (x 2).val < win2_7.index t 2 * 36 + 36
                rw [e.2.2]; omega

end Cert.Net
-- ==== Proof.BlkFc.lean ====
/-
  THE DENSE LAYERS' BLOCKS: what one grid point of each of the last three calls computes.
-/
module

public import proofs.«01_k».proof.Proof.BlkB

@[expose] public section

noncomputable section

open scoped BigOperators

namespace Cert.Net

open Idealize.ShloMosaic Cert.KernelIdeal Cert.KernelIdeal.Gen

/-- Two zero offsets are the zero offset. -/
theorem zero2 : (![0, 0] : Fin 2 → ℕ) = fun _ => 0 := by
  funext a
  fin_cases a <;> rfl

/-- The dense product of these extents sums over the columns of both operands. -/
theorem mmt_9216_512 : IsMMt dot_S128x9216_S512x9216_S128x512_1_1_0_0_n_n := by
  intro l r z i j
  simp only [pointwise]

/-- The operations of dense layer `1`. -/
def okFc3 : FcOk 128 9216 512 where
  xs := shapeCasts_S128x9216_S128x9216
  d := dot_S128x9216_S512x9216_S128x512_1_1_0_0_n_n
  hd := mmt_9216_512
  bs := shapeCasts_S1x512_S1x512
  bb := broadcasts_S1x512_S128x512

/-- The first dense call stores one block: the layer of what it loads. -/
theorem out3_eq (x0 : Vec Ideal S128x9216 .f32) (x1 : Vec Ideal S512x9216 .f32) (x2 : Vec Ideal S1x512 .f32) :
    out3_3 (F := Ideal) x0 x1 x2 = View.canon [⟨r3_3, fcV okFc3 (View.ld x0 r3_0) (View.ld x1 r3_1) (View.ld x2 r3_2)⟩] := rfl

/-- The block of dense layer `1`. -/
theorem out3_at (x0 : Vec Ideal S128x9216 .f32) (x1 : Vec Ideal S512x9216 .f32) (x2 : Vec Ideal S1x512 .f32) {i j : ℕ} (hi : i < 128)
    (hj : j < 512) : A2 (out3_3 (F := Ideal) x0 x1 x2) i j = fcS 9216 (A2 x0 i) (A2 x1) (A2 x2 0) j := by
  have e0 : View.ld (Val := Elt Ideal) (e' := EltTy.f32) x0 r3_0 = x0 := View.ld_unit_zero zero2 _ _
  have e1 : View.ld (Val := Elt Ideal) (e' := EltTy.f32) x1 r3_1 = x1 := View.ld_unit_zero zero2 _ _
  have e2 : View.ld (Val := Elt Ideal) (e' := EltTy.f32) x2 r3_2 = x2 := View.ld_unit_zero zero2 _ _
  have e := fcV_eq okFc3 x0 x1 x2 hi hj
  rw [← e, out3_eq, e0, e1, e2, A2_pos _ hi hj, A2_pos _ hi hj]
  exact congrFun (View.canon_unit_zero (S := S128x512) (e := EltTy.f32) (Val := Elt Ideal) zero2 _ _) _

/-- The dense product of these extents sums over the columns of both operands. -/
theorem mmt_4096_512 : IsMMt dot_S128x4096_S512x4096_S128x512_1_1_0_0_n_n := by
  intro l r z i j
  simp only [pointwise]

/-- The operations of dense layer `2`. -/
def okFc4 : FcOk 128 4096 512 where
  xs := shapeCasts_S128x4096_S128x4096
  d := dot_S128x4096_S512x4096_S128x512_1_1_0_0_n_n
  hd := mmt_4096_512
  bs := shapeCasts_S1x512_S1x512
  bb := broadcasts_S1x512_S128x512

/-- The second dense call stores one block: the layer of what it loads. -/
theorem out4_eq (x0 : Vec Ideal S128x4096 .f32) (x1 : Vec Ideal S512x4096 .f32) (x2 : Vec Ideal S1x512 .f32) :
    out4_3 (F := Ideal) x0 x1 x2 = View.canon [⟨r4_3, fcV okFc4 (View.ld x0 r4_0) (View.ld x1 r4_1) (View.ld x2 r4_2)⟩] := rfl

/-- The block of dense layer `2`. -/
theorem out4_at (x0 : Vec Ideal S128x4096 .f32) (x1 : Vec Ideal S512x4096 .f32) (x2 : Vec Ideal S1x512 .f32) {i j : ℕ} (hi : i < 128)
    (hj : j < 512) : A2 (out4_3 (F := Ideal) x0 x1 x2) i j = fcS 4096 (A2 x0 i) (A2 x1) (A2 x2 0) j := by
  have e0 : View.ld (Val := Elt Ideal) (e' := EltTy.f32) x0 r4_0 = x0 := View.ld_unit_zero zero2 _ _
  have e1 : View.ld (Val := Elt Ideal) (e' := EltTy.f32) x1 r4_1 = x1 := View.ld_unit_zero zero2 _ _
  have e2 : View.ld (Val := Elt Ideal) (e' := EltTy.f32) x2 r4_2 = x2 := View.ld_unit_zero zero2 _ _
  have e := fcV_eq okFc4 x0 x1 x2 hi hj
  rw [← e, out4_eq, e0, e1, e2, A2_pos _ hi hj, A2_pos _ hi hj]
  exact congrFun (View.canon_unit_zero (S := S128x512) (e := EltTy.f32) (Val := Elt Ideal) zero2 _ _) _

/-- The dense product of these extents sums over the columns of both operands. -/
theorem mmt_4096_1000 : IsMMt dot_S128x4096_S1000x4096_S128x1000_1_1_0_0_n_n := by
  intro l r z i j
  simp only [pointwise]

/-- The operations of dense layer `3`. -/
def okFc5 : FcOk 128 4096 1000 where
  xs := shapeCasts_S128x4096_S128x4096
  d := dot_S128x4096_S1000x4096_S128x1000_1_1_0_0_n_n
  hd := mmt_4096_1000
  bs := shapeCasts_S1x1000_S1x1000
  bb := broadcasts_S1x1000_S128x1000

/-- The third dense call stores one block: the layer of what it loads. -/
theorem out5_eq (x0 : Vec Ideal S128x4096 .f32) (x1 : Vec Ideal S1000x4096 .f32) (x2 : Vec Ideal S1x1000 .f32) :
    out5_3 (F := Ideal) x0 x1 x2 = View.canon [⟨r5_3, fcV okFc5 (View.ld x0 r5_0) (View.ld x1 r5_1) (View.ld x2 r5_2)⟩] := rfl

/-- The block of dense layer `3`. -/
theorem out5_at (x0 : Vec Ideal S128x4096 .f32) (x1 : Vec Ideal S1000x4096 .f32) (x2 : Vec Ideal S1x1000 .f32) {i j : ℕ} (hi : i < 128)
    (hj : j < 1000) : A2 (out5_3 (F := Ideal) x0 x1 x2) i j = fcS 4096 (A2 x0 i) (A2 x1) (A2 x2 0) j := by
  have e0 : View.ld (Val := Elt Ideal) (e' := EltTy.f32) x0 r5_0 = x0 := View.ld_unit_zero zero2 _ _
  have e1 : View.ld (Val := Elt Ideal) (e' := EltTy.f32) x1 r5_1 = x1 := View.ld_unit_zero zero2 _ _
  have e2 : View.ld (Val := Elt Ideal) (e' := EltTy.f32) x2 r5_2 = x2 := View.ld_unit_zero zero2 _ _
  have e := fcV_eq okFc5 x0 x1 x2 hi hj
  rw [← e, out5_eq, e0, e1, e2, A2_pos _ hi hj, A2_pos _ hi hj]
  exact congrFun (View.canon_unit_zero (S := S128x1000) (e := EltTy.f32) (Val := Elt Ideal) zero2 _ _) _

end Cert.Net
-- ==== Proof.RdFc.lean ====
/-
  WHAT THE FULLY CONNECTED CALLS LEAVE: the result array of each of the last three.
-/
module

public import proofs.«01_k».proof.Proof.BlkFc

@[expose] public section

noncomputable section

open scoped BigOperators

namespace Cert.Net

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b)) (c : Dev nD)

/-- Where the blocks of each window lie at a grid point. -/
theorem idx3 : ∀ t : Fin cfg3.N,
    (win3_0.index t 0 = 0 ∧ win3_0.index t 1 = 0)
    ∧ (win3_1.index t 0 = t.val ∧ win3_1.index t 1 = 0)
    ∧ (win3_2.index t 0 = 0 ∧ win3_2.index t 1 = t.val)
    ∧ (win3_3.index t 0 = 0 ∧ win3_3.index t 1 = t.val) := by
  decide +kernel

/-- The whole array is one block at every grid point. -/
theorem blk3_0 (t : Fin cfg3.N) : iblk3 V c 0 t = V c main_v49 := by
  funext y
  unfold iblk3
  rw [View.read_apply]
  show V c main_v49 _ = V c main_v49 _
  refine congrArg (V c main_v49) (funext fun a => Fin.ext ?_)
  have e := (idx3 t).1
  match a with
  | ⟨0, _⟩ => show win3_0.index t 0 * 128 + 1 * (y 0).val = (y 0).val; rw [e.1]; omega
  | ⟨1, _⟩ => show win3_0.index t 1 * 9216 + 1 * (y 1).val = (y 1).val; rw [e.2]; omega

/-- One block of the array, at coordinates. -/
theorem blk3_1 (t : Fin cfg3.N) {i j : ℕ} (hi : i < 512) (hj : j < 9216) :
    A2 (a := 512) (b := 9216) (iblk3 V c 1 t) i j = A2 (a := 4096) (b := 9216) (V c main_arg11) (t.val * 512 + i) j := by
  have ht : t.val < 8 := t.isLt.trans_eq N_3
  rw [A2_pos _ hi hj, A2_pos _ (by omega) hj]
  unfold iblk3
  rw [View.read_apply]
  show V c main_arg11 _ = V c main_arg11 _
  refine congrArg (V c main_arg11) (funext fun a => Fin.ext ?_)
  have e := (idx3 t).2.1
  match a with
  | ⟨0, _⟩ => show win3_1.index t 0 * 512 + 1 * i = t.val * 512 + i; rw [e.1]; omega
  | ⟨1, _⟩ => show win3_1.index t 1 * 9216 + 1 * j = j; rw [e.2]; omega

/-- One block of the array, at coordinates. -/
theorem blk3_2 (t : Fin cfg3.N) {i j : ℕ} (hi : i < 1) (hj : j < 512) :
    A2 (a := 1) (b := 512) (iblk3 V c 2 t) i j = A2 (a := 1) (b := 4096) (V c main_v50) i (t.val * 512 + j) := by
  have ht : t.val < 8 := t.isLt.trans_eq N_3
  rw [A2_pos _ hi hj, A2_pos _ hi (by omega)]
  unfold iblk3
  rw [View.read_apply]
  show V c main_v50 _ = V c main_v50 _
  refine congrArg (V c main_v50) (funext fun a => Fin.ext ?_)
  have e := (idx3 t).2.2.1
  match a with
  | ⟨0, _⟩ => show win3_2.index t 0 * 1 + 1 * i = i; rw [e.1]; omega
  | ⟨1, _⟩ => show win3_2.index t 1 * 512 + 1 * j = t.val * 512 + j; rw [e.2]; omega

/-- One entry of the result is the weighted sum of the row, plus the bias, cut below at zero. -/
theorem arr3 {n m : ℕ} (hn : n < 128) (hm : m < 4096) :
    A2 (a := 128) (b := 4096) ((dat3 V c).arrAt 3 cfg3.N) n m
      = fcS 9216 (A2 (a := 128) (b := 9216) (V c main_v49) n) (A2 (a := 4096) (b := 9216) (V c main_arg11)) (A2 (a := 1) (b := 4096) (V c main_v50) 0) m := by
  have h := (dat3 V c).arrAt_forall_of_cover 3
    (fun (x : S128x4096.Idx) (v : EReal) => v = fcS 9216 (A2 (a := 128) (b := 9216) (V c main_v49) (x 0).val) (A2 (a := 4096) (b := 9216) (V c main_arg11)) (A2 (a := 1) (b := 4096) (V c main_v50) 0) (x 1).val) ?_ ?_
    (ix2 (⟨n, hn⟩ : Fin 128) (⟨m, hm⟩ : Fin 4096))
  · rw [A2_pos _ hn hm]; exact h
  · intro t _ y
    have e := (idx3 t).2.2.2
    have ht : t.val < 8 := t.isLt.trans_eq N_3
    have y0 : (y 0).val < 128 := (y 0).isLt
    have y1 : (y 1).val < 512 := (y 1).isLt
    have e0 : (((cfg3.win 3).blk t).view.emb y 0).val = (y 0).val := by
      show win3_3.index t 0 * 128 + 1 * (y 0).val = _; rw [e.1]; omega
    have e1 : (((cfg3.win 3).blk t).view.emb y 1).val = t.val * 512 + (y 1).val := by
      show win3_3.index t 1 * 512 + 1 * (y 1).val = _; rw [e.2]; omega
    show (dat3 V c).after 3 t y = fcS 9216 (A2 (a := 128) (b := 9216) (V c main_v49) _) _ _ _
    rw [e0, e1, after3_3, blk3_0]
    refine Eq.trans ?_ ((out3_at (V c main_v49) (iblk3 V c 1 t) (iblk3 V c 2 t) y0 y1).trans ?_)
    · rw [A2_pos _ y0 y1]
      refine congrArg _ (funext fun a => Fin.ext ?_)
      match a with
      | ⟨0, _⟩ => rfl
      | ⟨1, _⟩ => rfl
    · refine congrArg (max · 0) (congrArg₂ (· + ·) (Finset.sum_congr rfl fun k hk => ?_) (blk3_2 V c t Nat.one_pos y1))
      exact congrArg (_ * ·) (blk3_1 V c t y1 (Finset.mem_range.mp hk))
  · intro x
    have x0 : (x 0).val < 128 := (x 0).isLt
    have x1 : (x 1).val < 4096 := (x 1).isLt
    let t : Fin cfg3.N := ⟨(x 1).val / 512, (show (x 1).val / 512 < 8 by omega).trans_eq N_3.symm⟩
    have et : t.val = (x 1).val / 512 := rfl
    have e := (idx3 t).2.2.2
    refine ⟨t, flush3_3 t, ?_⟩
    show x ∈ ((View.whole main_v51).slice (win3_3.rect t)).set
    rw [View.set_slice_whole, Rect.mem_set_unit]
    intro a
    match a with
    | ⟨0, _⟩ => show win3_3.index t 0 * 128 ≤ (x 0).val ∧ (x 0).val < win3_3.index t 0 * 128 + 128
                rw [e.1]; omega
    | ⟨1, _⟩ => show win3_3.index t 1 * 512 ≤ (x 1).val ∧ (x 1).val < win3_3.index t 1 * 512 + 512
                rw [e.2]; omega

/-- Where the blocks of each window lie at a grid point. -/
theorem idx4 : ∀ t : Fin cfg4.N,
    (win4_0.index t 0 = 0 ∧ win4_0.index t 1 = 0)
    ∧ (win4_1.index t 0 = t.val ∧ win4_1.index t 1 = 0)
    ∧ (win4_2.index t 0 = 0 ∧ win4_2.index t 1 = t.val)
    ∧ (win4_3.index t 0 = 0 ∧ win4_3.index t 1 = t.val) := by
  decide +kernel

/-- The whole array is one block at every grid point. -/
theorem blk4_0 (t : Fin cfg4.N) : iblk4 V c 0 t = V c main_v51 := by
  funext y
  unfold iblk4
  rw [View.read_apply]
  show V c main_v51 _ = V c main_v51 _
  refine congrArg (V c main_v51) (funext fun a => Fin.ext ?_)
  have e := (idx4 t).1
  match a with
  | ⟨0, _⟩ => show win4_0.index t 0 * 128 + 1 * (y 0).val = (y 0).val; rw [e.1]; omega
  | ⟨1, _⟩ => show win4_0.index t 1 * 4096 + 1 * (y 1).val = (y 1).val; rw [e.2]; omega

/-- One block of the array, at coordinates. -/
theorem blk4_1 (t : Fin cfg4.N) {i j : ℕ} (hi : i < 512) (hj : j < 4096) :
    A2 (a := 512) (b := 4096) (iblk4 V c 1 t) i j = A2 (a := 4096) (b := 4096) (V c main_arg13) (t.val * 512 + i) j := by
  have ht : t.val < 8 := t.isLt.trans_eq N_4
  rw [A2_pos _ hi hj, A2_pos _ (by omega) hj]
  unfold iblk4
  rw [View.read_apply]
  show V c main_arg13 _ = V c main_arg13 _
  refine congrArg (V c main_arg13) (funext fun a => Fin.ext ?_)
  have e := (idx4 t).2.1
  match a with
  | ⟨0, _⟩ => show win4_1.index t 0 * 512 + 1 * i = t.val * 512 + i; rw [e.1]; omega
  | ⟨1, _⟩ => show win4_1.index t 1 * 4096 + 1 * j = j; rw [e.2]; omega

/-- One block of the array, at coordinates. -/
theorem blk4_2 (t : Fin cfg4.N) {i j : ℕ} (hi : i < 1) (hj : j < 512) :
    A2 (a := 1) (b := 512) (iblk4 V c 2 t) i j = A2 (a := 1) (b := 4096) (V c main_v52) i (t.val * 512 + j) := by
  have ht : t.val < 8 := t.isLt.trans_eq N_4
  rw [A2_pos _ hi hj, A2_pos _ hi (by omega)]
  unfold iblk4
  rw [View.read_apply]
  show V c main_v52 _ = V c main_v52 _
  refine congrArg (V c main_v52) (funext fun a => Fin.ext ?_)
  have e := (idx4 t).2.2.1
  match a with
  | ⟨0, _⟩ => show win4_2.index t 0 * 1 + 1 * i = i; rw [e.1]; omega
  | ⟨1, _⟩ => show win4_2.index t 1 * 512 + 1 * j = t.val * 512 + j; rw [e.2]; omega

/-- One entry of the result is the weighted sum of the row, plus the bias, cut below at zero. -/
theorem arr4 {n m : ℕ} (hn : n < 128) (hm : m < 4096) :
    A2 (a := 128) (b := 4096) ((dat4 V c).arrAt 3 cfg4.N) n m
      = fcS 4096 (A2 (a := 128) (b := 4096) (V c main_v51) n) (A2 (a := 4096) (b := 4096) (V c main_arg13)) (A2 (a := 1) (b := 4096) (V c main_v52) 0) m := by
  have h := (dat4 V c).arrAt_forall_of_cover 3
    (fun (x : S128x4096.Idx) (v : EReal) => v = fcS 4096 (A2 (a := 128) (b := 4096) (V c main_v51) (x 0).val) (A2 (a := 4096) (b := 4096) (V c main_arg13)) (A2 (a := 1) (b := 4096) (V c main_v52) 0) (x 1).val) ?_ ?_
    (ix2 (⟨n, hn⟩ : Fin 128) (⟨m, hm⟩ : Fin 4096))
  · rw [A2_pos _ hn hm]; exact h
  · intro t _ y
    have e := (idx4 t).2.2.2
    have ht : t.val < 8 := t.isLt.trans_eq N_4
    have y0 : (y 0).val < 128 := (y 0).isLt
    have y1 : (y 1).val < 512 := (y 1).isLt
    have e0 : (((cfg4.win 3).blk t).view.emb y 0).val = (y 0).val := by
      show win4_3.index t 0 * 128 + 1 * (y 0).val = _; rw [e.1]; omega
    have e1 : (((cfg4.win 3).blk t).view.emb y 1).val = t.val * 512 + (y 1).val := by
      show win4_3.index t 1 * 512 + 1 * (y 1).val = _; rw [e.2]; omega
    show (dat4 V c).after 3 t y = fcS 4096 (A2 (a := 128) (b := 4096) (V c main_v51) _) _ _ _
    rw [e0, e1, after4_3, blk4_0]
    refine Eq.trans ?_ ((out4_at (V c main_v51) (iblk4 V c 1 t) (iblk4 V c 2 t) y0 y1).trans ?_)
    · rw [A2_pos _ y0 y1]
      refine congrArg _ (funext fun a => Fin.ext ?_)
      match a with
      | ⟨0, _⟩ => rfl
      | ⟨1, _⟩ => rfl
    · refine congrArg (max · 0) (congrArg₂ (· + ·) (Finset.sum_congr rfl fun k hk => ?_) (blk4_2 V c t Nat.one_pos y1))
      exact congrArg (_ * ·) (blk4_1 V c t y1 (Finset.mem_range.mp hk))
  · intro x
    have x0 : (x 0).val < 128 := (x 0).isLt
    have x1 : (x 1).val < 4096 := (x 1).isLt
    let t : Fin cfg4.N := ⟨(x 1).val / 512, (show (x 1).val / 512 < 8 by omega).trans_eq N_4.symm⟩
    have et : t.val = (x 1).val / 512 := rfl
    have e := (idx4 t).2.2.2
    refine ⟨t, flush4_3 t, ?_⟩
    show x ∈ ((View.whole main_v53).slice (win4_3.rect t)).set
    rw [View.set_slice_whole, Rect.mem_set_unit]
    intro a
    match a with
    | ⟨0, _⟩ => show win4_3.index t 0 * 128 ≤ (x 0).val ∧ (x 0).val < win4_3.index t 0 * 128 + 128
                rw [e.1]; omega
    | ⟨1, _⟩ => show win4_3.index t 1 * 512 ≤ (x 1).val ∧ (x 1).val < win4_3.index t 1 * 512 + 512
                rw [e.2]; omega

/-- Where the blocks of each window lie at a grid point. -/
theorem idx5 : ∀ t : Fin cfg5.N,
    (win5_0.index t 0 = 0 ∧ win5_0.index t 1 = 0)
    ∧ (win5_1.index t 0 = t.val ∧ win5_1.index t 1 = 0)
    ∧ (win5_2.index t 0 = 0 ∧ win5_2.index t 1 = t.val)
    ∧ (win5_3.index t 0 = 0 ∧ win5_3.index t 1 = t.val) := by
  decide +kernel

/-- The whole array is one block at every grid point. -/
theorem blk5_0 (t : Fin cfg5.N) : iblk5 V c 0 t = V c main_v53 := by
  funext y
  unfold iblk5
  rw [View.read_apply]
  show V c main_v53 _ = V c main_v53 _
  refine congrArg (V c main_v53) (funext fun a => Fin.ext ?_)
  have e := (idx5 t).1
  match a with
  | ⟨0, _⟩ => show win5_0.index t 0 * 128 + 1 * (y 0).val = (y 0).val; rw [e.1]; omega
  | ⟨1, _⟩ => show win5_0.index t 1 * 4096 + 1 * (y 1).val = (y 1).val; rw [e.2]; omega

/-- One block of the array, at coordinates. -/
theorem blk5_1 (t : Fin cfg5.N) {i j : ℕ} (hi : i < 1000) (hj : j < 4096) :
    A2 (a := 1000) (b := 4096) (iblk5 V c 1 t) i j = A2 (a := 1000) (b := 4096) (V c main_arg15) (t.val * 1000 + i) j := by
  have ht : t.val < 1 := t.isLt.trans_eq N_5
  rw [A2_pos _ hi hj, A2_pos _ (by omega) hj]
  unfold iblk5
  rw [View.read_apply]
  show V c main_arg15 _ = V c main_arg15 _
  refine congrArg (V c main_arg15) (funext fun a => Fin.ext ?_)
  have e := (idx5 t).2.1
  match a with
  | ⟨0, _⟩ => show win5_1.index t 0 * 1000 + 1 * i = t.val * 1000 + i; rw [e.1]; omega
  | ⟨1, _⟩ => show win5_1.index t 1 * 4096 + 1 * j = j; rw [e.2]; omega

/-- One block of the array, at coordinates. -/
theorem blk5_2 (t : Fin cfg5.N) {i j : ℕ} (hi : i < 1) (hj : j < 1000) :
    A2 (a := 1) (b := 1000) (iblk5 V c 2 t) i j = A2 (a := 1) (b := 1000) (V c main_v54) i (t.val * 1000 + j) := by
  have ht : t.val < 1 := t.isLt.trans_eq N_5
  rw [A2_pos _ hi hj, A2_pos _ hi (by omega)]
  unfold iblk5
  rw [View.read_apply]
  show V c main_v54 _ = V c main_v54 _
  refine congrArg (V c main_v54) (funext fun a => Fin.ext ?_)
  have e := (idx5 t).2.2.1
  match a with
  | ⟨0, _⟩ => show win5_2.index t 0 * 1 + 1 * i = i; rw [e.1]; omega
  | ⟨1, _⟩ => show win5_2.index t 1 * 1000 + 1 * j = t.val * 1000 + j; rw [e.2]; omega

/-- One entry of the result is the weighted sum of the row, plus the bias, cut below at zero. -/
theorem arr5 {n m : ℕ} (hn : n < 128) (hm : m < 1000) :
    A2 (a := 128) (b := 1000) ((dat5 V c).arrAt 3 cfg5.N) n m
      = fcS 4096 (A2 (a := 128) (b := 4096) (V c main_v53) n) (A2 (a := 1000) (b := 4096) (V c main_arg15)) (A2 (a := 1) (b := 1000) (V c main_v54) 0) m := by
  have h := (dat5 V c).arrAt_forall_of_cover 3
    (fun (x : S128x1000.Idx) (v : EReal) => v = fcS 4096 (A2 (a := 128) (b := 4096) (V c main_v53) (x 0).val) (A2 (a := 1000) (b := 4096) (V c main_arg15)) (A2 (a := 1) (b := 1000) (V c main_v54) 0) (x 1).val) ?_ ?_
    (ix2 (⟨n, hn⟩ : Fin 128) (⟨m, hm⟩ : Fin 1000))
  · rw [A2_pos _ hn hm]; exact h
  · intro t _ y
    have e := (idx5 t).2.2.2
    have ht : t.val < 1 := t.isLt.trans_eq N_5
    have y0 : (y 0).val < 128 := (y 0).isLt
    have y1 : (y 1).val < 1000 := (y 1).isLt
    have e0 : (((cfg5.win 3).blk t).view.emb y 0).val = (y 0).val := by
      show win5_3.index t 0 * 128 + 1 * (y 0).val = _; rw [e.1]; omega
    have e1 : (((cfg5.win 3).blk t).view.emb y 1).val = t.val * 1000 + (y 1).val := by
      show win5_3.index t 1 * 1000 + 1 * (y 1).val = _; rw [e.2]; omega
    show (dat5 V c).after 3 t y = fcS 4096 (A2 (a := 128) (b := 4096) (V c main_v53) _) _ _ _
    rw [e0, e1, after5_3, blk5_0]
    refine Eq.trans ?_ ((out5_at (V c main_v53) (iblk5 V c 1 t) (iblk5 V c 2 t) y0 y1).trans ?_)
    · rw [A2_pos _ y0 y1]
      refine congrArg _ (funext fun a => Fin.ext ?_)
      match a with
      | ⟨0, _⟩ => rfl
      | ⟨1, _⟩ => rfl
    · refine congrArg (max · 0) (congrArg₂ (· + ·) (Finset.sum_congr rfl fun k hk => ?_) (blk5_2 V c t Nat.one_pos y1))
      exact congrArg (_ * ·) (blk5_1 V c t y1 (Finset.mem_range.mp hk))
  · intro x
    have x0 : (x 0).val < 128 := (x 0).isLt
    have x1 : (x 1).val < 1000 := (x 1).isLt
    let t : Fin cfg5.N := ⟨(x 1).val / 1000, (show (x 1).val / 1000 < 1 by omega).trans_eq N_5.symm⟩
    have et : t.val = (x 1).val / 1000 := rfl
    have e := (idx5 t).2.2.2
    refine ⟨t, flush5_3 t, ?_⟩
    show x ∈ ((View.whole main_v55).slice (win5_3.rect t)).set
    rw [View.set_slice_whole, Rect.mem_set_unit]
    intro a
    match a with
    | ⟨0, _⟩ => show win5_3.index t 0 * 128 ≤ (x 0).val ∧ (x 0).val < win5_3.index t 0 * 128 + 128
                rw [e.1]; omega
    | ⟨1, _⟩ => show win5_3.index t 1 * 1000 ≤ (x 1).val ∧ (x 1).val < win5_3.index t 1 * 1000 + 1000
                rw [e.2]; omega

end Cert.Net
-- ==== Proof.KVal.lean ====
/-
  WHAT THE KERNEL LEAVES: the whole network at every image, from the seventeen arguments.
-/
module

public import proofs.«01_k».proof.Proof.HostB
public import proofs.«01_k».proof.Proof.Rd0
public import proofs.«01_k».proof.Proof.Rd1
public import proofs.«01_k».proof.Proof.Rd2
public import proofs.«01_k».proof.Proof.RdFc

@[expose] public section

set_option maxRecDepth 16384

noncomputable section

open scoped BigOperators

namespace Cert.Net

open Idealize.ShloMosaic Idealize.ShloMosaic.TcCoe Cert.KernelIdeal Cert.KernelIdeal.Gen

/-- The features of one image in one row. -/
def featS (X : ℕ → ℕ → ℕ → EReal) (W1 : ℕ → ℕ → ℕ → ℕ → EReal) (b1 : ℕ → EReal) (W2 : ℕ → ℕ → ℕ → ℕ → EReal) (b2 : ℕ → EReal)
    (W3 : ℕ → ℕ → ℕ → ℕ → EReal) (b3 : ℕ → EReal) (W4 : ℕ → ℕ → ℕ → ℕ → EReal) (b4 : ℕ → EReal) (W5 : ℕ → ℕ → ℕ → ℕ → EReal)
    (b5 : ℕ → EReal) (q : ℕ) : EReal :=
  stageC (L2 (L1 X W1 b1) W2 b2) W3 W4 W5 b3 b4 b5 (q / 36) (q % 36 / 6) (q % 36 % 6)

/-- The three fully connected layers. -/
def headS (x : ℕ → EReal) (F1 : ℕ → ℕ → EReal) (c1 : ℕ → EReal) (F2 : ℕ → ℕ → EReal) (c2 : ℕ → EReal) (F3 : ℕ → ℕ → EReal)
    (c3 : ℕ → EReal) : ℕ → EReal :=
  fcS 4096 (fcS 4096 (fcS 9216 x F1 c1) F2 c2) F3 c3

/-- A dense layer depends on its input's first `K` values and one bias only. -/
theorem fcS_congr {K : ℕ} {x y : ℕ → EReal} {W : ℕ → ℕ → EReal} {b b' : ℕ → EReal} {m : ℕ} (h : ∀ k, k < K → x k = y k) (hb : b m = b' m) :
    fcS K x W b m = fcS K y W b' m := by
  unfold fcS
  rw [hb]
  refine congrArg (fun s => max (s + b' m) 0) (Finset.sum_congr rfl fun k hk => ?_)
  rw [h k (Finset.mem_range.mp hk)]

section KV
variable (m : (ℓ : Loc nD τ sig) → Buf (Elt Ideal) ℓ) (ρ : Dev nD → PrngReg) (c : Dev nD)

/-- The arguments read at coordinates. -/
abbrev kX (n : ℕ) := A4 (a := 128) (b := 3) (c := 224) (d := 224) (m ((c : Thread nD τ).loc main_arg0)) n
/-- The filters of the first convolution. -/
abbrev kW1 := A4 (a := 96) (b := 3) (c := 11) (d := 11) (m ((c : Thread nD τ).loc main_arg1))
/-- The bias of the first convolution. -/
abbrev kb1 := A1 (a := 96) (m ((c : Thread nD τ).loc main_arg2))
/-- The filters of the second convolution. -/
abbrev kW2 := A4 (a := 256) (b := 96) (c := 5) (d := 5) (m ((c : Thread nD τ).loc main_arg3))
/-- The bias of the second convolution. -/
abbrev kb2 := A1 (a := 256) (m ((c : Thread nD τ).loc main_arg4))
/-- The filters of the third convolution. -/
abbrev kW3 := A4 (a := 384) (b := 256) (c := 3) (d := 3) (m ((c : Thread nD τ).loc main_arg5))
/-- The bias of the third convolution. -/
abbrev kb3 := A1 (a := 384) (m ((c : Thread nD τ).loc main_arg6))
/-- The filters of the fourth convolution. -/
abbrev kW4 := A4 (a := 384) (b := 384) (c := 3) (d := 3) (m ((c : Thread nD τ).loc main_arg7))
/-- The bias of the fourth convolution. -/
abbrev kb4 := A1 (a := 384) (m ((c : Thread nD τ).loc main_arg8))
/-- The filters of the fifth convolution. -/
abbrev kW5 := A4 (a := 256) (b := 384) (c := 3) (d := 3) (m ((c : Thread nD τ).loc main_arg9))
/-- The bias of the fifth convolution. -/
abbrev kb5 := A1 (a := 256) (m ((c : Thread nD τ).loc main_arg10))
/-- The weights of the first dense layer. -/
abbrev kF1 := A2 (a := 4096) (b := 9216) (m ((c : Thread nD τ).loc main_arg11))
/-- The bias of the first dense layer. -/
abbrev kc1 := A1 (a := 4096) (m ((c : Thread nD τ).loc main_arg12))
/-- The weights of the second dense layer. -/
abbrev kF2 := A2 (a := 4096) (b := 4096) (m ((c : Thread nD τ).loc main_arg13))
/-- The bias of the second dense layer. -/
abbrev kc2 := A1 (a := 4096) (m ((c : Thread nD τ).loc main_arg14))
/-- The weights of the third dense layer. -/
abbrev kF3 := A2 (a := 1000) (b := 4096) (m ((c : Thread nD τ).loc main_arg15))
/-- The bias of the third dense layer. -/
abbrev kc3 := A1 (a := 1000) (m ((c : Thread nD τ).loc main_arg16))

/-- After the first call: every image through the first stage. -/
theorem val21 {n i j k : ℕ} (hn : n < 128) (hi : i < 27) (hj : j < 27) (hk : k < 96) :
    A4 (a := 128) (b := 27) (c := 27) (d := 128) (V15 m ρ c main_v21) n i j k = L1 (kX m c n) (kW1 m c) (kb1 m c) k i j := by
  have e : V15 m ρ c main_v21 = (dat0 (V11 m ρ) c).arrAt 4 cfg0.N := (k_v21 m ρ c).trans (W12_arr m ρ c 4)
  rw [e]
  exact arr0 (V11 m ρ) c (kX m c) (kW1 m c) (kb1 m c)
    (fun n hr wr k h w h0 h1 h2 h3 h4 h5 => in0_x m ρ c h0 h1 h2 h3 h4 h5)
    (fun kh g wr k o h1 h2 h3 h4 h5 => in0_w m ρ c h1 h2 h3 h4 h5)
    (fun kh g q o h1 h2 h3 h4 h5 => in0_w0 m ρ c h1 h2 h3 h4 h5)
    (fun o h => in0_b m ρ c h) (fun i j hi hj => in0_g m ρ c hi hj) hn hi hj hk

/-- After the second call: every image through two stages, inside a border of zeros. -/
theorem val34 {n i j k : ℕ} (hn : n < 128) (hi : i < 16) (hj : j < 16) (hk : k < 256) :
    A4 (a := 128) (b := 16) (c := 16) (d := 256) (V17 m ρ c main_v34) n i j k
      = padS 1 (L2 (L1 (kX m c n) (kW1 m c) (kb1 m c)) (kW2 m c) (kb2 m c)) k i j := by
  have e : V17 m ρ c main_v34 = (dat1 (V15 m ρ) c).arrAt 4 cfg1.N := (k_v34 m ρ c).trans (W16_arr m ρ c 4)
  rw [e]
  exact arr1 (V15 m ρ) c (fun n => L1 (kX m c n) (kW1 m c) (kb1 m c)) (kW2 m c) (kb2 m c)
    (fun n i j k hn hi hj hk => val21 m ρ c hn hi hj hk)
    (fun n k i j h => if_neg fun h' => h h'.2)
    (fun i q k o h1 h2 h3 h4 => in1_w m ρ c h1 h2 h3 h4)
    (fun o h => in1_b m ρ c h) (fun i j hi hj => in1_g m ρ c hi hj) hn hi hj hk

/-- After the third call: every image's channels and positions through three stages. -/
theorem val47 {n k p : ℕ} (hn : n < 128) (hk : k < 256) (hp : p < 36) :
    A3 (a := 128) (b := 256) (c := 36) (W18 m ρ c (Proc.devRef .tc main_v47)) n k p
      = stageC (L2 (L1 (kX m c n) (kW1 m c) (kb1 m c)) (kW2 m c) (kb2 m c)) (kW3 m c) (kW4 m c) (kW5 m c) (kb3 m c) (kb4 m c) (kb5 m c)
          k (p / 6) (p % 6) := by
  have e : W18 m ρ c (Proc.devRef .tc main_v47) = (dat2 (V17 m ρ) c).arrAt 7 cfg2.N := W18_arr m ρ c 7
  rw [e]
  exact arr2 (V17 m ρ) c (fun n => L2 (L1 (kX m c n) (kW1 m c) (kb1 m c)) (kW2 m c) (kb2 m c)) (kW3 m c) (kW4 m c) (kW5 m c)
    (kb3 m c) (kb4 m c) (kb5 m c)
    (fun n i j k hn hi hj hk => val34 m ρ c hn hi hj hk)
    (fun i q k o h1 h2 h3 h4 => in2_w3 m ρ c h1 h2 h3 h4)
    (fun i q k o h1 h2 h3 h4 => in2_w4 m ρ c h1 h2 h3 h4)
    (fun i q k o h1 h2 h3 h4 => in2_w5 m ρ c h1 h2 h3 h4)
    (fun o h => in2_b3 m ρ c h) (fun o h => in2_b4 m ρ c h) (fun o h => in2_b5 m ρ c h) hn hk hp

/-- The features of image `n`, from the arguments. -/
abbrev kFeat (n : ℕ) : ℕ → EReal :=
  featS (kX m c n) (kW1 m c) (kb1 m c) (kW2 m c) (kb2 m c) (kW3 m c) (kb3 m c) (kW4 m c) (kb4 m c) (kW5 m c) (kb5 m c)

/-- The flattened features that the dense layers are given. -/
theorem val49 {n q : ℕ} (hn : n < 128) (hq : q < 9216) : A2 (a := 128) (b := 9216) (V19 m ρ c main_v49) n q = kFeat m c n q := by
  have h := (in3_x m ρ c hn (k := q / 36) (p := q % 36) (by omega) (by omega)).trans (val47 m ρ c hn (by omega) (by omega))
  rw [show q / 36 * 36 + q % 36 = q by omega] at h
  exact h

/-- After the fourth call: the first dense layer. -/
theorem val51 {n k : ℕ} (hn : n < 128) (hk : k < 4096) :
    A2 (a := 128) (b := 4096) (V21 m ρ c main_v51) n k = fcS 9216 (kFeat m c n) (kF1 m c) (kc1 m c) k := by
  have e : V21 m ρ c main_v51 = (dat3 (V19 m ρ) c).arrAt 3 cfg3.N := (k_v51 m ρ c).trans (W20_arr m ρ c 3)
  have ea : V19 m ρ c main_arg11 = m ((c : Thread nD τ).loc main_arg11) := W19_args m ρ c main_arg11 (by decide)
  rw [e, arr3 (V19 m ρ) c hn hk, ea]
  exact fcS_congr (fun q hq => val49 m ρ c hn hq) (in3_b m ρ c hk)

/-- After the fifth call: the second dense layer. -/
theorem val53 {n k : ℕ} (hn : n < 128) (hk : k < 4096) :
    A2 (a := 128) (b := 4096) (V23 m ρ c main_v53) n k = fcS 4096 (fcS 9216 (kFeat m c n) (kF1 m c) (kc1 m c)) (kF2 m c) (kc2 m c) k := by
  have e : V23 m ρ c main_v53 = (dat4 (V21 m ρ) c).arrAt 3 cfg4.N := (k_v53 m ρ c).trans (W22_arr m ρ c 3)
  have ea : V21 m ρ c main_arg13 = m ((c : Thread nD τ).loc main_arg13) := W21_args m ρ c main_arg13 (by decide)
  rw [e, arr4 (V21 m ρ) c hn hk, ea]
  exact fcS_congr (fun q hq => val51 m ρ c hn hq) (in4_b m ρ c hk)

/-- The kernel's result, image `n`, class `k`: the whole network. -/
theorem val55 {n k : ℕ} (hn : n < 128) (hk : k < 1000) :
    A2 (a := 128) (b := 1000) (W24 m ρ c (Proc.devRef .tc main_v55)) n k
      = headS (kFeat m c n) (kF1 m c) (kc1 m c) (kF2 m c) (kc2 m c) (kF3 m c) (kc3 m c) k := by
  have e : W24 m ρ c (Proc.devRef .tc main_v55) = (dat5 (V23 m ρ) c).arrAt 3 cfg5.N := W24_arr m ρ c 3
  have ea : V23 m ρ c main_arg15 = m ((c : Thread nD τ).loc main_arg15) := W23_args m ρ c main_arg15 (by decide)
  rw [e, arr5 (V23 m ρ) c hn hk, ea]
  exact fcS_congr (fun q hq => val53 m ρ c hn hq) (in5_b m ρ c hk)

end KV

end Cert.Net
-- ==== Proof.RefVal.lean ====
/-
  WHAT THE REFERENCE COMPUTES, layer by layer, at coordinates: the specification's layers of the layer before.
-/
module

public import proofs.«01_k».proof.Proof.RefRead
public import proofs.«01_k».proof.Proof.RefConv
public import proofs.«01_k».proof.Proof.RefPool
public import proofs.«01_k».proof.Proof.RefFc
public import proofs.«01_k».proof.Proof.KVal

@[expose] public section

set_option maxRecDepth 16384

noncomputable section

open scoped BigOperators

namespace Cert.Net

open Idealize.ShloMosaic Cert.ReferenceIdeal Cert.ReferenceIdeal.Gen Cert.ReferenceIdeal.Read

section RV
variable (x0 : FVec Ideal S128x3x224x224 .f32) (x1 : FVec Ideal S96x3x11x11 .f32) (x2 : FVec Ideal S96 .f32)
  (x3 : FVec Ideal S256x96x5x5 .f32) (x4 : FVec Ideal S256 .f32) (x5 : FVec Ideal S384x256x3x3 .f32) (x6 : FVec Ideal S384 .f32)
  (x7 : FVec Ideal S384x384x3x3 .f32) (x8 : FVec Ideal S384 .f32) (x9 : FVec Ideal S256x384x3x3 .f32) (x10 : FVec Ideal S256 .f32)
  (x11 : FVec Ideal S4096x9216 .f32) (x12 : FVec Ideal S4096 .f32) (x13 : FVec Ideal S4096x4096 .f32) (x14 : FVec Ideal S4096 .f32)
  (x15 : FVec Ideal S1000x4096 .f32) (x16 : FVec Ideal S1000 .f32)

/-- The index words of a gather: stride times position plus offset in the window. -/
theorem w24 : IsWords 4 55 11 (val_main_v24 (F := Ideal)) := fun p k => index_word 4 p k 228#32 (by omega)
/-- The index words of a gather: stride times position plus offset in the window. -/
theorem w31 : IsWords 4 55 11 (val_main_v31 (F := Ideal)) := fun p k => index_word 4 p k 228#32 (by omega)

/-- The first convolution. -/
theorem r39 {n : ℕ} (hn : n < 128) {o h q : ℕ} (ho : o < 96) (hh : h < 55) (hq : q < 55) :
    A4 (a := 128) (b := 96) (c := 55) (d := 55) (val_main_v39 (F := Ideal) x0 x1 x2) n o h q
      = convS 3 11 4 (padS 2 (A4 x0 n)) (A4 x1) (A1 x2) o h q :=
  ref_conv (N := 128) (C := 3) (H := 228) (O := 96) (P := 55) (K := 11) (s := 4) _ _ _ _ (val_main_v0 (F := Ideal) x0)
    (val_main_v24 (F := Ideal)) (val_main_v31 (F := Ideal)) x1 (val_main_v36 (F := Ideal) x2) (val_main_v38 (F := Ideal)) _ _ w24 w31
    (fun p k hp hk => by omega) (by norm_num) hn
    (fun c i j hc hi hj => ref_pad (p := 2) (H := 224) x0 _ _ _ (zero_of_int _) hn hc hi hj)
    (fun o h q ho hh hq => ref_bias (by decide) x2 _ _ hn ho hh hq) (fun _ => ofBits_zero_f32) ho hh hq

/-- The first normalisation. -/
theorem r57 {n : ℕ} (hn : n < 128) {o h q : ℕ} (ho : o < 96) (hh : h < 55) (hq : q < 55) :
    A4 (a := 128) (b := 96) (c := 55) (d := 55) (val_main_v57 (F := Ideal) x0 x1 x2) n o h q
      = lrnS 96 (A4 (a := 128) (b := 96) (c := 55) (d := 55) (val_main_v39 (F := Ideal) x0 x1 x2) n) o h q :=
  ref_lrn (N := 128) (C := 96) (D := 100) (P := 55) (val_main_v39 (F := Ideal) x0 x1 x2) _ _ _ (zero_of_int _) rfl _ _ _ _ _
    (val_main_v51 (F := Ideal)) (val_main_v53 (F := Ideal)) (val_main_v55 (F := Ideal)) (fun _ => rfl) (fun _ => rfl) (fun _ => rfl)
    (val_main_v41 (F := Ideal) x0 x1 x2) rfl hn ho hh hq

/-- The first stage. -/
theorem r59 {n : ℕ} (hn : n < 128) (o h q : ℕ) :
    A4 (a := 128) (b := 96) (c := 27) (d := 27) (val_main_v59 (F := Ideal) x0 x1 x2) n o h q = L1 (A4 x0 n) (A4 x1) (A1 x2) o h q := by
  unfold L1 clip
  by_cases hb : o < 96 ∧ h < 27 ∧ q < 27
  · rw [if_pos hb]
    refine (ref_pool (N := 128) (C := 96) (P := 55) (Q := 27) (val_main_v57 (F := Ideal) x0 x1 x2) (val_main_v58 (F := Ideal)) _ _
      ofBits_neg_inf (fun h hh => by omega) hn hb.1 hb.2.1 hb.2.2).trans ?_
    refine poolS_congr fun i j hi hj => ?_
    refine (r57 x0 x1 x2 hn hb.1 (by omega) (by omega)).trans ?_
    exact lrnS_congr hb.1 fun k hk => r39 x0 x1 x2 hn hk (by omega) (by omega)
  · rw [if_neg hb]
    exact A4_neg _ fun h' => hb h'.2

/-- The index words of a gather: stride times position plus offset in the window. -/
theorem w84 : IsWords 1 27 5 (val_main_v84 (F := Ideal)) := fun p k => index_word 1 p k 31#32 (by omega)
/-- The index words of a gather: stride times position plus offset in the window. -/
theorem w91 : IsWords 1 27 5 (val_main_v91 (F := Ideal)) := fun p k => index_word 1 p k 31#32 (by omega)

/-- The second convolution. -/
theorem r99 {n : ℕ} (hn : n < 128) {o h q : ℕ} (ho : o < 256) (hh : h < 27) (hq : q < 27) :
    A4 (a := 128) (b := 256) (c := 27) (d := 27) (val_main_v99 (F := Ideal) x0 x1 x2 x3 x4) n o h q
      = convS 96 5 1 (padS 2 (A4 (a := 128) (b := 96) (c := 27) (d := 27) (val_main_v59 (F := Ideal) x0 x1 x2) n)) (A4 x3) (A1 x4) o h q :=
  ref_conv (N := 128) (C := 96) (H := 31) (O := 256) (P := 27) (K := 5) (s := 1) _ _ _ _ (val_main_v60 (F := Ideal) x0 x1 x2)
    (val_main_v84 (F := Ideal)) (val_main_v91 (F := Ideal)) x3 (val_main_v96 (F := Ideal) x4) (val_main_v98 (F := Ideal)) _ _ w84 w91
    (fun p k hp hk => by omega) (by norm_num) hn
    (fun c i j hc hi hj => ref_pad (p := 2) (H := 27) (val_main_v59 (F := Ideal) x0 x1 x2) _ _ _ (zero_of_int _) hn hc hi hj)
    (fun o h q ho hh hq => ref_bias (by decide) x4 _ _ hn ho hh hq) (fun _ => ofBits_zero_f32) ho hh hq

/-- The second normalisation. -/
theorem r117 {n : ℕ} (hn : n < 128) {o h q : ℕ} (ho : o < 256) (hh : h < 27) (hq : q < 27) :
    A4 (a := 128) (b := 256) (c := 27) (d := 27) (val_main_v117 (F := Ideal) x0 x1 x2 x3 x4) n o h q
      = lrnS 256 (A4 (a := 128) (b := 256) (c := 27) (d := 27) (val_main_v99 (F := Ideal) x0 x1 x2 x3 x4) n) o h q :=
  ref_lrn (N := 128) (C := 256) (D := 260) (P := 27) (val_main_v99 (F := Ideal) x0 x1 x2 x3 x4) _ _ _ (zero_of_int _) rfl _ _ _ _ _
    (val_main_v111 (F := Ideal)) (val_main_v113 (F := Ideal)) (val_main_v115 (F := Ideal)) (fun _ => rfl) (fun _ => rfl) (fun _ => rfl)
    (val_main_v101 (F := Ideal) x0 x1 x2 x3 x4) rfl hn ho hh hq

/-- The second stage, of the first. -/
theorem r119 {n : ℕ} (hn : n < 128) (o h q : ℕ) :
    A4 (a := 128) (b := 256) (c := 13) (d := 13) (val_main_v119 (F := Ideal) x0 x1 x2 x3 x4) n o h q
      = L2 (A4 (a := 128) (b := 96) (c := 27) (d := 27) (val_main_v59 (F := Ideal) x0 x1 x2) n) (A4 x3) (A1 x4) o h q := by
  unfold L2 clip
  by_cases hb : o < 256 ∧ h < 13 ∧ q < 13
  · rw [if_pos hb]
    refine (ref_pool (N := 128) (C := 256) (P := 27) (Q := 13) (val_main_v117 (F := Ideal) x0 x1 x2 x3 x4) (val_main_v118 (F := Ideal)) _ _
      ofBits_neg_inf (fun h hh => by omega) hn hb.1 hb.2.1 hb.2.2).trans ?_
    refine poolS_congr fun i j hi hj => ?_
    refine (r117 x0 x1 x2 x3 x4 hn hb.1 (by omega) (by omega)).trans ?_
    exact lrnS_congr hb.1 fun k hk => r99 x0 x1 x2 x3 x4 hn hk (by omega) (by omega)
  · rw [if_neg hb]
    exact A4_neg _ fun h' => hb h'.2

/-- The index words of a gather: stride times position plus offset in the window. -/
theorem w144 : IsWords 1 13 3 (val_main_v144 (F := Ideal)) := fun p k => index_word 1 p k 15#32 (by omega)
/-- The index words of a gather: stride times position plus offset in the window. -/
theorem w151 : IsWords 1 13 3 (val_main_v151 (F := Ideal)) := fun p k => index_word 1 p k 15#32 (by omega)

/-- The third convolution. -/
theorem r159 {n : ℕ} (hn : n < 128) {o h q : ℕ} (ho : o < 384) (hh : h < 13) (hq : q < 13) :
    A4 (a := 128) (b := 384) (c := 13) (d := 13) (val_main_v159 (F := Ideal) x0 x1 x2 x3 x4 x5 x6) n o h q
      = convS 256 3 1 (padS 1 (A4 (a := 128) (b := 256) (c := 13) (d := 13) (val_main_v119 (F := Ideal) x0 x1 x2 x3 x4) n)) (A4 x5) (A1 x6) o h q :=
  ref_conv (N := 128) (C := 256) (H := 15) (O := 384) (P := 13) (K := 3) (s := 1) _ _ _ _ (val_main_v120 (F := Ideal) x0 x1 x2 x3 x4)
    (val_main_v144 (F := Ideal)) (val_main_v151 (F := Ideal)) x5 (val_main_v156 (F := Ideal) x6) (val_main_v158 (F := Ideal)) _ _ w144 w151
    (fun p k hp hk => by omega) (by norm_num) hn
    (fun c i j hc hi hj => ref_pad (p := 1) (H := 13) (val_main_v119 (F := Ideal) x0 x1 x2 x3 x4) _ _ _ (zero_of_int _) hn hc hi hj)
    (fun o h q ho hh hq => ref_bias (by decide) x6 _ _ hn ho hh hq) (fun _ => ofBits_zero_f32) ho hh hq

/-- The third convolution, of the second stage. -/
theorem l159 {n : ℕ} (hn : n < 128) (o h q : ℕ) :
    A4 (a := 128) (b := 384) (c := 13) (d := 13) (val_main_v159 (F := Ideal) x0 x1 x2 x3 x4 x5 x6) n o h q
      = L3 256 384 (A4 (a := 128) (b := 256) (c := 13) (d := 13) (val_main_v119 (F := Ideal) x0 x1 x2 x3 x4) n) (A4 x5) (A1 x6) o h q := by
  unfold L3 clip
  by_cases hb : o < 384 ∧ h < 13 ∧ q < 13
  · rw [if_pos hb]
    exact r159 x0 x1 x2 x3 x4 x5 x6 hn hb.1 hb.2.1 hb.2.2
  · rw [if_neg hb]
    exact A4_neg _ fun h' => hb h'.2

/-- The index words of a gather: stride times position plus offset in the window. -/
theorem w184 : IsWords 1 13 3 (val_main_v184 (F := Ideal)) := fun p k => index_word 1 p k 15#32 (by omega)
/-- The index words of a gather: stride times position plus offset in the window. -/
theorem w191 : IsWords 1 13 3 (val_main_v191 (F := Ideal)) := fun p k => index_word 1 p k 15#32 (by omega)

/-- The fourth convolution. -/
theorem r199 {n : ℕ} (hn : n < 128) {o h q : ℕ} (ho : o < 384) (hh : h < 13) (hq : q < 13) :
    A4 (a := 128) (b := 384) (c := 13) (d := 13) (val_main_v199 (F := Ideal) x0 x1 x2 x3 x4 x5 x6 x7 x8) n o h q
      = convS 384 3 1 (padS 1 (A4 (a := 128) (b := 384) (c := 13) (d := 13) (val_main_v159 (F := Ideal) x0 x1 x2 x3 x4 x5 x6) n)) (A4 x7) (A1 x8) o h q :=
  ref_conv (N := 128) (C := 384) (H := 15) (O := 384) (P := 13) (K := 3) (s := 1) _ _ _ _ (val_main_v160 (F := Ideal) x0 x1 x2 x3 x4 x5 x6)
    (val_main_v184 (F := Ideal)) (val_main_v191 (F := Ideal)) x7 (val_main_v196 (F := Ideal) x8) (val_main_v198 (F := Ideal)) _ _ w184 w191
    (fun p k hp hk => by omega) (by norm_num) hn
    (fun c i j hc hi hj => ref_pad (p := 1) (H := 13) (val_main_v159 (F := Ideal) x0 x1 x2 x3 x4 x5 x6) _ _ _ (zero_of_int _) hn hc hi hj)
    (fun o h q ho hh hq => ref_bias (by decide) x8 _ _ hn ho hh hq) (fun _ => ofBits_zero_f32) ho hh hq

/-- The fourth convolution, of the third. -/
theorem l199 {n : ℕ} (hn : n < 128) (o h q : ℕ) :
    A4 (a := 128) (b := 384) (c := 13) (d := 13) (val_main_v199 (F := Ideal) x0 x1 x2 x3 x4 x5 x6 x7 x8) n o h q
      = L3 384 384 (A4 (a := 128) (b := 384) (c := 13) (d := 13) (val_main_v159 (F := Ideal) x0 x1 x2 x3 x4 x5 x6) n) (A4 x7) (A1 x8) o h q := by
  unfold L3 clip
  by_cases hb : o < 384 ∧ h < 13 ∧ q < 13
  · rw [if_pos hb]
    exact r199 x0 x1 x2 x3 x4 x5 x6 x7 x8 hn hb.1 hb.2.1 hb.2.2
  · rw [if_neg hb]
    exact A4_neg _ fun h' => hb h'.2

/-- The index words of a gather: stride times position plus offset in the window. -/
theorem w224 : IsWords 1 13 3 (val_main_v224 (F := Ideal)) := fun p k => index_word 1 p k 15#32 (by omega)
/-- The index words of a gather: stride times position plus offset in the window. -/
theorem w231 : IsWords 1 13 3 (val_main_v231 (F := Ideal)) := fun p k => index_word 1 p k 15#32 (by omega)

/-- The fifth convolution. -/
theorem r239 {n : ℕ} (hn : n < 128) {o h q : ℕ} (ho : o < 256) (hh : h < 13) (hq : q < 13) :
    A4 (a := 128) (b := 256) (c := 13) (d := 13) (val_main_v239 (F := Ideal) x0 x1 x2 x3 x4 x5 x6 x7 x8 x9 x10) n o h q
      = convS 384 3 1 (padS 1 (A4 (a := 128) (b := 384) (c := 13) (d := 13) (val_main_v199 (F := Ideal) x0 x1 x2 x3 x4 x5 x6 x7 x8) n)) (A4 x9) (A1 x10) o h q :=
  ref_conv (N := 128) (C := 384) (H := 15) (O := 256) (P := 13) (K := 3) (s := 1) _ _ _ _ (val_main_v200 (F := Ideal) x0 x1 x2 x3 x4 x5 x6 x7 x8)
    (val_main_v224 (F := Ideal)) (val_main_v231 (F := Ideal)) x9 (val_main_v236 (F := Ideal) x10) (val_main_v238 (F := Ideal)) _ _ w224 w231
    (fun p k hp hk => by omega) (by norm_num) hn
    (fun c i j hc hi hj => ref_pad (p := 1) (H := 13) (val_main_v199 (F := Ideal) x0 x1 x2 x3 x4 x5 x6 x7 x8) _ _ _ (zero_of_int _) hn hc hi hj)
    (fun o h q ho hh hq => ref_bias (by decide) x10 _ _ hn ho hh hq) (fun _ => ofBits_zero_f32) ho hh hq

/-- The fifth convolution, of the fourth. -/
theorem l239 {n : ℕ} (hn : n < 128) (o h q : ℕ) :
    A4 (a := 128) (b := 256) (c := 13) (d := 13) (val_main_v239 (F := Ideal) x0 x1 x2 x3 x4 x5 x6 x7 x8 x9 x10) n o h q
      = L3 384 256 (A4 (a := 128) (b := 384) (c := 13) (d := 13) (val_main_v199 (F := Ideal) x0 x1 x2 x3 x4 x5 x6 x7 x8) n) (A4 x9) (A1 x10) o h q := by
  unfold L3 clip
  by_cases hb : o < 256 ∧ h < 13 ∧ q < 13
  · rw [if_pos hb]
    exact r239 x0 x1 x2 x3 x4 x5 x6 x7 x8 x9 x10 hn hb.1 hb.2.1 hb.2.2
  · rw [if_neg hb]
    exact A4_neg _ fun h' => hb h'.2

/-- The pooled features, of the arguments. -/
theorem r241 {n : ℕ} (hn : n < 128) {o h q : ℕ} (ho : o < 256) (hh : h < 6) (hq : q < 6) :
    A4 (a := 128) (b := 256) (c := 6) (d := 6) (val_main_v241 (F := Ideal) x0 x1 x2 x3 x4 x5 x6 x7 x8 x9 x10) n o h q
      = stageC (L2 (L1 (A4 x0 n) (A4 x1) (A1 x2)) (A4 x3) (A1 x4)) (A4 x5) (A4 x7) (A4 x9) (A1 x6) (A1 x8) (A1 x10) o h q := by
  refine (ref_pool (N := 128) (C := 256) (P := 13) (Q := 6) (val_main_v239 (F := Ideal) x0 x1 x2 x3 x4 x5 x6 x7 x8 x9 x10) (val_main_v240 (F := Ideal)) _ _
      ofBits_neg_inf (fun h hh => by omega) hn ho hh hq).trans ?_
  have f {Y Z : ℕ → ℕ → ℕ → EReal} (e : ∀ o h q, Y o h q = Z o h q) : Y = Z := funext fun o => funext fun h => funext fun q => e o h q
  unfold stageC
  rw [f (l239 x0 x1 x2 x3 x4 x5 x6 x7 x8 x9 x10 hn), f (l199 x0 x1 x2 x3 x4 x5 x6 x7 x8 hn), f (l159 x0 x1 x2 x3 x4 x5 x6 hn), f (r119 x0 x1 x2 x3 x4 hn), f (r59 x0 x1 x2 hn)]

/-- The flattened features are the specification's. -/
theorem r242 {n : ℕ} (hn : n < 128) {k : ℕ} (hk : k < 9216) :
    A2 (a := 128) (b := 9216) (val_main_v242 (F := Ideal) x0 x1 x2 x3 x4 x5 x6 x7 x8 x9 x10) n k
      = featS (A4 x0 n) (A4 x1) (A1 x2) (A4 x3) (A1 x4) (A4 x5) (A1 x6) (A4 x7) (A1 x8) (A4 x9) (A1 x10) k := by
  have ho : k / 36 < 256 := by omega
  have hh : k % 36 / 6 < 6 := by omega
  have hq : k % 36 % 6 < 6 := by omega
  refine (A2_fl _ hn hk).trans ?_
  refine (fl_cast (val_main_v241 (F := Ideal) x0 x1 x2 x3 x4 x5 x6 x7 x8 x9 x10) _ _).trans ?_
  refine Eq.trans ?_ (r241 x0 x1 x2 x3 x4 x5 x6 x7 x8 x9 x10 hn ho hh hq)
  refine Eq.trans ?_ (A4_fl _ hn ho hh hq).symm
  exact congrArg (fl _) (by omega)

/-- The first dense layer. -/
theorem r249 {n k : ℕ} (hn : n < 128) (hk : k < 4096) :
    A2 (a := 128) (b := 4096) (val_main_v249 (F := Ideal) x0 x1 x2 x3 x4 x5 x6 x7 x8 x9 x10 x11 x12) n k
      = fcS 9216 (A2 (a := 128) (b := 9216) (val_main_v242 (F := Ideal) x0 x1 x2 x3 x4 x5 x6 x7 x8 x9 x10) n) (A2 x11) (A1 x12) k :=
  ref_fc (M := 128) (K := 9216) (N := 4096) (by decide) _ (val_main_v242 (F := Ideal) x0 x1 x2 x3 x4 x5 x6 x7 x8 x9 x10) x11 x12 _ _ _ (val_main_v248 (F := Ideal))
    (fun _ => ofBits_zero_f32) hn hk

/-- The second dense layer. -/
theorem r256 {n k : ℕ} (hn : n < 128) (hk : k < 4096) :
    A2 (a := 128) (b := 4096) (val_main_v256 (F := Ideal) x0 x1 x2 x3 x4 x5 x6 x7 x8 x9 x10 x11 x12 x13 x14) n k
      = fcS 4096 (A2 (a := 128) (b := 4096) (val_main_v249 (F := Ideal) x0 x1 x2 x3 x4 x5 x6 x7 x8 x9 x10 x11 x12) n) (A2 x13) (A1 x14) k :=
  ref_fc (M := 128) (K := 4096) (N := 4096) (by decide) _ (val_main_v249 (F := Ideal) x0 x1 x2 x3 x4 x5 x6 x7 x8 x9 x10 x11 x12) x13 x14 _ _ _ (val_main_v255 (F := Ideal))
    (fun _ => ofBits_zero_f32) hn hk

/-- The third dense layer. -/
theorem r263 {n k : ℕ} (hn : n < 128) (hk : k < 1000) :
    A2 (a := 128) (b := 1000) (val_main_v263 (F := Ideal) x0 x1 x2 x3 x4 x5 x6 x7 x8 x9 x10 x11 x12 x13 x14 x15 x16) n k
      = fcS 4096 (A2 (a := 128) (b := 4096) (val_main_v256 (F := Ideal) x0 x1 x2 x3 x4 x5 x6 x7 x8 x9 x10 x11 x12 x13 x14) n) (A2 x15) (A1 x16) k :=
  ref_fc (M := 128) (K := 4096) (N := 1000) (by decide) _ (val_main_v256 (F := Ideal) x0 x1 x2 x3 x4 x5 x6 x7 x8 x9 x10 x11 x12 x13 x14) x15 x16 _ _ _ (val_main_v262 (F := Ideal))
    (fun _ => ofBits_zero_f32) hn hk

/-- The reference's result, of the arguments. -/
theorem ref_val {n k : ℕ} (hn : n < 128) (hk : k < 1000) :
    A2 (a := 128) (b := 1000) (val_main_v263 (F := Ideal) x0 x1 x2 x3 x4 x5 x6 x7 x8 x9 x10 x11 x12 x13 x14 x15 x16) n k
      = headS (featS (A4 x0 n) (A4 x1) (A1 x2) (A4 x3) (A1 x4) (A4 x5) (A1 x6) (A4 x7) (A1 x8) (A4 x9) (A1 x10))
          (A2 x11) (A1 x12) (A2 x13) (A1 x14) (A2 x15) (A1 x16) k := by
  refine (r263 x0 x1 x2 x3 x4 x5 x6 x7 x8 x9 x10 x11 x12 x13 x14 x15 x16 hn hk).trans (fcS_congr (fun i hi => ?_) rfl)
  refine (r256 x0 x1 x2 x3 x4 x5 x6 x7 x8 x9 x10 x11 x12 x13 x14 hn hi).trans (fcS_congr (fun j hj => ?_) rfl)
  exact (r249 x0 x1 x2 x3 x4 x5 x6 x7 x8 x9 x10 x11 x12 hn hj).trans (fcS_congr (fun l hl => r242 x0 x1 x2 x3 x4 x5 x6 x7 x8 x9 x10 hn hl) rfl)

end RV

end Cert.Net
-- ==== Proof.Equal.lean ====
/-
  THE EQUATION: from equal arguments the reference's result is the kernel's.
-/
module

public import proofs.«01_k».proof.Proof.RefVal
public import proofs.«01_k».proof.Proof.KVal

@[expose] public section

set_option maxRecDepth 16384

noncomputable section

namespace Cert.Net

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The reference's value of the kernel's arguments is what the kernel leaves. -/
theorem value_eq : Cert.ReferenceIdeal.Read.val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    = W24 m ρ c (Proc.devRef .tc main_v55) :=
  A2_ext (a := 128) (b := 1000) fun n k hn hk =>
    (ref_val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) hn hk).trans
      (val55 m ρ c hn hk).symm

/-- The same where the reference reads its own memory, equal on the arguments. -/
theorem value_eq_of (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8))
    (h9 : m' ((c.tc : Thread Cert.ReferenceIdeal.nD Cert.ReferenceIdeal.τ).loc Cert.ReferenceIdeal.main_arg9) = m ((c : Thread nD τ).loc main_arg9))
    (h10 : m' ((c.tc : Thread Cert.ReferenceIdeal.nD Cert.ReferenceIdeal.τ).loc Cert.ReferenceIdeal.main_arg10) = m ((c : Thread nD τ).loc main_arg10))
    (h11 : m' ((c.tc : Thread Cert.ReferenceIdeal.nD Cert.ReferenceIdeal.τ).loc Cert.ReferenceIdeal.main_arg11) = m ((c : Thread nD τ).loc main_arg11))
    (h12 : m' ((c.tc : Thread Cert.ReferenceIdeal.nD Cert.ReferenceIdeal.τ).loc Cert.ReferenceIdeal.main_arg12) = m ((c : Thread nD τ).loc main_arg12))
    (h13 : m' ((c.tc : Thread Cert.ReferenceIdeal.nD Cert.ReferenceIdeal.τ).loc Cert.ReferenceIdeal.main_arg13) = m ((c : Thread nD τ).loc main_arg13))
    (h14 : m' ((c.tc : Thread Cert.ReferenceIdeal.nD Cert.ReferenceIdeal.τ).loc Cert.ReferenceIdeal.main_arg14) = m ((c : Thread nD τ).loc main_arg14))
    (h15 : m' ((c.tc : Thread Cert.ReferenceIdeal.nD Cert.ReferenceIdeal.τ).loc Cert.ReferenceIdeal.main_arg15) = m ((c : Thread nD τ).loc main_arg15))
    (h16 : m' ((c.tc : Thread Cert.ReferenceIdeal.nD Cert.ReferenceIdeal.τ).loc Cert.ReferenceIdeal.main_arg16) = m ((c : Thread nD τ).loc main_arg16)) :
    Cert.ReferenceIdeal.Read.val_main_v263 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
      = W24 m ρ c (Proc.devRef .tc main_v55) :=
  (congr (congr (congr (congr (congr (congr (congr (congr (congr (congr (congr (congr (congr (congr (congr (congr (congrArg (Cert.ReferenceIdeal.Read.val_main_v263 (F := Ideal)) h0) h1) h2) h3) h4) h5) h6) h7) h8) h9) h10) h11) h12) h13) h14) h15) h16).trans (value_eq m ρ c)

end Cert.Net
-- ==== Proof.KRun.lean ====
/-
  THE KERNEL'S RUN: every execution ends with each array at the contents that the last boundary names.
-/
module

public import Idealize.ShloMosaic.PureOps.Ideal
public import proofs.«01_k».proof.Proof.Gen.KernelIdeal.Frame

@[expose] public section

set_option maxRecDepth 16384

noncomputable section

namespace Cert.Net

open Idealize.ShloMosaic
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

/-- No argument is a scoped buffer. -/
theorem arg_unscoped : ∀ a ∈ argRefs, ¬ (Proc.devRef .tc a : DevRef τ sig).isScoped := by decide

set_option backward.isDefEq.respectTransparency.types false in
/-- Every execution of the kernel terminates without a fault, and its result array ends at the last boundary's contents. -/
theorem run_kernel : θ_run (defs (F := Ideal)) (onTc (τ := τ) (main (F := Ideal))) ⟨m, fun _ => 0, ρ⟩ (fun r => ∀ c : Dev nD,
      r.2.mem ((c.tc : Thread nD τ).loc main_v55) = W24 m ρ c (Proc.devRef .tc main_v55)
      ∧ ∀ a ∈ argRefs, r.2.mem ((c.tc : Thread nD τ).loc a) = m ((c.tc : Thread nD τ).loc a)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h hz c => ⟨h c _ (mem_uc main_v55 (by decide)), fun a ha =>
      (h c _ (mem_uc a (arg_unscoped a ha))).trans (W24_args m ρ c a ha)⟩)

end Cert.Net
-- ==== Proof.Claims.lean ====
/-
  THE CLAIMS ABOUT THE REFERENCE, AND THE EQUATION AS CLAIMED: the reference terminates with its arguments unchanged and its
  counters zero; and the two programs end with equal results.
-/
module

public import proofs.«01_k».proof.Defs
public import proofs.«01_k».proof.Proof.Equal
public import proofs.«01_k».proof.Proof.KRun
public import Idealize.ShloMosaic.Lib.Quiescent

@[expose] public section

set_option maxRecDepth 16384

noncomputable section

namespace Cert.Net

open Idealize.ShloMosaic Idealize.SL.Sem

/-- The reference terminates, its arguments unchanged and every counter zero. -/
theorem quiescent_reference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- From memories equal on the arguments both programs terminate with equal results, their arguments unchanged. -/
theorem algebraic_eq : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.W24 m g c (Proc.devRef .tc Cert.KernelIdeal.main_v55), ?_, ?_⟩
  · refine (θ_run _ _ _).mono (fun r h c => ⟨(h c).1, ?_⟩) (run_kernel m g)
    have ha := (h c).2
    refine ⟨ha Cert.KernelIdeal.main_arg0 (by decide), ha Cert.KernelIdeal.main_arg1 (by decide), ha Cert.KernelIdeal.main_arg2 (by decide), ha Cert.KernelIdeal.main_arg3 (by decide), ha Cert.KernelIdeal.main_arg4 (by decide), ha Cert.KernelIdeal.main_arg5 (by decide), ha Cert.KernelIdeal.main_arg6 (by decide), ha Cert.KernelIdeal.main_arg7 (by decide), ha Cert.KernelIdeal.main_arg8 (by decide), ha Cert.KernelIdeal.main_arg9 (by decide), ha Cert.KernelIdeal.main_arg10 (by decide), ha Cert.KernelIdeal.main_arg11 (by decide), ha Cert.KernelIdeal.main_arg12 (by decide), ha Cert.KernelIdeal.main_arg13 (by decide), ha Cert.KernelIdeal.main_arg14 (by decide), ha Cert.KernelIdeal.main_arg15 (by decide), ha Cert.KernelIdeal.main_arg16 (by decide)⟩
  · refine (θ_run _ _ _).mono (fun r h c => ⟨(h c).1.trans ?_, (h c).2⟩) (Cert.ReferenceIdeal.Value.run m' g')
    obtain ⟨h0, h1, h2, h3, h4, h5, h6, h7, h8, h9, h10, h11, h12, h13, h14, h15, h16⟩ := hargs c
    exact (Cert.ReferenceIdeal.Read.val_main_v263_eq (F := Ideal) (StableHlo.launchContents m' c)).trans
      (value_eq_of m g c m' h0 h1 h2 h3 h4 h5 h6 h7 h8 h9 h10 h11 h12 h13 h14 h15 h16)

end Cert.Net
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.RefRead
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The five claims: three programs run and end quiescent, the idealized kernel is the kernel, and its result is the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Net.quiescent_reference, trivial,
  Cert.Net.algebraic_eq⟩

end Cert.Proof

end
